-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "qscale" .f32 0x3E38AA3B#32 (((Real.sqrt 64)⁻¹ * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v52_0)) (v1 : (c : Dev Cert.Kernel4Ideal.nD) → Buf (Elt Ideal) ((c.tc : Thread Cert.Kernel4Ideal.nD Cert.Kernel4Ideal.τ).loc Cert.Kernel4Ideal.main_v52_1)) (v2 : (c : Dev Cert.Kernel4Ideal.nD) → Buf (Elt Ideal) ((c.tc : Thread Cert.Kernel4Ideal.nD Cert.Kernel4Ideal.τ).loc Cert.Kernel4Ideal.main_v52_2)) (v3 : (c : Dev Cert.Kernel4Ideal.nD) → Buf (Elt Ideal) ((c.tc : Thread Cert.Kernel4Ideal.nD Cert.Kernel4Ideal.τ).loc Cert.Kernel4Ideal.main_v52_3)) (v4 : (c : Dev Cert.Kernel4Ideal.nD) → Buf (Elt Ideal) ((c.tc : Thread Cert.Kernel4Ideal.nD Cert.Kernel4Ideal.τ).loc Cert.Kernel4Ideal.main_v52_4)) (v5 : (c : Dev Cert.Kernel4Ideal.nD) → Buf (Elt Ideal) ((c.tc : Thread Cert.Kernel4Ideal.nD Cert.Kernel4Ideal.τ).loc Cert.Kernel4Ideal.main_v52_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v52_0) = v0 c
          ∧ r.2.mem ((c.tc : Thread Cert.Kernel4Ideal.nD Cert.Kernel4Ideal.τ).loc Cert.Kernel4Ideal.main_v52_1) = v1 c
          ∧ r.2.mem ((c.tc : Thread Cert.Kernel4Ideal.nD Cert.Kernel4Ideal.τ).loc Cert.Kernel4Ideal.main_v52_2) = v2 c
          ∧ r.2.mem ((c.tc : Thread Cert.Kernel4Ideal.nD Cert.Kernel4Ideal.τ).loc Cert.Kernel4Ideal.main_v52_3) = v3 c
          ∧ r.2.mem ((c.tc : Thread Cert.Kernel4Ideal.nD Cert.Kernel4Ideal.τ).loc Cert.Kernel4Ideal.main_v52_4) = v4 c
          ∧ r.2.mem ((c.tc : Thread Cert.Kernel4Ideal.nD Cert.Kernel4Ideal.τ).loc Cert.Kernel4Ideal.main_v52_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_v83) = v1 c
          ∧ r.2.mem ((c.tc : Thread Cert.Reference4Ideal.nD Cert.Reference4Ideal.τ).loc Cert.Reference4Ideal.main_v91) = v2 c
          ∧ r.2.mem ((c.tc : Thread Cert.Reference4Ideal.nD Cert.Reference4Ideal.τ).loc Cert.Reference4Ideal.main_v92) = v3 c
          ∧ r.2.mem ((c.tc : Thread Cert.Reference4Ideal.nD Cert.Reference4Ideal.τ).loc Cert.Reference4Ideal.main_v93) = v4 c
          ∧ r.2.mem ((c.tc : Thread Cert.Reference4Ideal.nD Cert.Reference4Ideal.τ).loc Cert.Reference4Ideal.main_v94) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v53_0)) (v1 : (c : Dev Cert.Kernel5Ideal.nD) → Buf (Elt Ideal) ((c.tc : Thread Cert.Kernel5Ideal.nD Cert.Kernel5Ideal.τ).loc Cert.Kernel5Ideal.main_v53_1)) (v2 : (c : Dev Cert.Kernel5Ideal.nD) → Buf (Elt Ideal) ((c.tc : Thread Cert.Kernel5Ideal.nD Cert.Kernel5Ideal.τ).loc Cert.Kernel5Ideal.main_v53_2)) (v3 : (c : Dev Cert.Kernel5Ideal.nD) → Buf (Elt Ideal) ((c.tc : Thread Cert.Kernel5Ideal.nD Cert.Kernel5Ideal.τ).loc Cert.Kernel5Ideal.main_v53_3)) (v4 : (c : Dev Cert.Kernel5Ideal.nD) → Buf (Elt Ideal) ((c.tc : Thread Cert.Kernel5Ideal.nD Cert.Kernel5Ideal.τ).loc Cert.Kernel5Ideal.main_v53_4)) (v5 : (c : Dev Cert.Kernel5Ideal.nD) → Buf (Elt Ideal) ((c.tc : Thread Cert.Kernel5Ideal.nD Cert.Kernel5Ideal.τ).loc Cert.Kernel5Ideal.main_v53_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v53_0) = v0 c
          ∧ r.2.mem ((c.tc : Thread Cert.Kernel5Ideal.nD Cert.Kernel5Ideal.τ).loc Cert.Kernel5Ideal.main_v53_1) = v1 c
          ∧ r.2.mem ((c.tc : Thread Cert.Kernel5Ideal.nD Cert.Kernel5Ideal.τ).loc Cert.Kernel5Ideal.main_v53_2) = v2 c
          ∧ r.2.mem ((c.tc : Thread Cert.Kernel5Ideal.nD Cert.Kernel5Ideal.τ).loc Cert.Kernel5Ideal.main_v53_3) = v3 c
          ∧ r.2.mem ((c.tc : Thread Cert.Kernel5Ideal.nD Cert.Kernel5Ideal.τ).loc Cert.Kernel5Ideal.main_v53_4) = v4 c
          ∧ r.2.mem ((c.tc : Thread Cert.Kernel5Ideal.nD Cert.Kernel5Ideal.τ).loc Cert.Kernel5Ideal.main_v53_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v82) = v0 c
          ∧ r.2.mem ((c.tc : Thread Cert.Reference5Ideal.nD Cert.Reference5Ideal.τ).loc Cert.Reference5Ideal.main_v84) = v1 c
          ∧ r.2.mem ((c.tc : Thread Cert.Reference5Ideal.nD Cert.Reference5Ideal.τ).loc Cert.Reference5Ideal.main_v92) = v2 c
          ∧ r.2.mem ((c.tc : Thread Cert.Reference5Ideal.nD Cert.Reference5Ideal.τ).loc Cert.Reference5Ideal.main_v93) = v3 c
          ∧ r.2.mem ((c.tc : Thread Cert.Reference5Ideal.nD Cert.Reference5Ideal.τ).loc Cert.Reference5Ideal.main_v94) = v4 c
          ∧ r.2.mem ((c.tc : Thread Cert.Reference5Ideal.nD Cert.Reference5Ideal.τ).loc Cert.Reference5Ideal.main_v95) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S16x16x4x4x64 : Shape := ⟨5, ![16, 16, 4, 4, 64]⟩
abbrev S16x16x4x64 : Shape := ⟨4, ![16, 16, 4, 64]⟩
abbrev S16x128x4x64 : Shape := ⟨4, ![16, 128, 4, 64]⟩
abbrev S16 : Shape := ⟨1, ![16]⟩
abbrev S16x16x1024 : Shape := ⟨3, ![16, 16, 1024]⟩
abbrev S_ : Shape := ⟨0, ![]⟩

class Facts : Prop where
  bcast_S_S16x16x4x4x64 : S_.BroadcastsInDim S16x16x4x4x64 (![] : Fin 0 → Fin S16x16x4x4x64.rank)
  bcast_S_S16x16x4x64 : S_.BroadcastsInDim S16x16x4x64 (![] : Fin 0 → Fin S16x16x4x64.rank)
  bcast_S_S16x128x4x64 : S_.BroadcastsInDim S16x128x4x64 (![] : Fin 0 → Fin S16x128x4x64.rank)
  bcast_S_S16 : S_.BroadcastsInDim S16 (![] : Fin 0 → Fin S16.rank)

variable [Facts]

def fn {F : FTy → Type} [FloatOps F] (main_arg0 : FVec F S16x16x4x4x64 .f32) (main_arg1 : FVec F S16x16x4x64 .f32) (main_arg2 : FVec F S16x16x4x64 .f32) (main_arg3 : FVec F S16x128x4x64 .f32) (main_arg4 : FVec F S16x128x4x64 .f32) (main_arg5 : FVec F S16 .f32) (main_arg6 : FVec F S16x16x1024 .f32) (main_arg7 : FVec F S16x16x1024 .f32) : IVec S16x16x4x4x64 1 × IVec S16x16x4x64 1 × IVec S16x128x4x64 1 × IVec S16 1 :=
  let main_v0 : FVec F S16x16x4x4x64 .f32 := Host.absf main_arg0
  let main_cst : FVec F S_ .f32 := constant S_ .f32 0x7F800000#32
  let main_v1 : FVec F S16x16x4x4x64 .f32 := broadcastInDim S16x16x4x4x64 ![] bcast_S_S16x16x4x4x64 main_cst
  let main_v2 : IVec S16x16x4x4x64 1 := cmpf .olt main_v0 main_v1
  let main_v3 : FVec F S16x16x4x64 .f32 := Host.absf main_arg1
  let main_cst_0 : FVec F S_ .f32 := constant S_ .f32 0x7F800000#32
  let main_v4 : FVec F S16x16x4x64 .f32 := broadcastInDim S16x16x4x64 ![] bcast_S_S16x16x4x64 main_cst_0
  let main_v5 : IVec S16x16x4x64 1 := cmpf .olt main_v3 main_v4
  let main_v6 : FVec F S16x128x4x64 .f32 := Host.absf main_arg3
  let main_cst_1 : FVec F S_ .f32 := constant S_ .f32 0x7F800000#32
  let main_v7 : FVec F S16x128x4x64 .f32 := broadcastInDim S16x128x4x64 ![] bcast_S_S16x128x4x64 main_cst_1
  let main_v8 : IVec S16x128x4x64 1 := cmpf .olt main_v6 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Kernel.lean ====
abbrev S16x16x4x4x64 : Shape := ⟨5, ![16, 16, 4, 4, 64]⟩
abbrev S16x16x4x64 : Shape := ⟨4, ![16, 16, 4, 64]⟩
abbrev S16x128x4x64 : Shape := ⟨4, ![16, 128, 4, 64]⟩
abbrev S16 : Shape := ⟨1, ![16]⟩
abbrev S16x16x1024 : Shape := ⟨3, ![16, 16, 1024]⟩
abbrev S256x1024 : Shape := ⟨2, ![256, 1024]⟩
abbrev S256x256 : Shape := ⟨2, ![256, 256]⟩
abbrev S4x4x1 : Shape := ⟨3, ![4, 4, 1]⟩
abbrev S4x4x128 : Shape := ⟨3, ![4, 4, 128]⟩
abbrev S4x512 : Shape := ⟨2, ![4, 512]⟩
abbrev S2048x256 : Shape := ⟨2, ![2048, 256]⟩
abbrev S64x1024 : Shape := ⟨2, ![64, 1024]⟩
abbrev S512x256 : Shape := ⟨2, ![512, 256]⟩
abbrev S64x256 : Shape := ⟨2, ![64, 256]⟩
abbrev S16x256 : Shape := ⟨2, ![16, 256]⟩
abbrev S112x256 : Shape := ⟨2, ![112, 256]⟩
abbrev S128x256 : Shape := ⟨2, ![128, 256]⟩
abbrev S256x128 : Shape := ⟨2, ![256, 128]⟩
abbrev S64x512 : Shape := ⟨2, ![64, 512]⟩
abbrev S16x128 : Shape := ⟨2, ![16, 128]⟩
abbrev S112x128 : Shape := ⟨2, ![112, 128]⟩
abbrev S128x128 : Shape := ⟨2, ![128, 128]⟩
abbrev S64x128 : Shape := ⟨2, ![64, 128]⟩
abbrev S128x512 : Shape := ⟨2, ![128, 512]⟩
abbrev S256x512 : Shape := ⟨2, ![256, 512]⟩
abbrev S1x128 : Shape := ⟨2, ![1, 128]⟩
abbrev S128 : Shape := ⟨1, ![128]⟩
abbrev S80x256 : Shape := ⟨2, ![80, 256]⟩
abbrev S80x512 : Shape := ⟨2, ![80, 512]⟩
abbrev S1x512 : Shape := ⟨2, ![1, 512]⟩

abbrev nBuf : Space → Nat
  | .hbm => 22
  | .vmem => 17
  | .smem => 0
  | _ => 0

abbrev bufTy : (tb : Table) → Fin (tcTables nBuf tb) → BufTy
  | .hbm, ⟨0, _⟩ => ⟨S16x16x4x4x64, .f32⟩
  | .hbm, ⟨1, _⟩ => ⟨S16x16x4x64, .f32⟩
  | .hbm, ⟨2, _⟩ => ⟨S16x16x4x64, .f32⟩
  | .hbm, ⟨3, _⟩ => ⟨S16x128x4x64, .f32⟩
  | .hbm, ⟨4, _⟩ => ⟨S16x128x4x64, .f32⟩
  | .hbm, ⟨5, _⟩ => ⟨S16, .f32⟩
  | .hbm, ⟨6, _⟩ => ⟨S16x16x1024, .f32⟩
  | .hbm, ⟨7, _⟩ => ⟨S16x16x1024, .f32⟩
  | .hbm, ⟨8, _⟩ => ⟨S256x1024, .f32⟩
  | .hbm, ⟨9, _⟩ => ⟨S256x1024, .bf16⟩
  | .hbm, ⟨10, _⟩ => ⟨S256x256, .f32⟩
  | .hbm, ⟨11, _⟩ => ⟨S256x256, .f32⟩
  | .hbm, ⟨12, _⟩ => ⟨S256x1024, .f32⟩
  | .hbm, ⟨13, _⟩ => ⟨S256x1024, .bf16⟩
  | .hbm, ⟨14, _⟩ => ⟨S256x1024, .f32⟩
  | .hbm, ⟨15, _⟩ => ⟨S256x1024, .bf16⟩
  | .hbm, ⟨16, _⟩ => ⟨S4x4x1, .f32⟩
  | .hbm, ⟨17, _⟩ => ⟨S4x4x128, .f32⟩
  | .hbm, ⟨18, _⟩ => ⟨S4x512, .f32⟩
  | .hbm, ⟨19, _⟩ => ⟨S2048x256, .f32⟩
  | .hbm, ⟨20, _⟩ => ⟨S2048x256, .f32⟩
  | .hbm, ⟨21, _⟩ => ⟨S256x1024, .bf16⟩
  | .local _ .vmem, ⟨0, _⟩ => ⟨S64x1024, .bf16⟩
  | .local _ .vmem, ⟨1, _⟩ => ⟨S64x1024, .bf16⟩
  | .local _ .vmem, ⟨2, _⟩ => ⟨S512x256, .f32⟩
  | .local _ .vmem, ⟨3, _⟩ => ⟨S512x256, .f32⟩
  | .local _ .vmem, ⟨4, _⟩ => ⟨S64x256, .f32⟩
  | .local _ .vmem, ⟨5, _⟩ => ⟨S64x256, .f32⟩
  | .local _ .vmem, ⟨6, _⟩ => ⟨S512x256, .f32⟩
  | .local _ .vmem, ⟨7, _⟩ => ⟨S512x256, .f32⟩
  | .local _ .vmem, ⟨8, _⟩ => ⟨S64x256, .f32⟩
  | .local _ .vmem, ⟨9, _⟩ => ⟨S64x256, .f32⟩
  | .local _ .vmem, ⟨10, _⟩ => ⟨S4x512, .f32⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S64x1024, .bf16⟩
  | .local _ .vmem, ⟨15, _⟩ => ⟨S64x1024, .bf16⟩
  | .local _ .vmem, ⟨16, _⟩ => ⟨S64x1024, .bf16⟩
  | _, _ => ⟨S16x16x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.sqrt 64)⁻¹ * (Real.log 2)⁻¹ : ℝ) : EReal)
  | _ => none
-- ==== ReferenceIdeal.lean ====
abbrev S16x16x4x4x64 : Shape := ⟨5, ![16, 16, 4, 4, 64]⟩
abbrev S16x16x4x64 : Shape := ⟨4, ![16, 16, 4, 64]⟩
abbrev S16x128x4x64 : Shape := ⟨4, ![16, 128, 4, 64]⟩
abbrev S16 : Shape := ⟨1, ![16]⟩
abbrev S16x16x1024 : Shape := ⟨3, ![16, 16, 1024]⟩
abbrev S16x144x4x64 : Shape := ⟨4, ![16, 144, 4, 64]⟩
abbrev S16x4x144x16x4 : Shape := ⟨5, ![16, 4, 144, 16, 4]⟩
abbrev S16x4x4x16x144 : Shape := ⟨5, ![16, 4, 4, 16, 144]⟩
abbrev S_ : Shape := ⟨0, ![]⟩
abbrev S4x4 : Shape := ⟨2, ![4, 4]⟩
abbrev S1x4x4x1x1 : Shape := ⟨5, ![1, 4, 4, 1, 1]⟩
abbrev S16x4x4x16x1 : Shape := ⟨5, ![16, 4, 4, 16, 1]⟩
abbrev S16x4x4x16x145 : Shape := ⟨5, ![16, 4, 4, 16, 145]⟩
abbrev S16x4x4x16 : Shape := ⟨4, ![16, 4, 4, 16]⟩
abbrev S16x4x64x4x16 : Shape := ⟨5, ![16, 4, 64, 4, 16]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16x16x4x4x64, .f32⟩
  | .hbm, ⟨1, _⟩ => ⟨S16x16x4x64, .f32⟩
  | .hbm, ⟨2, _⟩ => ⟨S16x16x4x64, .f32⟩
  | .hbm, ⟨3, _⟩ => ⟨S16x128x4x64, .f32⟩
  | .hbm, ⟨4, _⟩ => ⟨S16x128x4x64, .f32⟩
  | .hbm, ⟨5, _⟩ => ⟨S16, .f32⟩
  | .hbm, ⟨6, _⟩ => ⟨S16x16x1024, .f32⟩
  | .hbm, ⟨7, _⟩ => ⟨S16x16x1024, .f32⟩
  | .hbm, ⟨8, _⟩ => ⟨S16x144x4x64, .f32⟩
  | .hbm, ⟨9, _⟩ => ⟨S16x144x4x64, .f32⟩
  | .hbm, ⟨10, _⟩ => ⟨S16x4x144x16x4, .f32⟩
  | .hbm, ⟨11, _⟩ => ⟨S16x4x4x16x144, .f32⟩
  | .hbm, ⟨12, _⟩ => ⟨S_, .f32⟩
  | .hbm, ⟨13, _⟩ => ⟨S16x4x4x16x144, .f32⟩
  | .hbm, ⟨14, _⟩ => ⟨S16x4x4x16x144, .f32⟩
  | .hbm, ⟨15, _⟩ => ⟨S4x4, .f32⟩
  | .hbm, ⟨16, _⟩ => ⟨S1x4x4x1x1, .f32⟩
  | .hbm, ⟨17, _⟩ => ⟨S16x4x4x16x1, .f32⟩
  | .hbm, ⟨18, _⟩ => ⟨S16x4x4x16x145, .f32⟩
  | .hbm, ⟨19, _⟩ => ⟨S_, .f32⟩
  | .hbm, ⟨20, _⟩ => ⟨S16x4x4x16, .f32⟩
  | .hbm, ⟨21, _⟩ => ⟨S_, .f32⟩
  | .hbm, ⟨22, _⟩ => ⟨S16x4x4x16, .f32⟩
  | .hbm, ⟨23, _⟩ => ⟨S16x4x4x16, .f32⟩
  | .hbm, ⟨24, _⟩ => ⟨S16x4x4x16x1, .f32⟩
  | .hbm, ⟨25, _⟩ => ⟨S16x4x4x16x145, .f32⟩
  | .hbm, ⟨26, _⟩ => ⟨S16x4x4x16x145, .f32⟩
  | .hbm, ⟨27, _⟩ => ⟨S16x4x4x16x145, .f32⟩
  | .hbm, ⟨28, _⟩ => ⟨S_, .f32⟩
  | .hbm, ⟨29, _⟩ => ⟨S16x4x4x16, .f32⟩
  | .hbm, ⟨30, _⟩ => ⟨S16x4x4x16x1, .f32⟩
  | .hbm, ⟨31, _⟩ => ⟨S16x4x4x16x145, .f32⟩
  | .hbm, ⟨32, _⟩ => ⟨S16x4x4x16x145, .f32⟩
  | .hbm, ⟨33, _⟩ => ⟨S16x4x4x16x144, .f32⟩
  | .hbm, ⟨34, _⟩ => ⟨S16x4x64x4x16, .f32⟩
  | .hbm, ⟨35, _⟩ => ⟨S16x16x4x4x64, .f32⟩
  | .hbm, ⟨36, _⟩ => ⟨S16x16x1024, .f32⟩
  | .hbm, ⟨37, _⟩ => ⟨S16x16x1024, .f32⟩
  | .hbm, ⟨38, _⟩ => ⟨S16x16x1024, .f32⟩
  | .hbm, ⟨39, _⟩ => ⟨S256x1024, .f32⟩
  | .hbm, ⟨40, _⟩ => ⟨S256x1024, .bf16⟩
  | _, _ => ⟨S16x16x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 16
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S32768x1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S32768x1024, .f32⟩
  | .hbm, ⟨14, _⟩ => ⟨S32768x1024, .bf16⟩
  | .hbm, ⟨15, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x8192x1024 : Shape := ⟨3, ![4, 8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S4x8192x2816, .f32⟩
  | .hbm, ⟨26, _⟩ => ⟨S4x8192x2816, .f32⟩
  | .hbm, ⟨27, _⟩ => ⟨S4x8192x2816, .f32⟩
  | .hbm, ⟨28, _⟩ => ⟨S_, .f32⟩
  | .hbm, ⟨29, _⟩ => ⟨S4x8192x2816, .f32⟩
  | .hbm, ⟨30, _⟩ => ⟨S4x8192x2816, .f32⟩
  | .hbm, ⟨31, _⟩ => ⟨S_, .f32⟩
  | .hbm, ⟨32, _⟩ => ⟨S4x8192x2816, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S4x8192x2816, .f32⟩
  | .hbm, ⟨37, _⟩ => ⟨S4x8192x1024, .f32⟩
  | .hbm, ⟨38, _⟩ => ⟨S4x8192x1024, .f32⟩
  | .hbm, ⟨39, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Kernel3.lean ====
abbrev S16x16x1024 : Shape := ⟨3, ![16, 16, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x2816 : Shape := ⟨2, ![256, 2816]⟩

abbrev nBuf : Space → Nat
  | .hbm => 16
  | .vmem => 8
  | .smem => 0
  | _ => 0

abbrev bufTy : (tb : Table) → Fin (tcTables nBuf tb) → BufTy
  | .hbm, ⟨0, _⟩ => ⟨S16x16x1024, .f32⟩
  | .hbm, ⟨1, _⟩ => ⟨S16x16x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S256x1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S256x1024, .f32⟩
  | .hbm, ⟨14, _⟩ => ⟨S256x1024, .bf16⟩
  | .hbm, ⟨15, _⟩ => ⟨S256x1024, .f32⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S256x1024, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference3Ideal.lean ====
abbrev S16x16x1024 : Shape := ⟨3, ![16, 16, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16x16x2816 : Shape := ⟨3, ![16, 16, 2816]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16x16x1024, .f32⟩
  | .hbm, ⟨1, _⟩ => ⟨S16x16x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16x16x1024, .f32⟩
  | .hbm, ⟨8, _⟩ => ⟨S16x16x1024, .f32⟩
  | .hbm, ⟨9, _⟩ => ⟨S16x16x1024, .f32⟩
  | .hbm, ⟨10, _⟩ => ⟨S_, .f32⟩
  | .hbm, ⟨11, _⟩ => ⟨S16x16, .f32⟩
  | .hbm, ⟨12, _⟩ => ⟨S16x16x1, .f32⟩
  | .hbm, ⟨13, _⟩ => ⟨S_, .f32⟩
  | .hbm, ⟨14, _⟩ => ⟨S16x16x1, .f32⟩
  | .hbm, ⟨15, _⟩ => ⟨S16x16x1, .f32⟩
  | .hbm, ⟨16, _⟩ => ⟨S_, .f32⟩
  | .hbm, ⟨17, _⟩ => ⟨S16x16x1, .f32⟩
  | .hbm, ⟨18, _⟩ => ⟨S16x16x1, .f32⟩
  | .hbm, ⟨19, _⟩ => ⟨S16x16x1, .f32⟩
  | .hbm, ⟨20, _⟩ => ⟨S16x16x1024, .f32⟩
  | .hbm, ⟨21, _⟩ => ⟨S16x16x1024, .f32⟩
  | .hbm, ⟨22, _⟩ => ⟨S1x1x1024, .f32⟩
  | .hbm, ⟨23, _⟩ => ⟨S16x16x1024, .f32⟩
  | .hbm, ⟨24, _⟩ => ⟨S16x16x1024, .f32⟩
  | .hbm, ⟨25, _⟩ => ⟨S16x16x2816, .f32⟩
  | .hbm, ⟨26, _⟩ => ⟨S16x16x2816, .f32⟩
  | .hbm, ⟨27, _⟩ => ⟨S16x16x2816, .f32⟩
  | .hbm, ⟨28, _⟩ => ⟨S_, .f32⟩
  | .hbm, ⟨29, _⟩ => ⟨S16x16x2816, .f32⟩
  | .hbm, ⟨30, _⟩ => ⟨S16x16x2816, .f32⟩
  | .hbm, ⟨31, _⟩ => ⟨S_, .f32⟩
  | .hbm, ⟨32, _⟩ => ⟨S16x16x2816, .f32⟩
  | .hbm, ⟨33, _⟩ => ⟨S16x16x2816, .f32⟩
  | .hbm, ⟨34, _⟩ => ⟨S16x16x2816, .f32⟩
  | .hbm, ⟨35, _⟩ => ⟨S16x16x2816, .f32⟩
  | .hbm, ⟨36, _⟩ => ⟨S16x16x2816, .f32⟩
  | .hbm, ⟨37, _⟩ => ⟨S16x16x1024, .f32⟩
  | .hbm, ⟨38, _⟩ => ⟨S16x16x1024, .f32⟩
  | .hbm, ⟨39, _⟩ => ⟨S256x1024, .f32⟩
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Kernel4.lean ====
abbrev S16x16x1024 : Shape := ⟨3, ![16, 16, 1024]⟩
abbrev S16x2x1024 : Shape := ⟨3, ![16, 2, 1024]⟩
abbrev S1024 : Shape := ⟨1, ![1024]⟩
abbrev S1024x6656 : Shape := ⟨2, ![1024, 6656]⟩
abbrev S3x1024 : Shape := ⟨2, ![3, 1024]⟩
abbrev S64 : Shape := ⟨1, ![64]⟩
abbrev S1024x256 : Shape := ⟨2, ![1024, 256]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S1024x2560 : Shape := ⟨2, ![1024, 2560]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1x64 : Shape := ⟨2, ![1, 64]⟩
abbrev S16x64 : Shape := ⟨2, ![16, 64]⟩
abbrev S4x64 : Shape := ⟨2, ![4, 64]⟩
abbrev S256x1024 : Shape := ⟨2, ![256, 1024]⟩
abbrev S384x1024 : Shape := ⟨2, ![384, 1024]⟩
abbrev S1x2x1024 : Shape := ⟨3, ![1, 2, 1024]⟩
abbrev S2x1024 : Shape := ⟨2, ![2, 1024]⟩
abbrev S1024x1536 : Shape := ⟨2, ![1024, 1536]⟩
abbrev S256x1536 : Shape := ⟨2, ![256, 1536]⟩
abbrev S1024x768 : Shape := ⟨2, ![1024, 768]⟩
abbrev S256x768 : Shape := ⟨2, ![256, 768]⟩
abbrev S16x256 : Shape := ⟨2, ![16, 256]⟩

abbrev nBuf : Space → Nat
  | .hbm => 83
  | .vmem => 16
  | .smem => 0
  | _ => 0

abbrev bufTy : (tb : Table) → Fin (tcTables nBuf tb) → BufTy
  | .hbm, ⟨0, _⟩ => ⟨S16x16x1024, .f32⟩
  | .hbm, ⟨1, _⟩ => ⟨S16x2x1024, .f32⟩
  | .hbm, ⟨2, _⟩ => ⟨S1024, .f32⟩
  | .hbm, ⟨3, _⟩ => ⟨S1024x6656, .f32⟩
  | .hbm, ⟨4, _⟩ => ⟨S3x1024, .f32⟩
  | .hbm, ⟨5, _⟩ => ⟨S64, .f32⟩
  | .hbm, ⟨6, _⟩ => ⟨S64, .f32⟩
  | .hbm, ⟨7, _⟩ => ⟨S1024x6656, .bf16⟩
  | .hbm, ⟨8, _⟩ => ⟨S1024x256, .bf16⟩
  | .hbm, ⟨9, _⟩ => ⟨S1024x256, .bf16⟩
  | .hbm, ⟨10, _⟩ => ⟨S1024x256, .bf16⟩
  | .hbm, ⟨11, _⟩ => ⟨S1024x256, .bf16⟩
  | .hbm, ⟨12, _⟩ => ⟨S1024x1024, .bf16⟩
  | .hbm, ⟨13, _⟩ => ⟨S1024x256, .bf16⟩
  | .hbm, ⟨14, _⟩ => ⟨S1024x256, .bf16⟩
  | .hbm, ⟨15, _⟩ => ⟨S1024x256, .bf16⟩
  | .hbm, ⟨16, _⟩ => ⟨S1024x256, .bf16⟩
  | .hbm, ⟨17, _⟩ => ⟨S1024x1024, .bf16⟩
  | .hbm, ⟨18, _⟩ => ⟨S1024x256, .bf16⟩
  | .hbm, ⟨19, _⟩ => ⟨S1024x256, .bf16⟩
  | .hbm, ⟨20, _⟩ => ⟨S1024x256, .bf16⟩
  | .hbm, ⟨21, _⟩ => ⟨S1024x256, .bf16⟩
  | .hbm, ⟨22, _⟩ => ⟨S1024x1024, .bf16⟩
  | .hbm, ⟨23, _⟩ => ⟨S1024x256, .bf16⟩
  | .hbm, ⟨24, _⟩ => ⟨S1024x256, .bf16⟩
  | .hbm, ⟨25, _⟩ => ⟨S1024x256, .bf16⟩
  | .hbm, ⟨26, _⟩ => ⟨S1024x256, .bf16⟩
  | .hbm, ⟨27, _⟩ => ⟨S1024x1024, .bf16⟩
  | .hbm, ⟨28, _⟩ => ⟨S1x1024x1024, .bf16⟩
  | .hbm, ⟨29, _⟩ => ⟨S1x1024x1024, .bf16⟩
  | .hbm, ⟨30, _⟩ => ⟨S1x1024x1024, .bf16⟩
  | .hbm, ⟨31, _⟩ => ⟨S1x1024x1024, .bf16⟩
  | .hbm, ⟨32, _⟩ => ⟨S4x1024x1024, .bf16⟩
  | .hbm, ⟨33, _⟩ => ⟨S1024x1024, .bf16⟩
  | .hbm, ⟨34, _⟩ => ⟨S1024x256, .bf16⟩
  | .hbm, ⟨35, _⟩ => ⟨S1024x256, .bf16⟩
  | .hbm, ⟨36, _⟩ => ⟨S1024x1024, .bf16⟩
  | .hbm, ⟨37, _⟩ => ⟨S1024x2560, .bf16⟩
  | .hbm, ⟨38, _⟩ => ⟨S256, .i32⟩
  | .hbm, ⟨39, _⟩ => ⟨S_, .i32⟩
  | .hbm, ⟨40, _⟩ => ⟨S_, .i32⟩
  | .hbm, ⟨41, _⟩ => ⟨S256, .i32⟩
  | .hbm, ⟨42, _⟩ => ⟨S256, .i32⟩
  | .hbm, ⟨43, _⟩ => ⟨S256, .i32⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S256, .i32⟩
  | .hbm, ⟨48, _⟩ => ⟨S256, .i32⟩
  | .hbm, ⟨49, _⟩ => ⟨S_, .i32⟩
  | .hbm, ⟨50, _⟩ => ⟨S256, .i32⟩
  | .hbm, ⟨51, _⟩ => ⟨S256, .i1⟩
  | .hbm, ⟨52, _⟩ => ⟨S256, .i1⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S256, .i32⟩
  | .hbm, ⟨57, _⟩ => ⟨S256x1, .i32⟩
  | .hbm, ⟨58, _⟩ => ⟨S1x256, .i32⟩
  | .hbm, ⟨59, _⟩ => ⟨S256x256, .i32⟩
  | .hbm, ⟨60, _⟩ => ⟨S256x256, .i32⟩
  | .hbm, ⟨61, _⟩ => ⟨S256x256, .i1⟩
  | .hbm, ⟨62, _⟩ => ⟨S256x256, .f32⟩
  | .hbm, ⟨63, _⟩ => ⟨S_, .f32⟩
  | .hbm, ⟨64, _⟩ => ⟨S256x256, .f32⟩
  | .hbm, ⟨65, _⟩ => ⟨S256x256, .f32⟩
  | .hbm, ⟨66, _⟩ => ⟨S256x256, .bf16⟩
  | .hbm, ⟨67, _⟩ => ⟨S1x1024, .f32⟩
  | .hbm, ⟨68, _⟩ => ⟨S1x64, .f32⟩
  | .hbm, ⟨69, _⟩ => ⟨S16x64, .f32⟩
  | .hbm, ⟨70, _⟩ => ⟨S1024, .f32⟩
  | .hbm, ⟨71, _⟩ => ⟨S1x1024, .f32⟩
  | .hbm, ⟨72, _⟩ => ⟨S1x64, .f32⟩
  | .hbm, ⟨73, _⟩ => ⟨S4x64, .f32⟩
  | .hbm, ⟨74, _⟩ => ⟨S256, .f32⟩
  | .hbm, ⟨75, _⟩ => ⟨S1x256, .f32⟩
  | .hbm, ⟨76, _⟩ => ⟨S256x1024, .f32⟩
  | .hbm, ⟨77, _⟩ => ⟨S256x1024, .bf16⟩
  | .hbm, ⟨78, _⟩ => ⟨S256x1024, .bf16⟩
  | .hbm, ⟨79, _⟩ => ⟨S256x1024, .bf16⟩
  | .hbm, ⟨80, _⟩ => ⟨S256x256, .f32⟩
  | .hbm, ⟨81, _⟩ => ⟨S256x256, .f32⟩
  | .hbm, ⟨82, _⟩ => ⟨S16x2x1024, .f32⟩
  | .local _ .vmem, ⟨0, _⟩ => ⟨S256x1024, .f32⟩
  | .local _ .vmem, ⟨1, _⟩ => ⟨S16x2x1024, .f32⟩
  | .local _ .vmem, ⟨2, _⟩ => ⟨S1x1024, .f32⟩
  | .local _ .vmem, ⟨3, _⟩ => ⟨S4x1024x1024, .bf16⟩
  | .local _ .vmem, ⟨4, _⟩ => ⟨S1024x2560, .bf16⟩
  | .local _ .vmem, ⟨5, _⟩ => ⟨S3x1024, .f32⟩
  | .local _ .vmem, ⟨6, _⟩ => ⟨S256x256, .bf16⟩
  | .local _ .vmem, ⟨7, _⟩ => ⟨S1x1024, .f32⟩
  | .local _ .vmem, ⟨8, _⟩ => ⟨S1x256, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x256, .f32⟩
  | .local _ .vmem, ⟨13, _⟩ => ⟨S256x256, .f32⟩
  | .local _ .vmem, ⟨14, _⟩ => ⟨S16x2x1024, .f32⟩
  | .local _ .vmem, ⟨15, _⟩ => ⟨S384x1024, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52_0 : Ref sig .tc := ⟨.hbm, 77, rfl⟩
abbrev main_v52_1 : Ref sig .tc := ⟨.hbm, 78, rfl⟩
abbrev main_v52_2 : Ref sig .tc := ⟨.hbm, 79, rfl⟩
abbrev main_v52_3 : Ref sig .tc := ⟨.hbm, 80, rfl⟩
abbrev main_v52_4 : Ref sig .tc := ⟨.hbm, 81, rfl⟩
abbrev main_v52_5 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S16x2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]
-- ==== Reference4Ideal.lean ====
abbrev S16x16x1024 : Shape := ⟨3, ![16, 16, 1024]⟩
abbrev S16x2x1024 : Shape := ⟨3, ![16, 2, 1024]⟩
abbrev S1024 : Shape := ⟨1, ![1024]⟩
abbrev S1024x6656 : Shape := ⟨2, ![1024, 6656]⟩
abbrev S3x1024 : Shape := ⟨2, ![3, 1024]⟩
abbrev S64 : Shape := ⟨1, ![64]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16x16x6656 : Shape := ⟨3, ![16, 16, 6656]⟩
abbrev S16x16x256 : Shape := ⟨3, ![16, 16, 256]⟩
abbrev S16x16x4x4x64 : Shape := ⟨5, ![16, 16, 4, 4, 64]⟩
abbrev S16x16x4x4 : Shape := ⟨4, ![16, 16, 4, 4]⟩
abbrev S16x16x4x4x1 : Shape := ⟨5, ![16, 16, 4, 4, 1]⟩
abbrev S1x1x1x1x64 : Shape := ⟨5, ![1, 1, 1, 1, 64]⟩
abbrev S16x16x4x64 : Shape := ⟨4, ![16, 16, 4, 64]⟩
abbrev S16x16x4 : Shape := ⟨3, ![16, 16, 4]⟩
abbrev S16x16x4x1 : Shape := ⟨4, ![16, 16, 4, 1]⟩
abbrev S1x1x1x64 : Shape := ⟨4, ![1, 1, 1, 64]⟩
abbrev S16x18x1024 : Shape := ⟨3, ![16, 18, 1024]⟩
abbrev S1x1024 : Shape := ⟨2, ![1, 1024]⟩
abbrev S256x1024 : Shape := ⟨2, ![256, 1024]⟩
abbrev S256x256 : Shape := ⟨2, ![256, 256]⟩

abbrev nBuf : Space → Nat
  | .hbm => 115
  | .vmem => 0
  | .smem => 0
  | _ => 0

abbrev bufTy : (tb : Table) → Fin (tcTables nBuf tb) → BufTy
  | .hbm, ⟨0, _⟩ => ⟨S16x16x1024, .f32⟩
  | .hbm, ⟨1, _⟩ => ⟨S16x2x1024, .f32⟩
  | .hbm, ⟨2, _⟩ => ⟨S1024, .f32⟩
  | .hbm, ⟨3, _⟩ => ⟨S1024x6656, .f32⟩
  | .hbm, ⟨4, _⟩ => ⟨S3x1024, .f32⟩
  | .hbm, ⟨5, _⟩ => ⟨S64, .f32⟩
  | .hbm, ⟨6, _⟩ => ⟨S64, .f32⟩
  | .hbm, ⟨7, _⟩ => ⟨S16x16x1024, .f32⟩
  | .hbm, ⟨8, _⟩ => ⟨S_, .f32⟩
  | .hbm, ⟨9, _⟩ => ⟨S16x16, .f32⟩
  | .hbm, ⟨10, _⟩ => ⟨S16x16x1, .f32⟩
  | .hbm, ⟨11, _⟩ => ⟨S_, .f32⟩
  | .hbm, ⟨12, _⟩ => ⟨S16x16x1, .f32⟩
  | .hbm, ⟨13, _⟩ => ⟨S16x16x1, .f32⟩
  | .hbm, ⟨14, _⟩ => ⟨S_, .f32⟩
  | .hbm, ⟨15, _⟩ => ⟨S16x16x1, .f32⟩
  | .hbm, ⟨16, _⟩ => ⟨S16x16x1, .f32⟩
  | .hbm, ⟨17, _⟩ => ⟨S16x16x1, .f32⟩
  | .hbm, ⟨18, _⟩ => ⟨S16x16x1024, .f32⟩
  | .hbm, ⟨19, _⟩ => ⟨S16x16x1024, .f32⟩
  | .hbm, ⟨20, _⟩ => ⟨S1x1x1024, .f32⟩
  | .hbm, ⟨21, _⟩ => ⟨S16x16x1024, .f32⟩
  | .hbm, ⟨22, _⟩ => ⟨S16x16x1024, .f32⟩
  | .hbm, ⟨23, _⟩ => ⟨S16x16x6656, .f32⟩
  | .hbm, ⟨24, _⟩ => ⟨S16x16x1024, .f32⟩
  | .hbm, ⟨25, _⟩ => ⟨S16x16x1024, .f32⟩
  | .hbm, ⟨26, _⟩ => ⟨S16x16x1024, .f32⟩
  | .hbm, ⟨27, _⟩ => ⟨S16x16x1024, .f32⟩
  | .hbm, ⟨28, _⟩ => ⟨S16x16x256, .f32⟩
  | .hbm, ⟨29, _⟩ => ⟨S16x16x256, .f32⟩
  | .hbm, ⟨30, _⟩ => ⟨S16x16x1024, .f32⟩
  | .hbm, ⟨31, _⟩ => ⟨S16x16x1024, .f32⟩
  | .hbm, ⟨32, _⟩ => ⟨S16x16x4x4x64, .f32⟩
  | .hbm, ⟨33, _⟩ => ⟨S16x16x4x4x64, .f32⟩
  | .hbm, ⟨34, _⟩ => ⟨S_, .f32⟩
  | .hbm, ⟨35, _⟩ => ⟨S16x16x4x4, .f32⟩
  | .hbm, ⟨36, _⟩ => ⟨S16x16x4x4x1, .f32⟩
  | .hbm, ⟨37, _⟩ => ⟨S_, .f32⟩
  | .hbm, ⟨38, _⟩ => ⟨S16x16x4x4x1, .f32⟩
  | .hbm, ⟨39, _⟩ => ⟨S16x16x4x4x1, .f32⟩
  | .hbm, ⟨40, _⟩ => ⟨S_, .f32⟩
  | .hbm, ⟨41, _⟩ => ⟨S16x16x4x4x1, .f32⟩
  | .hbm, ⟨42, _⟩ => ⟨S16x16x4x4x1, .f32⟩
  | .hbm, ⟨43, _⟩ => ⟨S16x16x4x4x1, .f32⟩
  | .hbm, ⟨44, _⟩ => ⟨S16x16x4x4x64, .f32⟩
  | .hbm, ⟨45, _⟩ => ⟨S16x16x4x4x64, .f32⟩
  | .hbm, ⟨46, _⟩ => ⟨S1x1x1x1x64, .f32⟩
  | .hbm, ⟨47, _⟩ => ⟨S16x16x4x4x64, .f32⟩
  | .hbm, ⟨48, _⟩ => ⟨S16x16x4x4x64, .f32⟩
  | .hbm, ⟨49, _⟩ => ⟨S16x16x4x64, .f32⟩
  | .hbm, ⟨50, _⟩ => ⟨S16x16x4x64, .f32⟩
  | .hbm, ⟨51, _⟩ => ⟨S_, .f32⟩
  | .hbm, ⟨52, _⟩ => ⟨S16x16x4, .f32⟩
  | .hbm, ⟨53, _⟩ => ⟨S16x16x4x1, .f32⟩
  | .hbm, ⟨54, _⟩ => ⟨S_, .f32⟩
  | .hbm, ⟨55, _⟩ => ⟨S16x16x4x1, .f32⟩
  | .hbm, ⟨56, _⟩ => ⟨S16x16x4x1, .f32⟩
  | .hbm, ⟨57, _⟩ => ⟨S_, .f32⟩
  | .hbm, ⟨58, _⟩ => ⟨S16x16x4x1, .f32⟩
  | .hbm, ⟨59, _⟩ => ⟨S16x16x4x1, .f32⟩
  | .hbm, ⟨60, _⟩ => ⟨S16x16x4x1, .f32⟩
  | .hbm, ⟨61, _⟩ => ⟨S16x16x4x64, .f32⟩
  | .hbm, ⟨62, _⟩ => ⟨S16x16x4x64, .f32⟩
  | .hbm, ⟨63, _⟩ => ⟨S1x1x1x64, .f32⟩
  | .hbm, ⟨64, _⟩ => ⟨S16x16x4x64, .f32⟩
  | .hbm, ⟨65, _⟩ => ⟨S16x16x4x64, .f32⟩
  | .hbm, ⟨66, _⟩ => ⟨S16x16x1024, .f32⟩
  | .hbm, ⟨67, _⟩ => ⟨S16x18x1024, .f32⟩
  | .hbm, ⟨68, _⟩ => ⟨S1x1024, .f32⟩
  | .hbm, ⟨69, _⟩ => ⟨S1024, .f32⟩
  | .hbm, ⟨70, _⟩ => ⟨S16x16x1024, .f32⟩
  | .hbm, ⟨71, _⟩ => ⟨S1x1x1024, .f32⟩
  | .hbm, ⟨72, _⟩ => ⟨S16x16x1024, .f32⟩
  | .hbm, ⟨73, _⟩ => ⟨S16x16x1024, .f32⟩
  | .hbm, ⟨74, _⟩ => ⟨S1x1024, .f32⟩
  | .hbm, ⟨75, _⟩ => ⟨S1024, .f32⟩
  | .hbm, ⟨76, _⟩ => ⟨S16x16x1024, .f32⟩
  | .hbm, ⟨77, _⟩ => ⟨S1x1x1024, .f32⟩
  | .hbm, ⟨78, _⟩ => ⟨S16x16x1024, .f32⟩
  | .hbm, ⟨79, _⟩ => ⟨S16x16x1024, .f32⟩
  | .hbm, ⟨80, _⟩ => ⟨S16x16x1024, .f32⟩
  | .hbm, ⟨81, _⟩ => ⟨S1x1024, .f32⟩
  | .hbm, ⟨82, _⟩ => ⟨S1024, .f32⟩
  | .hbm, ⟨83, _⟩ => ⟨S16x16x1024, .f32⟩
  | .hbm, ⟨84, _⟩ => ⟨S1x1x1024, .f32⟩
  | .hbm, ⟨85, _⟩ => ⟨S16x16x1024, .f32⟩
  | .hbm, ⟨86, _⟩ => ⟨S16x16x1024, .f32⟩
  | .hbm, ⟨87, _⟩ => ⟨S16x16x1024, .f32⟩
  | .hbm, ⟨88, _⟩ => ⟨S16x16x1024, .f32⟩
  | .hbm, ⟨89, _⟩ => ⟨S16x16x1024, .f32⟩
  | .hbm, ⟨90, _⟩ => ⟨S_, .f32⟩
  | .hbm, ⟨91, _⟩ => ⟨S16x16x1024, .f32⟩
  | .hbm, ⟨92, _⟩ => ⟨S16x16x1024, .f32⟩
  | .hbm, ⟨93, _⟩ => ⟨S_, .f32⟩
  | .hbm, ⟨94, _⟩ => ⟨S16x16x1024, .f32⟩
  | .hbm, ⟨95, _⟩ => ⟨S16x16x1024, .f32⟩
  | .hbm, ⟨96, _⟩ => ⟨S16x16x1024, .f32⟩
  | .hbm, ⟨97, _⟩ => ⟨S16x16x1024, .f32⟩
  | .hbm, ⟨98, _⟩ => ⟨S256x1024, .f32⟩
  | .hbm, ⟨99, _⟩ => ⟨S256x1024, .bf16⟩
  | .hbm, ⟨100, _⟩ => ⟨S256x1024, .f32⟩
  | .hbm, ⟨101, _⟩ => ⟨S256x1024, .bf16⟩
  | .hbm, ⟨102, _⟩ => ⟨S16x16x1024, .f32⟩
  | .hbm, ⟨103, _⟩ => ⟨S16x16x1024, .f32⟩
  | .hbm, ⟨104, _⟩ => ⟨S_, .f32⟩
  | .hbm, ⟨105, _⟩ => ⟨S16x16x1024, .f32⟩
  | .hbm, ⟨106, _⟩ => ⟨S16x16x1024, .f32⟩
  | .hbm, ⟨107, _⟩ => ⟨S_, .f32⟩
  | .hbm, ⟨108, _⟩ => ⟨S16x16x1024, .f32⟩
  | .hbm, ⟨109, _⟩ => ⟨S16x16x1024, .f32⟩
  | .hbm, ⟨110, _⟩ => ⟨S256x1024, .f32⟩
  | .hbm, ⟨111, _⟩ => ⟨S256x1024, .bf16⟩
  | .hbm, ⟨112, _⟩ => ⟨S256x256, .f32⟩
  | .hbm, ⟨113, _⟩ => ⟨S256x256, .f32⟩
  | .hbm, ⟨114, _⟩ => ⟨S16x2x1024, .f32⟩
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_cst_9 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_10 : Ref sig .tc := ⟨.hbm, 104, rfl⟩
abbrev main_v86 : Ref sig .tc := ⟨.hbm, 105, rfl⟩
abbrev main_v87 : Ref sig .tc := ⟨.hbm, 106, rfl⟩
abbrev main_cst_11 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩

abbrev nD : Nat := 1
abbrev τ : Topo := Topo.v7x

variable {F : FTy → Type} [FloatOps F]
-- ==== Kernel5.lean ====
abbrev S4x8192x1024 : Shape := ⟨3, ![4, 8192, 1024]⟩
abbrev S1024 : Shape := ⟨1, ![1024]⟩
abbrev S1024x6656 : Shape := ⟨2, ![1024, 6656]⟩
abbrev S3x1024 : Shape := ⟨2, ![3, 1024]⟩
abbrev S64 : Shape := ⟨1, ![64]⟩
abbrev S1024x256 : Shape := ⟨2, ![1024, 256]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S1024x2560 : Shape := ⟨2, ![1024, 2560]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1x64 : Shape := ⟨2, ![1, 64]⟩
abbrev S16x64 : Shape := ⟨2, ![16, 64]⟩
abbrev S4x64 : Shape := ⟨2, ![4, 64]⟩
abbrev S32768x1024 : Shape := ⟨2, ![32768, 1024]⟩
abbrev S4x2x1024 : Shape := ⟨3, ![4, 2, 1024]⟩
abbrev S32768x256 : Shape := ⟨2, ![32768, 256]⟩
abbrev S512x1024 : Shape := ⟨2, ![512, 1024]⟩
abbrev S1x2x1024 : Shape := ⟨3, ![1, 2, 1024]⟩
abbrev S512x256 : Shape := ⟨2, ![512, 256]⟩
abbrev S520x1024 : Shape := ⟨2, ![520, 1024]⟩
abbrev S2x1024 : Shape := ⟨2, ![2, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1024x768 : Shape := ⟨2, ![1024, 768]⟩
abbrev S512x768 : Shape := ⟨2, ![512, 768]⟩

abbrev nBuf : Space → Nat
  | .hbm => 84
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6656, .f32⟩
  | .hbm, ⟨3, _⟩ => ⟨S3x1024, .f32⟩
  | .hbm, ⟨4, _⟩ => ⟨S64, .f32⟩
  | .hbm, ⟨5, _⟩ => ⟨S64, .f32⟩
  | .hbm, ⟨6, _⟩ => ⟨S1024x6656, .bf16⟩
  | .hbm, ⟨7, _⟩ => ⟨S1024x256, .bf16⟩
  | .hbm, ⟨8, _⟩ => ⟨S1024x256, .bf16⟩
  | .hbm, ⟨9, _⟩ => ⟨S1024x256, .bf16⟩
  | .hbm, ⟨10, _⟩ => ⟨S1024x256, .bf16⟩
  | .hbm, ⟨11, _⟩ => ⟨S1024x1024, .bf16⟩
  | .hbm, ⟨12, _⟩ => ⟨S1024x256, .bf16⟩
  | .hbm, ⟨13, _⟩ => ⟨S1024x256, .bf16⟩
  | .hbm, ⟨14, _⟩ => ⟨S1024x256, .bf16⟩
  | .hbm, ⟨15, _⟩ => ⟨S1024x256, .bf16⟩
  | .hbm, ⟨16, _⟩ => ⟨S1024x1024, .bf16⟩
  | .hbm, ⟨17, _⟩ => ⟨S1024x256, .bf16⟩
  | .hbm, ⟨18, _⟩ => ⟨S1024x256, .bf16⟩
  | .hbm, ⟨19, _⟩ => ⟨S1024x256, .bf16⟩
  | .hbm, ⟨20, _⟩ => ⟨S1024x256, .bf16⟩
  | .hbm, ⟨21, _⟩ => ⟨S1024x1024, .bf16⟩
  | .hbm, ⟨22, _⟩ => ⟨S1024x256, .bf16⟩
  | .hbm, ⟨23, _⟩ => ⟨S1024x256, .bf16⟩
  | .hbm, ⟨24, _⟩ => ⟨S1024x256, .bf16⟩
  | .hbm, ⟨25, _⟩ => ⟨S1024x256, .bf16⟩
  | .hbm, ⟨26, _⟩ => ⟨S1024x1024, .bf16⟩
  | .hbm, ⟨27, _⟩ => ⟨S1x1024x1024, .bf16⟩
  | .hbm, ⟨28, _⟩ => ⟨S1x1024x1024, .bf16⟩
  | .hbm, ⟨29, _⟩ => ⟨S1x1024x1024, .bf16⟩
  | .hbm, ⟨30, _⟩ => ⟨S1x1024x1024, .bf16⟩
  | .hbm, ⟨31, _⟩ => ⟨S4x1024x1024, .bf16⟩
  | .hbm, ⟨32, _⟩ => ⟨S1024x1024, .bf16⟩
  | .hbm, ⟨33, _⟩ => ⟨S1024x256, .bf16⟩
  | .hbm, ⟨34, _⟩ => ⟨S1024x256, .bf16⟩
  | .hbm, ⟨35, _⟩ => ⟨S1024x1024, .bf16⟩
  | .hbm, ⟨36, _⟩ => ⟨S1024x2560, .bf16⟩
  | .hbm, ⟨37, _⟩ => ⟨S256, .i32⟩
  | .hbm, ⟨38, _⟩ => ⟨S_, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S256, .i32⟩
  | .hbm, ⟨47, _⟩ => ⟨S256, .i32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S256, .i1⟩
  | .hbm, ⟨52, _⟩ => ⟨S_, .i32⟩
  | .hbm, ⟨53, _⟩ => ⟨S256, .i32⟩
  | .hbm, ⟨54, _⟩ => ⟨S256, .i32⟩
  | .hbm, ⟨55, _⟩ => ⟨S256, .i32⟩
  | .hbm, ⟨56, _⟩ => ⟨S256x1, .i32⟩
  | .hbm, ⟨57, _⟩ => ⟨S1x256, .i32⟩
  | .hbm, ⟨58, _⟩ => ⟨S256x256, .i32⟩
  | .hbm, ⟨59, _⟩ => ⟨S256x256, .i32⟩
  | .hbm, ⟨60, _⟩ => ⟨S256x256, .i1⟩
  | .hbm, ⟨61, _⟩ => ⟨S256x256, .f32⟩
  | .hbm, ⟨62, _⟩ => ⟨S_, .f32⟩
  | .hbm, ⟨63, _⟩ => ⟨S256x256, .f32⟩
  | .hbm, ⟨64, _⟩ => ⟨S256x256, .f32⟩
  | .hbm, ⟨65, _⟩ => ⟨S256x256, .bf16⟩
  | .hbm, ⟨66, _⟩ => ⟨S1x1024, .f32⟩
  | .hbm, ⟨67, _⟩ => ⟨S1x64, .f32⟩
  | .hbm, ⟨68, _⟩ => ⟨S16x64, .f32⟩
  | .hbm, ⟨69, _⟩ => ⟨S1024, .f32⟩
  | .hbm, ⟨70, _⟩ => ⟨S1x1024, .f32⟩
  | .hbm, ⟨71, _⟩ => ⟨S1x64, .f32⟩
  | .hbm, ⟨72, _⟩ => ⟨S4x64, .f32⟩
  | .hbm, ⟨73, _⟩ => ⟨S256, .f32⟩
  | .hbm, ⟨74, _⟩ => ⟨S1x256, .f32⟩
  | .hbm, ⟨75, _⟩ => ⟨S32768x1024, .f32⟩
  | .hbm, ⟨76, _⟩ => ⟨S_, .f32⟩
  | .hbm, ⟨77, _⟩ => ⟨S4x2x1024, .f32⟩
  | .hbm, ⟨78, _⟩ => ⟨S32768x1024, .bf16⟩
  | .hbm, ⟨79, _⟩ => ⟨S32768x1024, .bf16⟩
  | .hbm, ⟨80, _⟩ => ⟨S32768x1024, .bf16⟩
  | .hbm, ⟨81, _⟩ => ⟨S32768x256, .f32⟩
  | .hbm, ⟨82, _⟩ => ⟨S32768x256, .f32⟩
  | .hbm, ⟨83, _⟩ => ⟨S4x2x1024, .f32⟩
  | .local _ .vmem, ⟨0, _⟩ => ⟨S512x1024, .f32⟩
  | .local _ .vmem, ⟨1, _⟩ => ⟨S512x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x1024, .f32⟩
  | .local _ .vmem, ⟨5, _⟩ => ⟨S4x1024x1024, .bf16⟩
  | .local _ .vmem, ⟨6, _⟩ => ⟨S1024x2560, .bf16⟩
  | .local _ .vmem, ⟨7, _⟩ => ⟨S3x1024, .f32⟩
  | .local _ .vmem, ⟨8, _⟩ => ⟨S256x256, .bf16⟩
  | .local _ .vmem, ⟨9, _⟩ => ⟨S1x1024, .f32⟩
  | .local _ .vmem, ⟨10, _⟩ => ⟨S1x256, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S1x2x1024, .f32⟩
  | .local _ .vmem, ⟨22, _⟩ => ⟨S1x2x1024, .f32⟩
  | .local _ .vmem, ⟨23, _⟩ => ⟨S520x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_0 : Ref sig .tc := ⟨.hbm, 76, rfl⟩
abbrev main_v52 : Ref sig .tc := ⟨.hbm, 77, rfl⟩
abbrev main_v53_0 : Ref sig .tc := ⟨.hbm, 78, rfl⟩
abbrev main_v53_1 : Ref sig .tc := ⟨.hbm, 79, rfl⟩
abbrev main_v53_2 : Ref sig .tc := ⟨.hbm, 80, rfl⟩
abbrev main_v53_3 : Ref sig .tc := ⟨.hbm, 81, rfl⟩
abbrev main_v53_4 : Ref sig .tc := ⟨.hbm, 82, rfl⟩
abbrev main_v53_5 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference5Ideal.lean ====
abbrev S4x8192x1024 : Shape := ⟨3, ![4, 8192, 1024]⟩
abbrev S1024 : Shape := ⟨1, ![1024]⟩
abbrev S1024x6656 : Shape := ⟨2, ![1024, 6656]⟩
abbrev S3x1024 : Shape := ⟨2, ![3, 1024]⟩
abbrev S64 : Shape := ⟨1, ![64]⟩
abbrev S_ : Shape := ⟨0, ![]⟩
abbrev S4x2x1024 : Shape := ⟨3, ![4, 2, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6656 : Shape := ⟨3, ![4, 8192, 6656]⟩
abbrev S4x8192x256 : Shape := ⟨3, ![4, 8192, 256]⟩
abbrev S4x8192x4x4x64 : Shape := ⟨5, ![4, 8192, 4, 4, 64]⟩
abbrev S4x8192x4x4 : Shape := ⟨4, ![4, 8192, 4, 4]⟩
abbrev S4x8192x4x4x1 : Shape := ⟨5, ![4, 8192, 4, 4, 1]⟩
abbrev S1x1x1x1x64 : Shape := ⟨5, ![1, 1, 1, 1, 64]⟩
abbrev S4x8192x4x64 : Shape := ⟨4, ![4, 8192, 4, 64]⟩
abbrev S4x8192x4 : Shape := ⟨3, ![4, 8192, 4]⟩
abbrev S4x8192x4x1 : Shape := ⟨4, ![4, 8192, 4, 1]⟩
abbrev S1x1x1x64 : Shape := ⟨4, ![1, 1, 1, 64]⟩
abbrev S4x8194x1024 : Shape := ⟨3, ![4, 8194, 1024]⟩
abbrev S1x1024 : Shape := ⟨2, ![1, 1024]⟩
abbrev S32768x1024 : Shape := ⟨2, ![32768, 1024]⟩
abbrev S32768x256 : Shape := ⟨2, ![32768, 256]⟩

abbrev nBuf : Space → Nat
  | .hbm => 116
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6656, .f32⟩
  | .hbm, ⟨3, _⟩ => ⟨S3x1024, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S4x2x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x6656, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x256, .f32⟩
  | .hbm, ⟨30, _⟩ => ⟨S4x8192x256, .f32⟩
  | .hbm, ⟨31, _⟩ => ⟨S4x8192x1024, .f32⟩
  | .hbm, ⟨32, _⟩ => ⟨S4x8192x1024, .f32⟩
  | .hbm, ⟨33, _⟩ => ⟨S4x8192x4x4x64, .f32⟩
  | .hbm, ⟨34, _⟩ => ⟨S4x8192x4x4x64, .f32⟩
  | .hbm, ⟨35, _⟩ => ⟨S_, .f32⟩
  | .hbm, ⟨36, _⟩ => ⟨S4x8192x4x4, .f32⟩
  | .hbm, ⟨37, _⟩ => ⟨S4x8192x4x4x1, .f32⟩
  | .hbm, ⟨38, _⟩ => ⟨S_, .f32⟩
  | .hbm, ⟨39, _⟩ => ⟨S4x8192x4x4x1, .f32⟩
  | .hbm, ⟨40, _⟩ => ⟨S4x8192x4x4x1, .f32⟩
  | .hbm, ⟨41, _⟩ => ⟨S_, .f32⟩
  | .hbm, ⟨42, _⟩ => ⟨S4x8192x4x4x1, .f32⟩
  | .hbm, ⟨43, _⟩ => ⟨S4x8192x4x4x1, .f32⟩
  | .hbm, ⟨44, _⟩ => ⟨S4x8192x4x4x1, .f32⟩
  | .hbm, ⟨45, _⟩ => ⟨S4x8192x4x4x64, .f32⟩
  | .hbm, ⟨46, _⟩ => ⟨S4x8192x4x4x64, .f32⟩
  | .hbm, ⟨47, _⟩ => ⟨S1x1x1x1x64, .f32⟩
  | .hbm, ⟨48, _⟩ => ⟨S4x8192x4x4x64, .f32⟩
  | .hbm, ⟨49, _⟩ => ⟨S4x8192x4x4x64, .f32⟩
  | .hbm, ⟨50, _⟩ => ⟨S4x8192x4x64, .f32⟩
  | .hbm, ⟨51, _⟩ => ⟨S4x8192x4x64, .f32⟩
  | .hbm, ⟨52, _⟩ => ⟨S_, .f32⟩
  | .hbm, ⟨53, _⟩ => ⟨S4x8192x4, .f32⟩
  | .hbm, ⟨54, _⟩ => ⟨S4x8192x4x1, .f32⟩
  | .hbm, ⟨55, _⟩ => ⟨S_, .f32⟩
  | .hbm, ⟨56, _⟩ => ⟨S4x8192x4x1, .f32⟩
  | .hbm, ⟨57, _⟩ => ⟨S4x8192x4x1, .f32⟩
  | .hbm, ⟨58, _⟩ => ⟨S_, .f32⟩
  | .hbm, ⟨59, _⟩ => ⟨S4x8192x4x1, .f32⟩
  | .hbm, ⟨60, _⟩ => ⟨S4x8192x4x1, .f32⟩
  | .hbm, ⟨61, _⟩ => ⟨S4x8192x4x1, .f32⟩
  | .hbm, ⟨62, _⟩ => ⟨S4x8192x4x64, .f32⟩
  | .hbm, ⟨63, _⟩ => ⟨S4x8192x4x64, .f32⟩
  | .hbm, ⟨64, _⟩ => ⟨S1x1x1x64, .f32⟩
  | .hbm, ⟨65, _⟩ => ⟨S4x8192x4x64, .f32⟩
  | .hbm, ⟨66, _⟩ => ⟨S4x8192x4x64, .f32⟩
  | .hbm, ⟨67, _⟩ => ⟨S4x8192x1024, .f32⟩
  | .hbm, ⟨68, _⟩ => ⟨S4x8194x1024, .f32⟩
  | .hbm, ⟨69, _⟩ => ⟨S1x1024, .f32⟩
  | .hbm, ⟨70, _⟩ => ⟨S1024, .f32⟩
  | .hbm, ⟨71, _⟩ => ⟨S4x8192x1024, .f32⟩
  | .hbm, ⟨72, _⟩ => ⟨S1x1x1024, .f32⟩
  | .hbm, ⟨73, _⟩ => ⟨S4x8192x1024, .f32⟩
  | .hbm, ⟨74, _⟩ => ⟨S4x8192x1024, .f32⟩
  | .hbm, ⟨75, _⟩ => ⟨S1x1024, .f32⟩
  | .hbm, ⟨76, _⟩ => ⟨S1024, .f32⟩
  | .hbm, ⟨77, _⟩ => ⟨S4x8192x1024, .f32⟩
  | .hbm, ⟨78, _⟩ => ⟨S1x1x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S1x1024, .f32⟩
  | .hbm, ⟨83, _⟩ => ⟨S1024, .f32⟩
  | .hbm, ⟨84, _⟩ => ⟨S4x8192x1024, .f32⟩
  | .hbm, ⟨85, _⟩ => ⟨S1x1x1024, .f32⟩
  | .hbm, ⟨86, _⟩ => ⟨S4x8192x1024, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S_, .f32⟩
  | .hbm, ⟨92, _⟩ => ⟨S4x8192x1024, .f32⟩
  | .hbm, ⟨93, _⟩ => ⟨S4x8192x1024, .f32⟩
  | .hbm, ⟨94, _⟩ => ⟨S_, .f32⟩
  | .hbm, ⟨95, _⟩ => ⟨S4x8192x1024, .f32⟩
  | .hbm, ⟨96, _⟩ => ⟨S4x8192x1024, .f32⟩
  | .hbm, ⟨97, _⟩ => ⟨S4x8192x1024, .f32⟩
  | .hbm, ⟨98, _⟩ => ⟨S4x8192x1024, .f32⟩
  | .hbm, ⟨99, _⟩ => ⟨S32768x1024, .f32⟩
  | .hbm, ⟨100, _⟩ => ⟨S32768x1024, .bf16⟩
  | .hbm, ⟨101, _⟩ => ⟨S32768x1024, .f32⟩
  | .hbm, ⟨102, _⟩ => ⟨S32768x1024, .bf16⟩
  | .hbm, ⟨103, _⟩ => ⟨S4x8192x1024, .f32⟩
  | .hbm, ⟨104, _⟩ => ⟨S4x8192x1024, .f32⟩
  | .hbm, ⟨105, _⟩ => ⟨S_, .f32⟩
  | .hbm, ⟨106, _⟩ => ⟨S4x8192x1024, .f32⟩
  | .hbm, ⟨107, _⟩ => ⟨S4x8192x1024, .f32⟩
  | .hbm, ⟨108, _⟩ => ⟨S_, .f32⟩
  | .hbm, ⟨109, _⟩ => ⟨S4x8192x1024, .f32⟩
  | .hbm, ⟨110, _⟩ => ⟨S4x8192x1024, .f32⟩
  | .hbm, ⟨111, _⟩ => ⟨S32768x1024, .f32⟩
  | .hbm, ⟨112, _⟩ => ⟨S32768x1024, .bf16⟩
  | .hbm, ⟨113, _⟩ => ⟨S32768x256, .f32⟩
  | .hbm, ⟨114, _⟩ => ⟨S32768x256, .f32⟩
  | .hbm, ⟨115, _⟩ => ⟨S4x2x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_11 : Ref sig .tc := ⟨.hbm, 105, rfl⟩
abbrev main_v87 : Ref sig .tc := ⟨.hbm, 106, rfl⟩
abbrev main_v88 : Ref sig .tc := ⟨.hbm, 107, rfl⟩
abbrev main_cst_12 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩

abbrev nD : Nat := 1
abbrev τ : Topo := Topo.v7x

variable {F : FTy → Type} [FloatOps F]
-- ==== Proof.AttMath.lean ====
/- The softmax in powers of two: attention over rows of scaled scores, some of them masked, is the softmax of the scores
   in natural powers, with one more term in the denominator for the sink. -/
module

public import Idealize.ShloMosaic.PureOps.Ideal
public import Mathlib.Data.EReal.Inv
public import Mathlib.Analysis.SpecialFunctions.Pow.Real

@[expose] public section

noncomputable section

namespace Cert.Proof.Att

open Idealize.ShloMosaic

/-- One query's attention over 256 rows of scores `s`, with weights `w` and counts `o`, and a sink. -/
def att (s w o : Fin 256 → EReal) (k : EReal) : EReal :=
  (∑ j, w j * Ideal.exp2 (s j - max (Finset.univ.sup s) k))
    * Ideal.div 1 ((∑ j, o j * Ideal.exp2 (s j - max (Finset.univ.sup s) k)) + Ideal.exp2 (k - max (Finset.univ.sup s) k))

/-- The softmax's denominator: the 144 keys' terms and the sink's. -/
def den (s : Fin 144 → EReal) (k : EReal) : EReal :=
  (∑ j, Ideal.exp (s j - max (Finset.univ.sup s) k)) + Ideal.exp (k - max (Finset.univ.sup s) k)

/-- One query's attention over 144 keys with scores `s` and values `v`, and a sink. -/
def soft (s : Fin 144 → EReal) (k : EReal) (v : Fin 144 → EReal) : EReal :=
  ∑ j, v j * Ideal.div (Ideal.exp (s j - max (Finset.univ.sup s) k)) (den s k)

/-- The number a score is scaled by, so that a power of two is a natural power. -/
abbrev c2 : EReal := (((Real.log 2)⁻¹ : ℝ) : EReal)

theorem log2_pos : 0 < (Real.log 2)⁻¹ := inv_pos.mpr (Real.log_pos (by norm_num))

theorem c2_nonneg : 0 ≤ c2 := EReal.coe_nonneg.mpr log2_pos.le

theorem exp2_c2 (x : EReal) : Ideal.exp2 (c2 * x) = Ideal.exp x := by
  induction x with
  | bot => rw [EReal.coe_mul_bot_of_pos log2_pos]; rfl
  | top => rw [EReal.coe_mul_top_of_pos log2_pos]; rfl
  | coe r =>
    rw [← EReal.coe_mul]
    show ((Real.rpow 2 _ : ℝ) : EReal) = ((Real.exp r : ℝ) : EReal)
    congr 1
    show (2 : ℝ) ^ ((Real.log 2)⁻¹ * r) = Real.exp r
    rw [Real.rpow_def_of_pos (by norm_num), ← mul_assoc, mul_inv_cancel₀ (Real.log_pos (by norm_num)).ne', one_mul]

theorem c2_sub (x y : EReal) : c2 * x - c2 * y = c2 * (x - y) := by
  rw [sub_eq_add_neg, sub_eq_add_neg, EReal.left_distrib_of_nonneg_of_ne_top c2_nonneg (EReal.coe_ne_top _), mul_neg]

theorem c2_max (x y : EReal) : max (c2 * x) (c2 * y) = c2 * max x y :=
  (Monotone.map_max (f := fun x : EReal => c2 * x) fun _ _ h => mul_le_mul_of_nonneg_left h c2_nonneg).symm

theorem exp_nonneg (x : EReal) : 0 ≤ Ideal.exp x := by
  induction x with
  | bot => exact le_refl _
  | top => exact le_top
  | coe r => exact EReal.coe_nonneg.mpr (Real.exp_pos r).le

theorem exp_self (x : EReal) (h : x ≠ ⊤) (h' : x ≠ ⊥) : Ideal.exp (x - x) = 1 := by
  lift x to ℝ using ⟨h, h'⟩
  rw [← EReal.coe_sub, sub_self]
  show ((Real.exp 0 : ℝ) : EReal) = 1
  rw [Real.exp_zero]
  rfl

/-- The largest score is a number when the sink is and no score is infinite. -/
theorem top_ne (s : Fin 144 → EReal) (k : EReal) (hs : ∀ j, s j ≠ ⊤) (hk : k ≠ ⊤) (hk' : k ≠ ⊥) :
    max (Finset.univ.sup s) k ≠ ⊤ ∧ max (Finset.univ.sup s) k ≠ ⊥ := by
  constructor
  · obtain ⟨j, _, hj⟩ := Finset.exists_mem_eq_sup Finset.univ Finset.univ_nonempty s
    rw [hj]
    rcases max_choice (s j) k with h | h <;> rw [h]
    · exact hs j
    · exact hk
  · intro h
    exact hk' (le_bot_iff.mp (h ▸ le_max_right _ _))

/-- The denominator is positive: the largest score's term is one. -/
theorem den_pos (s : Fin 144 → EReal) (k : EReal) (hs : ∀ j, s j ≠ ⊤) (hk : k ≠ ⊤) (hk' : k ≠ ⊥) : 0 < den s k := by
  obtain ⟨h, h'⟩ := top_ne s k hs hk hk'
  have hn : 0 ≤ ∑ j, Ideal.exp (s j - max (Finset.univ.sup s) k) := Finset.sum_nonneg fun _ _ => exp_nonneg _
  rcases max_choice (Finset.univ.sup s) k with e | e
  · obtain ⟨j, hj, e'⟩ := Finset.exists_mem_eq_sup Finset.univ Finset.univ_nonempty s
    refine lt_of_lt_of_le zero_lt_one ?_
    calc (1 : EReal) = Ideal.exp (s j - max (Finset.univ.sup s) k) := by
          rw [e, e'] at h h' ⊢; exact (exp_self _ h h').symm
      _ ≤ ∑ j, Ideal.exp (s j - max (Finset.univ.sup s) k) :=
          Finset.single_le_sum (f := fun j => Ideal.exp (s j - max (Finset.univ.sup s) k)) (fun _ _ => exp_nonneg _) hj
      _ ≤ den s k := le_add_of_nonneg_right (exp_nonneg _)
  · refine lt_of_lt_of_le zero_lt_one ?_
    calc (1 : EReal) = Ideal.exp (k - max (Finset.univ.sup s) k) := by
          rw [e] at h h' ⊢; exact (exp_self _ h h').symm
      _ ≤ den s k := le_add_of_nonneg_left hn

theorem sum_mul {ι : Type} (t : Finset ι) (f : ι → EReal) (r : EReal) (h : 0 ≤ r) (h' : r ≠ ⊤) :
    (∑ j ∈ t, f j) * r = ∑ j ∈ t, f j * r := by
  classical
  induction t using Finset.induction_on with
  | empty => simp
  | insert a t ha ih =>
    rw [Finset.sum_insert ha, Finset.sum_insert ha, EReal.right_distrib_of_nonneg_of_ne_top h h', ih]

theorem sum_split (f : Fin 256 → EReal) (g : Fin 144 → EReal) (h : ∀ (j : Fin 256) (hj : j.val < 144), f j = g ⟨j.val, hj⟩)
    (h' : ∀ j : Fin 256, ¬ j.val < 144 → f j = 0) : ∑ j, f j = ∑ j, g j := by
  have e := Fin.sum_univ_add (a := 144) (b := 112) (M := EReal) f
  refine e.trans ?_
  rw [Finset.sum_eq_zero (s := (Finset.univ : Finset (Fin 112))) (fun i _ => h' _ (by simp)), add_zero]
  exact Finset.sum_congr rfl fun j _ => h _ j.isLt

theorem sup_split (S : Fin 256 → EReal) (s : Fin 144 → EReal) (h : ∀ (j : Fin 256) (hj : j.val < 144), S j = c2 * s ⟨j.val, hj⟩)
    (h' : ∀ j : Fin 256, ¬ j.val < 144 → S j = ⊥) : Finset.univ.sup S = c2 * Finset.univ.sup s := by
  apply le_antisymm
  · refine Finset.sup_le fun j _ => ?_
    by_cases hj : j.val < 144
    · rw [h j hj]
      exact mul_le_mul_of_nonneg_left (Finset.le_sup (f := s) (Finset.mem_univ _)) c2_nonneg
    · rw [h' j hj]
      exact bot_le
  · obtain ⟨j, _, e⟩ := Finset.exists_mem_eq_sup Finset.univ Finset.univ_nonempty s
    rw [e]
    have hj := h ⟨j.val, by omega⟩ j.isLt
    rw [← hj]
    exact Finset.le_sup (f := S) (Finset.mem_univ _)

/-- Attention in powers of two over masked rows of scaled scores is the softmax over the keys. -/
theorem att_eq (S W O : Fin 256 → EReal) (K : EReal) (s v : Fin 144 → EReal) (k : EReal)
    (hS : ∀ (j : Fin 256) (hj : j.val < 144), S j = c2 * s ⟨j.val, hj⟩) (hS' : ∀ j : Fin 256, ¬ j.val < 144 → S j = ⊥)
    (hW : ∀ (j : Fin 256) (hj : j.val < 144), W j = v ⟨j.val, hj⟩) (hO : ∀ j, O j = 1) (hK : K = c2 * k)
    (hs : ∀ j, s j ≠ ⊤) (hk : k ≠ ⊤) (hk' : k ≠ ⊥) : att S W O K = soft s k v := by
  have hM : max (Finset.univ.sup S) K = c2 * max (Finset.univ.sup s) k := by
    rw [sup_split S s hS hS', hK, c2_max]
  have hD : (∑ j, O j * Ideal.exp2 (S j - max (Finset.univ.sup S) K)) + Ideal.exp2 (K - max (Finset.univ.sup S) K) = den s k := by
    rw [hM]
    unfold den
    refine congrArg₂ (· + ·) (sum_split _ _ (fun j hj => ?_) fun j hj => ?_) ?_
    · rw [hO, one_mul, hS j hj, c2_sub, exp2_c2]
    · rw [hS' j hj, sub_eq_add_neg, EReal.bot_add, Ideal.exp2_bot, mul_zero]
    · rw [hK, c2_sub, exp2_c2]
  have hd := den_pos s k hs hk hk'
  have hi : 0 ≤ (den s k)⁻¹ := EReal.inv_nonneg_of_nonneg hd.le
  have hi' : (den s k)⁻¹ ≠ ⊤ := (EReal.inv_lt_top _).ne
  unfold att soft
  rw [hD, hM, sum_split _ (fun j => v j * Ideal.exp (s j - max (Finset.univ.sup s) k)) (fun j hj => ?_) fun j hj => ?_]
  · rw [Ideal.div, if_neg hd.ne', one_mul, sum_mul _ _ _ hi hi']
    refine Finset.sum_congr rfl fun j _ => ?_
    rw [Ideal.div, if_neg hd.ne', mul_assoc]
  · rw [hW j hj, hS j hj, c2_sub, exp2_c2]
  · rw [hS' j hj, sub_eq_add_neg, EReal.bot_add, Ideal.exp2_bot, mul_zero]

/-! Numbers are closed under what makes a score. -/

theorem num_mul (x y : EReal) (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem num_sum {ι : Type} (t : Finset ι) (f : ι → EReal) (h : ∀ i, ∃ r : ℝ, f i = r) : ∃ r : ℝ, ∑ i ∈ t, f i = r := by
  classical
  induction t using Finset.induction_on with
  | empty => exact ⟨0, by simp⟩
  | insert a t ha ih =>
    obtain ⟨x, hx⟩ := h a
    obtain ⟨y, hy⟩ := ih
    exact ⟨x + y, by rw [Finset.sum_insert ha, hx, hy, EReal.coe_add]⟩

/-- A number whose absolute value is below infinity is one. -/
theorem num_of_abs (x : EReal) (h : max x (-x) < ⊤) : ∃ r : ℝ, x = r := by
  induction x with
  | bot => exact absurd h (by simp)
  | top => exact absurd h (by simp)
  | coe r => exact ⟨r, rfl⟩

end Cert.Proof.Att
-- ==== Proof.AttUnit.lean ====
/- One key head's share of the attention body, as one chain of vector operations for all groups and heads, read at an
   index. -/
module

public import proofs.«01_k».proof.Proof.Gen.KernelIdeal.Skeleton
public import proofs.«01_k».proof.Proof.AttMath
public import Idealize.ShloMosaic.Lib.Pointwise

@[expose] public section

set_option maxRecDepth 16384

noncomputable section

namespace Cert.Proof.Att

open Cert.KernelIdeal Cert.KernelIdeal.Gen Idealize.ShloMosaic Idealize.ShloMosaic.TcCoe Idealize.SL.Sem

/-- The mask's fill. -/
abbrev fill : Ideal .f32 := Named.named κ "mask" 0xF149F2CA#32

/-- The sinks' scale. -/
abbrev lg : Ideal .f32 := Named.named κ "log2e" 0x3FB8AA3B#32

/-- The queries' scale. -/
abbrev qs : Ideal .f32 := Named.named κ "qscale" 0x3E38AA3B#32

/-- The scores of one query head against the 256 key rows, the rows past the 144 keys filled. -/
def masked (S : FVec Ideal S256x512 .f32) (o : Fin 2 → Nat) (h : S256x512.Slices o S256x128) : FVec Ideal S256x128 .f32 :=
  have u := extractStridedSlice S256x128 o S h
  have a := extractStridedSlice S64x128 ![0, 0] u slices_S256x128_o0_0_S64x128
  have b := extractStridedSlice S64x128 ![64, 0] u slices_S256x128_o64_0_S64x128
  have c := extractStridedSlice S64x128 ![128, 0] u slices_S256x128_o128_0_S64x128
  have k : IVec S64x128 1 := cmpi .slt (iota .tc S64x128 32 [0] iota_S64x128_d0_w32) (broadcast S64x128 16#32)
  have d : FVec Ideal S64x128 .f32 := select k c (broadcast S64x128 fill)
  have e : FVec Ideal S64x128 .f32 := broadcast S64x128 fill
  concatenate S256x128 0 [⟨S64x128, a⟩, ⟨S64x128, b⟩, ⟨S64x128, d⟩, ⟨S64x128, e⟩] concatenates_S64x128_S64x128_S64x128_S64x128_S256x128_d0

/-- The largest score of each query, the sink's among them. -/
def top (M : FVec Ideal S256x128 .f32) (k : Vec Ideal S1x128 .f32) : FVec Ideal S1x128 .f32 :=
  maximumf (shapeCast S1x128 (multiReduction .maximumf [0] S128 M 0xFF800000#32 reduces_S256x128_S128 (.inl rfl) rfl) shapeCasts_S128_S1x128)
    (k0_pay40 k)

/-- The powers of the scores below the largest. -/
def pow (M : FVec Ideal S256x128 .f32) (k : Vec Ideal S1x128 .f32) : FVec Ideal S256x128 .bf16 :=
  truncf .bf16 (exp2 (subf M (broadcastTo S256x128 (top M k) broadcasts_S1x128_S256x128))) bitsLt_bf16_f32

/-- The sink's power. -/
def spow (M : FVec Ideal S256x128 .f32) (k : Vec Ideal S1x128 .f32) : FVec Ideal S1x128 .f32 :=
  exp2 (subf (k0_pay40 k) (top M k))

/-- The transposed values: the cache's rows, then the chunk's own rows padded with zeros. -/
def vals (cv : Vec Ideal S128x256 .f32) (vv : Vec Ideal S16x256 .f32) (o : Fin 2 → Nat) (h : S256x128.Slices o S64x128) :
    FVec Ideal S80x256 .bf16 :=
  have w : FVec Ideal S256x128 .bf16 := k0_pay18 cv
  have u : FVec Ideal S256x128 .bf16 := k0_pay15 vv
  have z := concatenate S64x256 1 [⟨S64x128, extractStridedSlice S64x128 o w h⟩, ⟨S64x128, extractStridedSlice S64x128 o u h⟩] concatenates_S64x128_S64x128_S64x256_d1
  concatenate S80x256 0 [⟨S64x256, z⟩, ⟨S16x256, k0_pay22 (F := Ideal)⟩] concatenates_S64x256_S16x256_S80x256_d0

/-- One key head's output: its four query heads side by side, each column one query. -/
def unit (S : FVec Ideal S256x512 .f32) (W : FVec Ideal S80x256 .bf16) (k0 k1 k2 k3 : Vec Ideal S1x128 .f32) : FVec Ideal S64x512 .f32 :=
  have M0 := masked S ![0, 0] slices_S256x512_o0_0_S256x128
  have M1 := masked S ![0, 128] slices_S256x512_o0_128_S256x128
  have M2 := masked S ![0, 256] slices_S256x512_o0_256_S256x128
  have M3 := masked S ![0, 384] slices_S256x512_o0_384_S256x128
  have e := concatenate S256x512 1 [⟨S256x128, pow M0 k0⟩, ⟨S256x128, pow M1 k1⟩, ⟨S256x128, pow M2 k2⟩, ⟨S256x128, pow M3 k3⟩] concatenates_S256x128_S256x128_S256x128_S256x128_S256x512_d1
  have y : FVec Ideal S80x512 .f32 := matmul dot_S80x256_S256x512_S80x512_1_0_0_1_n_n none W e (constant S80x512 .f32 0x00000000#32)
  have f := concatenate S1x512 1 [⟨S1x128, spow M0 k0⟩, ⟨S1x128, spow M1 k1⟩, ⟨S1x128, spow M2 k2⟩, ⟨S1x128, spow M3 k3⟩] concatenates_S1x128_S1x128_S1x128_S1x128_S1x512_d1
  have n := addf (extractStridedSlice S1x512 ![64, 0] y slices_S80x512_o64_0_S1x512) f
  mulf (extractStridedSlice S64x512 ![0, 0] y slices_S80x512_o0_0_S64x512)
    (broadcastTo S64x512 (divf (broadcast S1x512 (Scalar.ofBits .f32 0x3F800000#32)) n) broadcasts_S1x512_S64x512)

theorem fill_eq : fill = (⊥ : EReal) := IdealRules.named_const.ideal_named_scalar _ _ _ _ rfl

theorem lg_eq : lg = c2 := IdealRules.named_const.ideal_named_scalar _ _ _ _ rfl

theorem qs_eq : qs = (((Real.sqrt 64)⁻¹ * (Real.log 2)⁻¹ : ℝ) : EReal) := IdealRules.named_const.ideal_named_scalar _ _ _ _ rfl

theorem negInf : Ideal.ofBits FTy.f32 0xFF800000#32 = (⊥ : EReal) := by
  simp [Ideal.ofBits, Ideal.ieee]

/-- A word of a number below 64 is below 16 when the number is. -/
theorem row_lt : ∀ n : Fin 64, IntOp.cmpi CmpIPredicate.slt (BitVec.ofNat 32 n.val) 16#32 = if n.val < 16 then 1#1 else 0#1 := by
  decide +kernel

theorem sel_lt (n : Fin 64) (a b : EReal) :
    Scalar.select (IntOp.cmpi CmpIPredicate.slt (BitVec.ofNat 32 n.val) 16#32) a b = if n.val < 16 then a else b := by
  rw [row_lt]
  split_ifs <;> rfl

/-- The masked scores: the 144 keys' own, then the fill. -/
theorem masked_apply (S : FVec Ideal S256x512 .f32) (n : Nat) (h : S256x512.Slices ![0, n] S256x128) (j : Fin 256)
    (r : Fin 128) (l : Fin 512) (hl : l.val = n + r.val) :
    masked S ![0, n] h (ix2 j r) = if j.val < 144 then S (ix2 j l) else (⊥ : EReal) := by
  obtain ⟨lv, hlv⟩ := l
  simp only at hl
  subst hl
  pointwise [masked]
  by_cases h1 : j.val < 64
  · exact (dif_pos h1).trans (if_pos (by omega)).symm
  refine (dif_neg h1).trans ?_
  by_cases h2 : j.val - 64 < 64
  · refine (dif_pos h2).trans (Eq.trans ?_ (if_pos (by omega)).symm)
    exact congrArg (fun a => S (ix2 a _)) (Fin.ext (show 64 + (j.val - 64) = j.val by omega))
  refine (dif_neg h2).trans ?_
  by_cases h3 : j.val - 64 - 64 < 64
  · refine (dif_pos h3).trans ((sel_lt ⟨_, h3⟩ _ _).trans ?_)
    by_cases h4 : j.val < 144
    · refine (if_pos (show j.val - 64 - 64 < 16 by omega)).trans (Eq.trans ?_ (if_pos h4).symm)
      exact congrArg (fun a => S (ix2 a _)) (Fin.ext (show 128 + (j.val - 64 - 64) = j.val by omega))
    · exact (if_neg (show ¬ j.val - 64 - 64 < 16 by omega)).trans (fill_eq.trans (if_neg h4).symm)
  · exact (dif_neg h3).trans (fill_eq.trans (if_neg (by omega)).symm)

theorem pow_apply (M : FVec Ideal S256x128 .f32) (k : Vec Ideal S1x128 .f32) (j : Fin 256) (r : Fin 128) :
    pow M k (ix2 j r) = Ideal.exp2 (M (ix2 j r) - max (Finset.univ.sup fun j => M (ix2 j r)) (k (ix2 0 r) * lg)) := by
  pointwise [pow, top, k0_pay40]
  rw [negInf]
  rfl

theorem spow_apply (M : FVec Ideal S256x128 .f32) (k : Vec Ideal S1x128 .f32) (r : Fin 128) :
    spow M k (ix2 0 r) = Ideal.exp2 (k (ix2 0 r) * lg - max (Finset.univ.sup fun j => M (ix2 j r)) (k (ix2 0 r) * lg)) := by
  pointwise [spow, top, k0_pay40]
  rw [negInf]
  rfl

/-- The values' row of one feature, over the keys: the cache, the chunk's own, then zeros. -/
theorem vals_apply (cv : Vec Ideal S128x256 .f32) (vv : Vec Ideal S16x256 .f32) (n : Nat)
    (h : S256x128.Slices ![n, 0] S64x128) (d : Fin 64) (f : Fin 256) (hf : f.val = n + d.val) (j : Fin 256) :
    vals cv vv ![n, 0] h (ix2 ⟨d.val, by omega⟩ j) = if h : j.val < 128 then cv (ix2 ⟨j.val, h⟩ f)
      else if h : j.val < 144 then vv (ix2 ⟨j.val - 128, by omega⟩ f) else 0 := by
  obtain ⟨fv, hfv⟩ := f
  simp only at hf
  subst hf
  pointwise [vals, k0_pay18, k0_pay15]
  by_cases h1 : j.val < 128
  · simp only [dif_pos h1]
  · simp only [dif_neg h1]
    by_cases h2 : j.val < 144
    · simp only [dif_pos h2, dif_pos (show j.val - 128 < 16 by omega)]
    · simp only [dif_neg h2, dif_neg (show ¬ j.val - 128 < 16 by omega)]

theorem ones_apply (cv : Vec Ideal S128x256 .f32) (vv : Vec Ideal S16x256 .f32) (o : Fin 2 → Nat)
    (h : S256x128.Slices o S64x128) (j : Fin 256) :
    vals cv vv o h (ix2 64 j) = 1 := by
  pointwise [vals, k0_pay22]

theorem unit_apply (S : FVec Ideal S256x512 .f32) (W : FVec Ideal S80x256 .bf16) (k : Fin 4 → Vec Ideal S1x128 .f32)
    (d : Fin 64) (i : Fin 4) (r : Fin 128) (l : Fin 512) (hl : l.val = i.val * 128 + r.val) :
    unit S W (k 0) (k 1) (k 2) (k 3) (ix2 d l) = att (fun j => if j.val < 144 then S (ix2 j l) else (⊥ : EReal))
      (fun j => W (ix2 ⟨d.val, by omega⟩ j)) (fun j => W (ix2 64 j)) (k i (ix2 0 r) * lg) := by
  pointwise [unit]
  match i, hl with
  | ⟨0, _⟩, hl =>
    have hl : l.val = r.val := by simpa using hl
    have hr := r.isLt
    have e0 : l.val < 128 := by omega
    simp only [dif_pos e0]
    obtain rfl : r = ⟨l.val, e0⟩ := Fin.ext (by show r.val = l.val; omega)
    simp only [pow_apply, spow_apply, masked_apply S 0 _ _ ⟨l.val, e0⟩ l (by show l.val = 0 + (l.val); omega)]
    rfl
  | ⟨1, _⟩, hl =>
    have hl : l.val = 128 + r.val := by simpa using hl
    have e0 : ¬ l.val < 128 := by omega
    have e1 : l.val - 128 < 128 := by omega
    simp only [dif_neg e0, dif_pos e1]
    obtain rfl : r = ⟨l.val - 128, e1⟩ := Fin.ext (by show r.val = l.val - 128; omega)
    simp only [pow_apply, spow_apply, masked_apply S 128 _ _ ⟨l.val - 128, e1⟩ l (by show l.val = 128 + (l.val - 128); omega)]
    rfl
  | ⟨2, _⟩, hl =>
    have hl : l.val = 256 + r.val := by simpa using hl
    have e0 : ¬ l.val < 128 := by omega
    have e1 : ¬ l.val - 128 < 128 := by omega
    have e2 : l.val - 128 - 128 < 128 := by omega
    simp only [dif_neg e0, dif_neg e1, dif_pos e2]
    obtain rfl : r = ⟨l.val - 128 - 128, e2⟩ := Fin.ext (by show r.val = l.val - 128 - 128; omega)
    simp only [pow_apply, spow_apply, masked_apply S 256 _ _ ⟨l.val - 128 - 128, e2⟩ l (by show l.val = 256 + (l.val - 128 - 128); omega)]
    rfl
  | ⟨3, _⟩, hl =>
    have hl : l.val = 384 + r.val := by simpa using hl
    have e0 : ¬ l.val < 128 := by omega
    have e1 : ¬ l.val - 128 < 128 := by omega
    have e2 : ¬ l.val - 128 - 128 < 128 := by omega
    have e3 : l.val - 128 - 128 - 128 < 128 := lt_of_eq_of_lt (by omega : l.val - 128 - 128 - 128 = l.val - 384) (by have := l.isLt; omega)
    simp only [dif_neg e0, dif_neg e1, dif_neg e2]
    obtain rfl : r = ⟨l.val - 128 - 128 - 128, e3⟩ := Fin.ext (by show r.val = l.val - 128 - 128 - 128; omega)
    simp only [pow_apply, spow_apply, masked_apply S 384 _ _ ⟨l.val - 128 - 128 - 128, e3⟩ l (by show l.val = 384 + (l.val - 128 - 128 - 128); omega)]
    rfl

end Cert.Proof.Att
-- ==== Proof.AttScore.lean ====
/- The scores of one pair of key heads, as one chain of vector operations for all groups, read at an index. -/
module

public import proofs.«01_k».proof.Proof.Gen.KernelIdeal.Skeleton
public import proofs.«01_k».proof.Proof.AttUnit
public import Idealize.ShloMosaic.Lib.Pointwise

@[expose] public section

set_option maxRecDepth 16384

noncomputable section

namespace Cert.Proof.Att

open Cert.KernelIdeal Cert.KernelIdeal.Gen Idealize.ShloMosaic Idealize.ShloMosaic.TcCoe Idealize.SL.Sem

/-- Four query heads of 16 queries, transposed and side by side: 64 features, each head 128 columns wide. -/
def quer (qa qb : Vec Ideal S16x128 .bf16) : FVec Ideal S64x512 .bf16 :=
  have a := k0_pay26 (F := Ideal) qa
  have b := k0_pay26 (F := Ideal) qb
  concatenate S64x512 1 [⟨S64x128, extractStridedSlice S64x128 ![0, 0] a slices_S128x128_o0_0_S64x128⟩,
    ⟨S64x128, extractStridedSlice S64x128 ![64, 0] a slices_S128x128_o64_0_S64x128⟩,
    ⟨S64x128, extractStridedSlice S64x128 ![0, 0] b slices_S128x128_o0_0_S64x128⟩,
    ⟨S64x128, extractStridedSlice S64x128 ![64, 0] b slices_S128x128_o64_0_S64x128⟩] concatenates_S64x128_S64x128_S64x128_S64x128_S64x512_d1

/-- A slab of two key heads: the cache's 128 rows, the chunk's own 16 rows, then zeros. -/
def keys (ck : Vec Ideal S128x256 .f32) (kk : Vec Ideal S16x256 .f32) (o : Fin 2 → Nat) (h : S128x256.Slices o S128x128) :
    FVec Ideal S256x128 .bf16 :=
  have a := k0_pay8 (F := Ideal) ck
  have b := k0_pay4 (F := Ideal) kk
  concatenate S256x128 0 [⟨S128x128, extractStridedSlice S128x128 o a h⟩, ⟨S128x128, extractStridedSlice S128x128 o b h⟩] concatenates_S128x128_S128x128_S256x128_d0

/-- The scores of the slab's first key head. -/
def scoreLo (K : FVec Ideal S256x128 .bf16) (Q : FVec Ideal S64x512 .bf16) : FVec Ideal S256x512 .f32 :=
  matmul dot_S256x128_S128x512_S256x512_1_0_0_1_n_n none K
    (concatenate S128x512 0 [⟨S64x512, Q⟩, ⟨S64x512, k0_pay23 (F := Ideal)⟩] concatenates_S64x512_S64x512_S128x512_d0) (constant S256x512 .f32 0x00000000#32)

/-- The scores of the slab's second key head. -/
def scoreHi (K : FVec Ideal S256x128 .bf16) (Q : FVec Ideal S64x512 .bf16) : FVec Ideal S256x512 .f32 :=
  matmul dot_S256x128_S128x512_S256x512_1_0_0_1_n_n none K
    (concatenate S128x512 0 [⟨S64x512, k0_pay23 (F := Ideal)⟩, ⟨S64x512, Q⟩] concatenates_S64x512_S64x512_S128x512_d0) (constant S256x512 .f32 0x00000000#32)

/-- Two reads of a pair of loaded vectors at equal places. -/
theorem pair_congr (Q : Fin 2 → Vec Ideal S16x128 .bf16) {p p' : Fin 2} {r r' : Fin 16} {f f' : Fin 128}
    (hp : p.val = p'.val) (hr : r.val = r'.val) (hf : f.val = f'.val) : Q p (ix2 r f) = Q p' (ix2 r' f') := by
  obtain rfl := Fin.ext hp
  obtain rfl := Fin.ext hr
  obtain rfl := Fin.ext hf
  rfl

/-- The transposed queries at a feature and a column: head `i`'s query `r`. -/
theorem quer_apply (Q : Fin 2 → Vec Ideal S16x128 .bf16) (e : Fin 64) (i : Fin 4) (r : Fin 16) (l : Fin 512)
    (hl : l.val = i.val * 128 + r.val) (p : Fin 2) (hp : p.val = i.val / 2) (f : Fin 128) (hf : f.val = i.val % 2 * 64 + e.val) :
    quer (Q 0) (Q 1) (ix2 e l) = Q p (ix2 r f) * qs := by
  have hr := r.isLt
  have he := e.isLt
  have hi : i.val = 0 ∨ i.val = 1 ∨ i.val = 2 ∨ i.val = 3 := by omega
  pointwise [quer, k0_pay26]
  rcases hi with hi | hi | hi | hi <;> rw [hi] at hl hp hf
  · refine (dif_pos (show l.val < 128 by omega)).trans ((congrArg (· * qs) (dif_pos (show l.val < 16 by omega))).trans ?_)
    refine congrArg (· * qs) (pair_congr Q (by rw [hp]; rfl) (show l.val = r.val by omega) (show e.val = f.val by omega))
  · refine (dif_neg (show ¬ l.val < 128 by omega)).trans ((dif_pos (show l.val - 128 < 128 by omega)).trans
      ((congrArg (· * qs) (dif_pos (show l.val - 128 < 16 by omega))).trans ?_))
    refine congrArg (· * qs) (pair_congr Q (by rw [hp]; rfl) (show l.val - 128 = r.val by omega) (show 64 + e.val = f.val by omega))
  · refine (dif_neg (show ¬ l.val < 128 by omega)).trans ((dif_neg (show ¬ l.val - 128 < 128 by omega)).trans
      ((dif_pos (show l.val - 128 - 128 < 128 by omega)).trans ((congrArg (· * qs) (dif_pos (show l.val - 128 - 128 < 16 by omega))).trans ?_)))
    refine congrArg (· * qs) (pair_congr Q (by rw [hp]; rfl) (show l.val - 128 - 128 = r.val by omega) (show e.val = f.val by omega))
  · refine (dif_neg (show ¬ l.val < 128 by omega)).trans ((dif_neg (show ¬ l.val - 128 < 128 by omega)).trans
      ((dif_neg (show ¬ l.val - 128 - 128 < 128 by omega)).trans ((congrArg (· * qs) (dif_pos (show l.val - 128 - 128 - 128 < 16 by omega))).trans ?_)))
    refine congrArg (· * qs) (pair_congr Q (by rw [hp]; rfl) (show l.val - 128 - 128 - 128 = r.val by omega) (show 64 + e.val = f.val by omega))

/-- A slab's key row at a feature: the cache's, then the chunk's own. -/
theorem keys_apply (ck : Vec Ideal S128x256 .f32) (kk : Vec Ideal S16x256 .f32) (n : Nat)
    (h : S128x256.Slices ![0, n] S128x128) (j : Fin 256) (hj : j.val < 144) (x : Fin 128) (f : Fin 256) (hf : f.val = n + x.val) :
    keys ck kk ![0, n] h (ix2 j x) = if hj' : j.val < 128 then ck (ix2 ⟨j.val, hj'⟩ f) else kk (ix2 ⟨j.val - 128, by omega⟩ f) := by
  obtain ⟨f, hf'⟩ := f
  simp only at hf
  subst hf
  pointwise [keys, k0_pay8, k0_pay4]
  by_cases h1 : j.val < 128
  · simp only [dif_pos h1]
  · simp only [dif_neg h1, dif_pos (show j.val - 128 < 16 by omega)]

theorem scoreLo_apply (K : FVec Ideal S256x128 .bf16) (Q : FVec Ideal S64x512 .bf16) (j : Fin 256) (l : Fin 512) :
    scoreLo K Q (ix2 j l) = ∑ e : Fin 64, K (ix2 j ⟨e.val, by omega⟩) * Q (ix2 e l) := by
  pointwise [scoreLo, k0_pay23]
  simp only [mul_zero, Finset.sum_const_zero, add_zero]

theorem scoreHi_apply (K : FVec Ideal S256x128 .bf16) (Q : FVec Ideal S64x512 .bf16) (j : Fin 256) (l : Fin 512) :
    scoreHi K Q (ix2 j l) = ∑ e : Fin 64, K (ix2 j ⟨64 + e.val, by omega⟩) * Q (ix2 e l) := by
  pointwise [scoreHi, k0_pay23]
  simp only [mul_zero, Finset.sum_const_zero, zero_add]

end Cert.Proof.Att
-- ==== Proof.AttPiece.lean ====
/- The sixteen units of the attention body (four batch rows, four key heads), each the one chain of AttUnit on its own
   reads. -/
module

public import proofs.«01_k».proof.Proof.Gen.KernelIdeal.Frame
public import proofs.«01_k».proof.Proof.AttUnit
public import proofs.«01_k».proof.Proof.AttScore

@[expose] public section

set_option maxRecDepth 16384

noncomputable section

namespace Cert.Proof.Att

open Cert.KernelIdeal Cert.KernelIdeal.Gen Idealize.ShloMosaic Idealize.ShloMosaic.TcCoe Idealize.SL.Sem

variable (x0 : Vec Ideal S64x1024 .bf16) (x1 : Vec Ideal S512x256 .f32) (x2 : Vec Ideal S64x256 .f32)
  (x3 : Vec Ideal S512x256 .f32) (x4 : Vec Ideal S64x256 .f32) (x5 : Vec Ideal S4x512 .f32)
  (x6 x7 : Vec Ideal S64x1024 .bf16)

theorem unit_0_0 : k0_pay463 x0 x1 x2 x3 x4 x5 x6 x7
    = unit (scoreLo (keys (View.ld x1 r0_4) (View.ld x2 r0_0) ![0, 0] (by decide)) (quer (View.ld x0 r0_8) (View.ld x0 r0_9)))
      (vals (View.ld x3 r0_4) (View.ld x4 r0_0) ![0, 0] (by decide))
      (View.ld x5 r0_16) (View.ld x5 r0_17) (View.ld x5 r0_18) (View.ld x5 r0_19) := rfl

theorem unit_0_1 : k0_pay471 x0 x1 x2 x3 x4 x5 x6 x7
    = unit (scoreHi (keys (View.ld x1 r0_4) (View.ld x2 r0_0) ![0, 0] (by decide)) (quer (View.ld x0 r0_10) (View.ld x0 r0_11)))
      (vals (View.ld x3 r0_4) (View.ld x4 r0_0) ![64, 0] (by decide))
      (View.ld x5 r0_20) (View.ld x5 r0_21) (View.ld x5 r0_22) (View.ld x5 r0_23) := rfl

theorem unit_0_2 : k0_pay473 x0 x1 x2 x3 x4 x5 x6 x7
    = unit (scoreLo (keys (View.ld x1 r0_4) (View.ld x2 r0_0) ![0, 128] (by decide)) (quer (View.ld x0 r0_12) (View.ld x0 r0_13)))
      (vals (View.ld x3 r0_4) (View.ld x4 r0_0) ![128, 0] (by decide))
      (View.ld x5 r0_32) (View.ld x5 r0_33) (View.ld x5 r0_34) (View.ld x5 r0_35) := rfl

theorem unit_0_3 : k0_pay475 x0 x1 x2 x3 x4 x5 x6 x7
    = unit (scoreHi (keys (View.ld x1 r0_4) (View.ld x2 r0_0) ![0, 128] (by decide)) (quer (View.ld x0 r0_14) (View.ld x0 r0_15)))
      (vals (View.ld x3 r0_4) (View.ld x4 r0_0) ![192, 0] (by decide))
      (View.ld x5 r0_36) (View.ld x5 r0_37) (View.ld x5 r0_38) (View.ld x5 r0_39) := rfl

theorem unit_1_0 : k0_pay481 x0 x1 x2 x3 x4 x5 x6 x7
    = unit (scoreLo (keys (View.ld x1 r0_5) (View.ld x2 r0_1) ![0, 0] (by decide)) (quer (View.ld x0 r0_24) (View.ld x0 r0_25)))
      (vals (View.ld x3 r0_5) (View.ld x4 r0_1) ![0, 0] (by decide))
      (View.ld x5 r0_16) (View.ld x5 r0_17) (View.ld x5 r0_18) (View.ld x5 r0_19) := rfl

theorem unit_1_1 : k0_pay484 x0 x1 x2 x3 x4 x5 x6 x7
    = unit (scoreHi (keys (View.ld x1 r0_5) (View.ld x2 r0_1) ![0, 0] (by decide)) (quer (View.ld x0 r0_26) (View.ld x0 r0_27)))
      (vals (View.ld x3 r0_5) (View.ld x4 r0_1) ![64, 0] (by decide))
      (View.ld x5 r0_20) (View.ld x5 r0_21) (View.ld x5 r0_22) (View.ld x5 r0_23) := rfl

theorem unit_1_2 : k0_pay486 x0 x1 x2 x3 x4 x5 x6 x7
    = unit (scoreLo (keys (View.ld x1 r0_5) (View.ld x2 r0_1) ![0, 128] (by decide)) (quer (View.ld x0 r0_28) (View.ld x0 r0_29)))
      (vals (View.ld x3 r0_5) (View.ld x4 r0_1) ![128, 0] (by decide))
      (View.ld x5 r0_32) (View.ld x5 r0_33) (View.ld x5 r0_34) (View.ld x5 r0_35) := rfl

theorem unit_1_3 : k0_pay488 x0 x1 x2 x3 x4 x5 x6 x7
    = unit (scoreHi (keys (View.ld x1 r0_5) (View.ld x2 r0_1) ![0, 128] (by decide)) (quer (View.ld x0 r0_30) (View.ld x0 r0_31)))
      (vals (View.ld x3 r0_5) (View.ld x4 r0_1) ![192, 0] (by decide))
      (View.ld x5 r0_36) (View.ld x5 r0_37) (View.ld x5 r0_38) (View.ld x5 r0_39) := rfl

theorem unit_2_0 : k0_pay492 x0 x1 x2 x3 x4 x5 x6 x7
    = unit (scoreLo (keys (View.ld x1 r0_6) (View.ld x2 r0_2) ![0, 0] (by decide)) (quer (View.ld x0 r0_40) (View.ld x0 r0_41)))
      (vals (View.ld x3 r0_6) (View.ld x4 r0_2) ![0, 0] (by decide))
      (View.ld x5 r0_16) (View.ld x5 r0_17) (View.ld x5 r0_18) (View.ld x5 r0_19) := rfl

theorem unit_2_1 : k0_pay499 x0 x1 x2 x3 x4 x5 x6 x7
    = unit (scoreHi (keys (View.ld x1 r0_6) (View.ld x2 r0_2) ![0, 0] (by decide)) (quer (View.ld x0 r0_42) (View.ld x0 r0_43)))
      (vals (View.ld x3 r0_6) (View.ld x4 r0_2) ![64, 0] (by decide))
      (View.ld x5 r0_20) (View.ld x5 r0_21) (View.ld x5 r0_22) (View.ld x5 r0_23) := rfl

theorem unit_2_2 : k0_pay506 x0 x1 x2 x3 x4 x5 x6 x7
    = unit (scoreLo (keys (View.ld x1 r0_6) (View.ld x2 r0_2) ![0, 128] (by decide)) (quer (View.ld x0 r0_44) (View.ld x0 r0_45)))
      (vals (View.ld x3 r0_6) (View.ld x4 r0_2) ![128, 0] (by decide))
      (View.ld x5 r0_32) (View.ld x5 r0_33) (View.ld x5 r0_34) (View.ld x5 r0_35) := rfl

theorem unit_2_3 : k0_pay509 x0 x1 x2 x3 x4 x5 x6 x7
    = unit (scoreHi (keys (View.ld x1 r0_6) (View.ld x2 r0_2) ![0, 128] (by decide)) (quer (View.ld x0 r0_46) (View.ld x0 r0_47)))
      (vals (View.ld x3 r0_6) (View.ld x4 r0_2) ![192, 0] (by decide))
      (View.ld x5 r0_36) (View.ld x5 r0_37) (View.ld x5 r0_38) (View.ld x5 r0_39) := rfl

theorem unit_3_0 : k0_pay513 x0 x1 x2 x3 x4 x5 x6 x7
    = unit (scoreLo (keys (View.ld x1 r0_7) (View.ld x2 r0_3) ![0, 0] (by decide)) (quer (View.ld x0 r0_48) (View.ld x0 r0_49)))
      (vals (View.ld x3 r0_7) (View.ld x4 r0_3) ![0, 0] (by decide))
      (View.ld x5 r0_16) (View.ld x5 r0_17) (View.ld x5 r0_18) (View.ld x5 r0_19) := rfl

theorem unit_3_1 : k0_pay517 x0 x1 x2 x3 x4 x5 x6 x7
    = unit (scoreHi (keys (View.ld x1 r0_7) (View.ld x2 r0_3) ![0, 0] (by decide)) (quer (View.ld x0 r0_50) (View.ld x0 r0_51)))
      (vals (View.ld x3 r0_7) (View.ld x4 r0_3) ![64, 0] (by decide))
      (View.ld x5 r0_20) (View.ld x5 r0_21) (View.ld x5 r0_22) (View.ld x5 r0_23) := rfl

theorem unit_3_2 : k0_pay518 x0 x1 x2 x3 x4 x5 x6 x7
    = unit (scoreLo (keys (View.ld x1 r0_7) (View.ld x2 r0_3) ![0, 128] (by decide)) (quer (View.ld x0 r0_52) (View.ld x0 r0_53)))
      (vals (View.ld x3 r0_7) (View.ld x4 r0_3) ![128, 0] (by decide))
      (View.ld x5 r0_32) (View.ld x5 r0_33) (View.ld x5 r0_34) (View.ld x5 r0_35) := rfl

theorem unit_3_3 : k0_pay528 x0 x1 x2 x3 x4 x5 x6 x7
    = unit (scoreHi (keys (View.ld x1 r0_7) (View.ld x2 r0_3) ![0, 128] (by decide)) (quer (View.ld x0 r0_54) (View.ld x0 r0_55)))
      (vals (View.ld x3 r0_7) (View.ld x4 r0_3) ![192, 0] (by decide))
      (View.ld x5 r0_36) (View.ld x5 r0_37) (View.ld x5 r0_38) (View.ld x5 r0_39) := rfl

end Cert.Proof.Att
-- ==== Proof.AttRef.lean ====
/- The reference's attention at an index. -/
module

public import proofs.«01_k».proof.Proof.Gen.ReferenceIdeal.Read
public import proofs.«01_k».proof.Proof.AttMath
public import Idealize.ShloMosaic.Lib.Pointwise

@[expose] public section

set_option maxRecDepth 16384

noncomputable section

namespace Cert.Proof.Att

open Cert.ReferenceIdeal Cert.ReferenceIdeal.Read Idealize.ShloMosaic Idealize.ShloMosaic.TcCoe Idealize.SL.Sem

/-- A query's score of one key: their product, scaled. -/
def rscore (q : Vec Ideal S16x16x4x4x64 .f32) (k : Vec Ideal S16x16x4x64 .f32) (ck : Vec Ideal S16x128x4x64 .f32)
    (b r : Fin 16) (h i : Fin 4) (j : Fin 144) : EReal :=
  (∑ e : Fin 64, (if hj : j.val < 128 then ck (ix4 b ⟨j.val, hj⟩ h e) else k (ix4 b ⟨j.val - 128, by omega⟩ h e))
    * q (ix5 b r h i e)) * Ideal.ofBits FTy.f32 0x3E000000#32

theorem ref_score (q : Vec Ideal S16x16x4x4x64 .f32) (k : Vec Ideal S16x16x4x64 .f32) (ck : Vec Ideal S16x128x4x64 .f32)
    (b r : Fin 16) (h i : Fin 4) (j : Fin 144) :
    val_main_v5 (F := Ideal) q k ck (ix5 b h i r j) = rscore q k ck b r h i j := by
  pointwise [val_main_v0, val_main_v2, val_main_v3, val_main_v4, val_main_v5, val_main_cst]
  rfl

theorem ref_all (q : Vec Ideal S16x16x4x4x64 .f32) (k : Vec Ideal S16x16x4x64 .f32) (ck : Vec Ideal S16x128x4x64 .f32)
    (sk : Vec Ideal S16 .f32) (b r : Fin 16) (h i : Fin 4) (j : Fin 145) :
    val_main_v9 (F := Ideal) q k ck sk (ix5 b h i r j)
      = if hj : j.val < 144 then val_main_v5 (F := Ideal) q k ck (ix5 b h i r ⟨j.val, hj⟩) else sk (ix1 ⟨h.val * 4 + i.val, by omega⟩) := by
  pointwise [val_main_v6, val_main_v7, val_main_v8, val_main_v9]

theorem ref_vals (v : Vec Ideal S16x16x4x64 .f32) (cv : Vec Ideal S16x128x4x64 .f32) (b : Fin 16) (j : Fin 144) (h : Fin 4)
    (d : Fin 64) :
    val_main_v1 (F := Ideal) v cv (ix4 b j h d)
      = if hj : j.val < 128 then cv (ix4 b ⟨j.val, hj⟩ h d) else v (ix4 b ⟨j.val - 128, by omega⟩ h d) := by
  pointwise [val_main_v1]

/-- The largest of 144 scores and one more. -/
theorem fold_top (t : Fin 145 → EReal) (s : Fin 144 → EReal) (k : EReal)
    (h : ∀ j : Fin 145, t j = if hj : j.val < 144 then s ⟨j.val, hj⟩ else k) :
    max (⊥ : EReal) (Finset.fold max (⊥ : EReal) t Finset.univ) = max (Finset.univ.sup s) k := by
  rw [max_eq_right bot_le]
  show Finset.univ.sup t = _
  apply le_antisymm
  · refine Finset.sup_le fun j _ => ?_
    rw [h j]
    split_ifs with hj
    · exact le_max_of_le_left (Finset.le_sup (f := s) (Finset.mem_univ _))
    · exact le_max_right _ _
  · refine max_le (Finset.sup_le fun j _ => ?_) ?_
    · have e := h ⟨j.val, by omega⟩
      rw [dif_pos j.isLt] at e
      rw [← e]
      exact Finset.le_sup (f := t) (Finset.mem_univ _)
    · have e := h ⟨144, by omega⟩
      rw [dif_neg (by decide)] at e
      rw [← e]
      exact Finset.le_sup (f := t) (Finset.mem_univ _)

theorem negInf' : Ideal.ofBits FTy.f32 0xFF800000#32 = (⊥ : EReal) := by
  simp [Ideal.ofBits, Ideal.ieee]

/-- The softmax over 145 scores, read at the first 144, against the values. -/
theorem soft_of (t : Fin 145 → EReal) (s v : Fin 144 → EReal) (k : EReal)
    (h : ∀ j : Fin 145, t j = if hj : j.val < 144 then s ⟨j.val, hj⟩ else k) :
    ∑ x : Fin 144, v x * Ideal.div (Ideal.exp (t ⟨x.val, by omega⟩ - max (Ideal.ofBits FTy.f32 0xFF800000#32)
        (Finset.fold max (Ideal.ofBits FTy.f32 0xFF800000#32) (fun x => t x) Finset.univ)))
      (∑ x, Ideal.exp (t x - max (Ideal.ofBits FTy.f32 0xFF800000#32)
        (Finset.fold max (Ideal.ofBits FTy.f32 0xFF800000#32) (fun x => t x) Finset.univ))) = soft s k v := by
  rw [negInf', fold_top t s k h]
  have e : ∑ x, Ideal.exp (t x - max (Finset.univ.sup s) k) = den s k := by
    rw [Fin.sum_univ_castSucc]
    refine congrArg₂ (· + ·) (Finset.sum_congr rfl fun j _ => ?_) ?_
    · rw [h, dif_pos (show (Fin.castSucc j).val < 144 from j.isLt)]
      rfl
    · rw [h, dif_neg (by simp)]
  rw [e]
  refine Finset.sum_congr rfl fun j _ => ?_
  rw [h, dif_pos j.isLt]

/-- A query's value of one key at a feature. -/
def rval (v : Vec Ideal S16x16x4x64 .f32) (cv : Vec Ideal S16x128x4x64 .f32) (b : Fin 16) (h : Fin 4) (d : Fin 64) (j : Fin 144) :
    EReal :=
  if hj : j.val < 128 then cv (ix4 b ⟨j.val, hj⟩ h d) else v (ix4 b ⟨j.val - 128, by omega⟩ h d)

theorem ref_soft (q : Vec Ideal S16x16x4x4x64 .f32) (k v : Vec Ideal S16x16x4x64 .f32) (ck cv : Vec Ideal S16x128x4x64 .f32)
    (sk : Vec Ideal S16 .f32) (b r : Fin 16) (h i : Fin 4) (d : Fin 64) :
    val_main_v23 (F := Ideal) q k v ck cv sk (ix5 b r h i d)
      = soft (rscore q k ck b r h i) (sk (ix1 ⟨h.val * 4 + i.val, by omega⟩)) (rval v cv b h d) := by
  pointwise [val_main_v10, val_main_v11, val_main_v12, val_main_v13, val_main_v14, val_main_v15, val_main_v16, val_main_v17, val_main_v18, val_main_v19, val_main_v20, val_main_v21, val_main_v22, val_main_v23, val_main_cst_0, val_main_cst_1, val_main_cst_2]
  refine Eq.trans ?_ (soft_of (fun j => val_main_v9 (F := Ideal) q k ck sk (ix5 b h i r j)) _ _ _ fun j =>
    (ref_all q k ck sk b r h i j).trans ?_)
  · simp only [ref_vals]
    rfl
  · simp only [ref_score]

/-- The reference's result before its flattening: the convolution's part, and the attention's under its gate. -/
theorem ref_apply (q : Vec Ideal S16x16x4x4x64 .f32) (k v : Vec Ideal S16x16x4x64 .f32) (ck cv : Vec Ideal S16x128x4x64 .f32)
    (sk : Vec Ideal S16 .f32) (yc ga : Vec Ideal S16x16x1024 .f32) (b r : Fin 16) (h i : Fin 4) (d : Fin 64) (f : Fin 1024)
    (hf : f.val = h.val * 256 + i.val * 64 + d.val) :
    val_main_v26 (F := Ideal) q k v ck cv sk yc ga (ix3 b r f) = yc (ix3 b r f) + ga (ix3 b r f)
      * soft (rscore q k ck b r h i) (sk (ix1 ⟨h.val * 4 + i.val, by omega⟩)) (rval v cv b h d) := by
  pointwise [val_main_v24, val_main_v25, val_main_v26]
  have eh : (⟨f.val / 256, by omega⟩ : Fin 4) = h := Fin.ext (by show f.val / 256 = h.val; omega)
  have ei : (⟨f.val / 64 % 4, by omega⟩ : Fin 4) = i := Fin.ext (by show f.val / 64 % 4 = i.val; omega)
  have ed : (⟨f.val % 64, by omega⟩ : Fin 64) = d := Fin.ext (by show f.val % 64 = d.val; omega)
  rw [eh, ei, ed, ref_soft]

end Cert.Proof.Att
-- ==== Proof.AttSum.lean ====
/- One unit of the attention body and one stored piece, read as the attention of one query over its 144 keys and its sink. -/
module

public import proofs.«01_k».proof.Proof.AttScore
public import proofs.«01_k».proof.Proof.AttRef
public import Idealize.ShloMosaic.Lib.Pipeline.ValueKit

@[expose] public section

set_option maxRecDepth 16384

noncomputable section

namespace Cert.Proof.Att

open Cert.KernelIdeal Cert.KernelIdeal.Gen Idealize.ShloMosaic Idealize.ShloMosaic.TcCoe Idealize.SL.Sem

theorem eighth : Ideal.ofBits FTy.f32 0x3E000000#32 = ((1 / 8 : ℝ) : EReal) := by
  simp [Ideal.ofBits, Ideal.ieee]
  rw [← EReal.coe_mul]
  norm_num

/-- A score of scaled queries is the plain scaled score in base two. -/
theorem score_scale (K Q : Fin 64 → EReal) (hK : ∀ e, ∃ a : ℝ, K e = a) (hQ : ∀ e, ∃ a : ℝ, Q e = a) :
    ∑ e, K e * (Q e * qs) = c2 * ((∑ e, K e * Q e) * Ideal.ofBits FTy.f32 0x3E000000#32) := by
  choose a ha using hK
  choose b hb using hQ
  have e8 : Real.sqrt 64 = 8 := by
    rw [show (64 : ℝ) = 8 * 8 by norm_num]
    exact Real.sqrt_mul_self (by norm_num)
  have s : ∀ f : Fin 64 → ℝ, ∑ e, ((f e : ℝ) : EReal) = ((∑ e, f e : ℝ) : EReal) := fun f => by
    induction (Finset.univ : Finset (Fin 64)) using Finset.induction_on with
    | empty => simp
    | insert x t hx ih => rw [Finset.sum_insert hx, Finset.sum_insert hx, ih, EReal.coe_add]
  simp only [ha, hb, qs_eq, eighth, e8, c2, ← EReal.coe_mul, s]
  refine congrArg _ ?_
  rw [Finset.sum_mul, Finset.mul_sum]
  exact Finset.sum_congr rfl fun e _ => by ring

/-- What the blocks of one grid point hold: the rows `b` of the arguments. -/
structure Blk (b : Fin 4 → Fin 16) (q : Vec Ideal S16x16x4x4x64 .f32) (k v : Vec Ideal S16x16x4x64 .f32)
    (ck cv : Vec Ideal S16x128x4x64 .f32) (sk : Vec Ideal S16 .f32) (yc ga : Vec Ideal S16x16x1024 .f32)
    (x0 : Vec Ideal S64x1024 .bf16) (x1 : Vec Ideal S512x256 .f32) (x2 : Vec Ideal S64x256 .f32)
    (x3 : Vec Ideal S512x256 .f32) (x4 : Vec Ideal S64x256 .f32) (x5 : Vec Ideal S4x512 .f32)
    (x6 x7 : Vec Ideal S64x1024 .bf16) : Prop where
  h0 : ∀ (g : Fin 4) (r : Fin 16) (h i : Fin 4) (e : Fin 64) (R : Fin 64) (f : Fin 1024), R.val = g.val * 16 + r.val →
    f.val = h.val * 256 + i.val * 64 + e.val → x0 (ix2 R f) = q (ix5 (b g) r h i e)
  h1 : ∀ (g : Fin 4) (j : Fin 128) (h : Fin 4) (e : Fin 64) (R : Fin 512) (f : Fin 256), R.val = g.val * 128 + j.val →
    f.val = h.val * 64 + e.val → x1 (ix2 R f) = ck (ix4 (b g) j h e)
  h2 : ∀ (g : Fin 4) (j : Fin 16) (h : Fin 4) (e : Fin 64) (R : Fin 64) (f : Fin 256), R.val = g.val * 16 + j.val →
    f.val = h.val * 64 + e.val → x2 (ix2 R f) = k (ix4 (b g) j h e)
  h3 : ∀ (g : Fin 4) (j : Fin 128) (h : Fin 4) (e : Fin 64) (R : Fin 512) (f : Fin 256), R.val = g.val * 128 + j.val →
    f.val = h.val * 64 + e.val → x3 (ix2 R f) = cv (ix4 (b g) j h e)
  h4 : ∀ (g : Fin 4) (j : Fin 16) (h : Fin 4) (e : Fin 64) (R : Fin 64) (f : Fin 256), R.val = g.val * 16 + j.val →
    f.val = h.val * 64 + e.val → x4 (ix2 R f) = v (ix4 (b g) j h e)
  h5 : ∀ (h i : Fin 4) (l : Fin 128) (L : Fin 512), L.val = i.val * 128 + l.val →
    x5 (ix2 h L) = sk (ix1 ⟨h.val * 4 + i.val, by omega⟩)
  h6 : ∀ (g : Fin 4) (r : Fin 16) (R : Fin 64) (f : Fin 1024), R.val = g.val * 16 + r.val → x6 (ix2 R f) = yc (ix3 (b g) r f)
  h7 : ∀ (g : Fin 4) (r : Fin 16) (R : Fin 64) (f : Fin 1024), R.val = g.val * 16 + r.val → x7 (ix2 R f) = ga (ix3 (b g) r f)

/-- The queries, keys and sinks are real numbers. -/
structure Nums (q : Vec Ideal S16x16x4x4x64 .f32) (k : Vec Ideal S16x16x4x64 .f32) (ck : Vec Ideal S16x128x4x64 .f32)
    (sk : Vec Ideal S16 .f32) : Prop where
  q : ∀ i, ∃ a : ℝ, q i = a
  k : ∀ i, ∃ a : ℝ, k i = a
  ck : ∀ i, ∃ a : ℝ, ck i = a
  sk : ∀ i, ∃ a : ℝ, sk i = a

section

variable {b : Fin 4 → Fin 16} {q : Vec Ideal S16x16x4x4x64 .f32} {k v : Vec Ideal S16x16x4x64 .f32}
  {ck cv : Vec Ideal S16x128x4x64 .f32} {sk : Vec Ideal S16 .f32} {yc ga : Vec Ideal S16x16x1024 .f32}
  {x0 : Vec Ideal S64x1024 .bf16} {x1 : Vec Ideal S512x256 .f32} {x2 : Vec Ideal S64x256 .f32}
  {x3 : Vec Ideal S512x256 .f32} {x4 : Vec Ideal S64x256 .f32} {x5 : Vec Ideal S4x512 .f32}
  {x6 x7 : Vec Ideal S64x1024 .bf16}

/-- One key row's value as the reference's score sees it. -/
def rkey (k : Vec Ideal S16x16x4x64 .f32) (ck : Vec Ideal S16x128x4x64 .f32) (b : Fin 16) (h : Fin 4) (j : Fin 144) (e : Fin 64) :
    EReal :=
  if hj : j.val < 128 then ck (ix4 b ⟨j.val, hj⟩ h e) else k (ix4 b ⟨j.val - 128, by omega⟩ h e)

theorem rkey_num (N : Nums q k ck sk) (b : Fin 16) (h : Fin 4) (j : Fin 144) (e : Fin 64) : ∃ a : ℝ, rkey k ck b h j e = a := by
  unfold rkey
  split_ifs
  · exact N.ck _
  · exact N.k _

theorem rscore_num (N : Nums q k ck sk) (b r : Fin 16) (h i : Fin 4) (j : Fin 144) : ∃ a : ℝ, rscore q k ck b r h i j = a :=
  num_mul _ _ (num_sum _ _ fun e => num_mul _ _ (rkey_num N b h j e) (N.q _)) ⟨1 / 8, eighth⟩

/-- One key slab's row, read through the blocks. -/
theorem keys_row (H : Blk b q k v ck cv sk yc ga x0 x1 x2 x3 x4 x5 x6 x7) (g h : Fin 4) {o1 o2 n : Nat}
    (i1 : ∀ a, (![o1, 0] : Fin 2 → Nat) a + S128x256.size a ≤ S512x256.size a)
    (i2 : ∀ a, (![o2, 0] : Fin 2 → Nat) a + S16x256.size a ≤ S64x256.size a)
    (hs : S128x256.Slices ![0, n] S128x128) (e1 : o1 = g.val * 128) (e2 : o2 = g.val * 16)
    (j : Fin 256) (hj : j.val < 144) (e : Fin 64) (x : Fin 128) (hx : n + x.val = h.val * 64 + e.val) :
    keys (View.ld x1 (Rect.unit (s := S512x256) ![o1, 0] S128x256.size i1))
        (View.ld x2 (Rect.unit (s := S64x256) ![o2, 0] S16x256.size i2)) ![0, n] hs (ix2 j x)
      = rkey k ck (b g) h ⟨j.val, hj⟩ e := by
  have hf : h.val * 64 + e.val < 256 := by omega
  rw [keys_apply _ _ n hs j hj x ⟨h.val * 64 + e.val, hf⟩ hx.symm]
  unfold rkey
  split_ifs with h1
  · refine Eq.trans ?_ (H.h1 g ⟨j.val, h1⟩ h e ⟨g.val * 128 + j.val, by omega⟩ ⟨h.val * 64 + e.val, hf⟩ rfl rfl)
    exact View.ld_unit_apply_of _ _ _ _ _ _ (Fin.forall_fin_two.mpr ⟨congrArg (· + j.val) e1.symm, (Nat.zero_add _).symm⟩)
  · refine Eq.trans ?_ (H.h2 g ⟨j.val - 128, by omega⟩ h e ⟨g.val * 16 + (j.val - 128), by omega⟩ ⟨h.val * 64 + e.val, hf⟩ rfl rfl)
    exact View.ld_unit_apply_of _ _ _ _ _ _ (Fin.forall_fin_two.mpr ⟨congrArg (· + (j.val - 128)) e2.symm, (Nat.zero_add _).symm⟩)

/-- One feature's values over the keys, read through the blocks. -/
theorem vals_row (H : Blk b q k v ck cv sk yc ga x0 x1 x2 x3 x4 x5 x6 x7) (g h : Fin 4) {o1 o2 n : Nat}
    (i1 : ∀ a, (![o1, 0] : Fin 2 → Nat) a + S128x256.size a ≤ S512x256.size a)
    (i2 : ∀ a, (![o2, 0] : Fin 2 → Nat) a + S16x256.size a ≤ S64x256.size a)
    (hs : S256x128.Slices ![n, 0] S64x128) (e1 : o1 = g.val * 128) (e2 : o2 = g.val * 16) (en : n = h.val * 64)
    (j : Fin 256) (hj : j.val < 144) (d : Fin 64) :
    vals (View.ld x3 (Rect.unit (s := S512x256) ![o1, 0] S128x256.size i1))
        (View.ld x4 (Rect.unit (s := S64x256) ![o2, 0] S16x256.size i2)) ![n, 0] hs (ix2 ⟨d.val, by omega⟩ j)
      = rval v cv (b g) h d ⟨j.val, hj⟩ := by
  have hf : h.val * 64 + d.val < 256 := by omega
  rw [vals_apply _ _ n hs d ⟨h.val * 64 + d.val, hf⟩ (congrArg (· + d.val) en.symm) j]
  unfold rval
  by_cases h1 : j.val < 128
  · refine (dif_pos h1).trans (Eq.trans ?_ (dif_pos h1).symm)
    refine Eq.trans ?_ (H.h3 g ⟨j.val, h1⟩ h d ⟨g.val * 128 + j.val, by omega⟩ ⟨h.val * 64 + d.val, hf⟩ rfl rfl)
    exact View.ld_unit_apply_of _ _ _ _ _ _ (Fin.forall_fin_two.mpr ⟨congrArg (· + j.val) e1.symm, (Nat.zero_add _).symm⟩)
  · refine (dif_neg h1).trans ((dif_pos hj).trans (Eq.trans ?_ (dif_neg h1).symm))
    refine Eq.trans ?_ (H.h4 g ⟨j.val - 128, by omega⟩ h d ⟨g.val * 16 + (j.val - 128), by omega⟩ ⟨h.val * 64 + d.val, hf⟩ rfl rfl)
    exact View.ld_unit_apply_of _ _ _ _ _ _ (Fin.forall_fin_two.mpr ⟨congrArg (· + (j.val - 128)) e2.symm, (Nat.zero_add _).symm⟩)

/-- The scaled queries of one head, read through the block. -/
theorem quer_col (H : Blk b q k v ck cv sk yc ga x0 x1 x2 x3 x4 x5 x6 x7) (g h : Fin 4) {o c0 c1 : Nat}
    (i0 : ∀ a, (![o, c0] : Fin 2 → Nat) a + S16x128.size a ≤ S64x1024.size a)
    (i1 : ∀ a, (![o, c1] : Fin 2 → Nat) a + S16x128.size a ≤ S64x1024.size a)
    (eo : o = g.val * 16) (e0 : c0 = h.val * 256) (e1 : c1 = h.val * 256 + 128)
    (e : Fin 64) (i : Fin 4) (r : Fin 16) (l : Fin 512) (hl : l.val = i.val * 128 + r.val) :
    quer (View.ld x0 (Rect.unit (s := S64x1024) ![o, c0] S16x128.size i0))
        (View.ld x0 (Rect.unit (s := S64x1024) ![o, c1] S16x128.size i1)) (ix2 e l) = q (ix5 (b g) r h i e) * qs := by
  have hi : i.val / 2 < 2 := by omega
  have hx : i.val % 2 * 64 + e.val < 128 := by omega
  refine (quer_apply ![View.ld x0 (Rect.unit (s := S64x1024) ![o, c0] S16x128.size i0),
    View.ld x0 (Rect.unit (s := S64x1024) ![o, c1] S16x128.size i1)] e i r l hl ⟨i.val / 2, hi⟩ rfl ⟨i.val % 2 * 64 + e.val, hx⟩ rfl).trans
    (congrArg (· * qs) ?_)
  have hf : h.val * 256 + i.val * 64 + e.val < 1024 := by omega
  refine Eq.trans ?_ (H.h0 g r h i e ⟨g.val * 16 + r.val, by omega⟩ ⟨h.val * 256 + i.val * 64 + e.val, hf⟩ rfl rfl)
  by_cases h2 : i.val < 2
  · rw [show (⟨i.val / 2, hi⟩ : Fin 2) = 0 from Fin.ext (by show i.val / 2 = 0; omega)]
    exact View.ld_unit_apply_of _ _ _ _ _ _ (Fin.forall_fin_two.mpr ⟨congrArg (· + r.val) eo.symm,
      (show h.val * 256 + i.val * 64 + e.val = c0 + (i.val % 2 * 64 + e.val) by omega)⟩)
  · rw [show (⟨i.val / 2, hi⟩ : Fin 2) = 1 from Fin.ext (by show i.val / 2 = 1; omega)]
    exact View.ld_unit_apply_of _ _ _ _ _ _ (Fin.forall_fin_two.mpr ⟨congrArg (· + r.val) eo.symm,
      (show h.val * 256 + i.val * 64 + e.val = c1 + (i.val % 2 * 64 + e.val) by omega)⟩)

/-- A unit's column is one query's attention. -/
theorem unit_soft (H : Blk b q k v ck cv sk yc ga x0 x1 x2 x3 x4 x5 x6 x7) (N : Nums q k ck sk) (g h : Fin 4)
    (S : FVec Ideal S256x512 .f32)
    (hS : ∀ (i : Fin 4) (r : Fin 16) (l : Fin 512) (j : Fin 256) (hj : j.val < 144), l.val = i.val * 128 + r.val →
      S (ix2 j l) = c2 * rscore q k ck (b g) r h i ⟨j.val, hj⟩)
    {o1 o2 n os : Nat} (i1 : ∀ a, (![o1, 0] : Fin 2 → Nat) a + S128x256.size a ≤ S512x256.size a)
    (i2 : ∀ a, (![o2, 0] : Fin 2 → Nat) a + S16x256.size a ≤ S64x256.size a)
    (hs : S256x128.Slices ![n, 0] S64x128) (e1 : o1 = g.val * 128) (e2 : o2 = g.val * 16) (en : n = h.val * 64) (es : os = h.val)
    (j0 : ∀ a, (![os, 0] : Fin 2 → Nat) a + S1x128.size a ≤ S4x512.size a)
    (j1 : ∀ a, (![os, 128] : Fin 2 → Nat) a + S1x128.size a ≤ S4x512.size a)
    (j2 : ∀ a, (![os, 256] : Fin 2 → Nat) a + S1x128.size a ≤ S4x512.size a)
    (j3 : ∀ a, (![os, 384] : Fin 2 → Nat) a + S1x128.size a ≤ S4x512.size a)
    (i : Fin 4) (d : Fin 64) (r : Fin 16) (l : Fin 512) (hl : l.val = i.val * 128 + r.val) :
    unit S (vals (View.ld x3 (Rect.unit (s := S512x256) ![o1, 0] S128x256.size i1))
        (View.ld x4 (Rect.unit (s := S64x256) ![o2, 0] S16x256.size i2)) ![n, 0] hs)
        (View.ld x5 (Rect.unit (s := S4x512) ![os, 0] S1x128.size j0)) (View.ld x5 (Rect.unit (s := S4x512) ![os, 128] S1x128.size j1))
        (View.ld x5 (Rect.unit (s := S4x512) ![os, 256] S1x128.size j2)) (View.ld x5 (Rect.unit (s := S4x512) ![os, 384] S1x128.size j3))
        (ix2 d l)
      = soft (rscore q k ck (b g) r h i) (sk (ix1 ⟨h.val * 4 + i.val, by omega⟩)) (rval v cv (b g) h d) := by
  have hr := r.isLt
  refine (unit_apply S _ ![View.ld x5 (Rect.unit (s := S4x512) ![os, 0] S1x128.size j0), View.ld x5 (Rect.unit (s := S4x512) ![os, 128] S1x128.size j1),
    View.ld x5 (Rect.unit (s := S4x512) ![os, 256] S1x128.size j2), View.ld x5 (Rect.unit (s := S4x512) ![os, 384] S1x128.size j3)]
    d i ⟨r.val, by omega⟩ l hl).trans ?_
  obtain ⟨a, ha⟩ := N.sk (ix1 ⟨h.val * 4 + i.val, by omega⟩)
  refine att_eq _ _ _ _ _ _ _ (fun j hj => (if_pos hj).trans (hS i r l j hj hl)) (fun j hj => if_neg hj)
    (fun j hj => vals_row H g h i1 i2 hs e1 e2 en j hj d) (fun j => ones_apply _ _ _ hs j) ?_ (fun j => ?_) ?_ ?_
  · rw [lg_eq, mul_comm]
    refine congrArg (c2 * ·) ?_
    refine Eq.trans ?_ (H.h5 h i ⟨r.val, by omega⟩ l hl)
    have hi : i.val = 0 ∨ i.val = 1 ∨ i.val = 2 ∨ i.val = 3 := by omega
    rcases hi with hi | hi | hi | hi
    · obtain rfl : i = 0 := Fin.ext hi
      exact View.ld_unit_apply_of _ _ _ _ _ _ (Fin.forall_fin_two.mpr ⟨es.symm, show l.val = 0 + r.val by rw [hl]; rfl⟩)
    · obtain rfl : i = 1 := Fin.ext hi
      exact View.ld_unit_apply_of _ _ _ _ _ _ (Fin.forall_fin_two.mpr ⟨es.symm, show l.val = 128 + r.val by rw [hl]; rfl⟩)
    · obtain rfl : i = 2 := Fin.ext hi
      exact View.ld_unit_apply_of _ _ _ _ _ _ (Fin.forall_fin_two.mpr ⟨es.symm, show l.val = 256 + r.val by rw [hl]; rfl⟩)
    · obtain rfl : i = 3 := Fin.ext hi
      exact View.ld_unit_apply_of _ _ _ _ _ _ (Fin.forall_fin_two.mpr ⟨es.symm, show l.val = 384 + r.val by rw [hl]; rfl⟩)
  · obtain ⟨a, ha⟩ := rscore_num N (b g) r h i j
    rw [ha]
    exact EReal.coe_ne_top a
  · rw [ha]
    exact EReal.coe_ne_top a
  · rw [ha]
    exact EReal.coe_ne_bot a

/-- The first of a slab's two key heads: its scores. -/
theorem lo_score (H : Blk b q k v ck cv sk yc ga x0 x1 x2 x3 x4 x5 x6 x7) (N : Nums q k ck sk) (g h : Fin 4)
    {o1 o2 n o c0 c1 : Nat} (i1 : ∀ a, (![o1, 0] : Fin 2 → Nat) a + S128x256.size a ≤ S512x256.size a)
    (i2 : ∀ a, (![o2, 0] : Fin 2 → Nat) a + S16x256.size a ≤ S64x256.size a)
    (hs : S128x256.Slices ![0, n] S128x128) (k0 : ∀ a, (![o, c0] : Fin 2 → Nat) a + S16x128.size a ≤ S64x1024.size a)
    (k1 : ∀ a, (![o, c1] : Fin 2 → Nat) a + S16x128.size a ≤ S64x1024.size a)
    (e1 : o1 = g.val * 128) (e2 : o2 = g.val * 16) (en : n = h.val * 64) (eo : o = g.val * 16) (e0 : c0 = h.val * 256) (e1' : c1 = h.val * 256 + 128)
    (i : Fin 4) (r : Fin 16) (l : Fin 512) (j : Fin 256) (hj : j.val < 144) (hl : l.val = i.val * 128 + r.val) :
    scoreLo (keys (View.ld x1 (Rect.unit (s := S512x256) ![o1, 0] S128x256.size i1))
        (View.ld x2 (Rect.unit (s := S64x256) ![o2, 0] S16x256.size i2)) ![0, n] hs)
      (quer (View.ld x0 (Rect.unit (s := S64x1024) ![o, c0] S16x128.size k0))
        (View.ld x0 (Rect.unit (s := S64x1024) ![o, c1] S16x128.size k1))) (ix2 j l)
      = c2 * rscore q k ck (b g) r h i ⟨j.val, hj⟩ := by
  rw [scoreLo_apply]
  refine Eq.trans (Finset.sum_congr rfl fun e _ => congrArg₂ (· * ·)
    (keys_row H g h i1 i2 hs e1 e2 j hj e _ (congrArg (· + e.val) en)) (quer_col H g h k0 k1 eo e0 e1' e i r l hl)) ?_
  exact score_scale _ _ (fun e => rkey_num N _ _ _ e) (fun e => N.q _)

/-- The second of a slab's two key heads: its scores. -/
theorem hi_score (H : Blk b q k v ck cv sk yc ga x0 x1 x2 x3 x4 x5 x6 x7) (N : Nums q k ck sk) (g h : Fin 4)
    {o1 o2 n o c0 c1 : Nat} (i1 : ∀ a, (![o1, 0] : Fin 2 → Nat) a + S128x256.size a ≤ S512x256.size a)
    (i2 : ∀ a, (![o2, 0] : Fin 2 → Nat) a + S16x256.size a ≤ S64x256.size a)
    (hs : S128x256.Slices ![0, n] S128x128) (k0 : ∀ a, (![o, c0] : Fin 2 → Nat) a + S16x128.size a ≤ S64x1024.size a)
    (k1 : ∀ a, (![o, c1] : Fin 2 → Nat) a + S16x128.size a ≤ S64x1024.size a)
    (e1 : o1 = g.val * 128) (e2 : o2 = g.val * 16) (en : n + 64 = h.val * 64) (eo : o = g.val * 16) (e0 : c0 = h.val * 256) (e1' : c1 = h.val * 256 + 128)
    (i : Fin 4) (r : Fin 16) (l : Fin 512) (j : Fin 256) (hj : j.val < 144) (hl : l.val = i.val * 128 + r.val) :
    scoreHi (keys (View.ld x1 (Rect.unit (s := S512x256) ![o1, 0] S128x256.size i1))
        (View.ld x2 (Rect.unit (s := S64x256) ![o2, 0] S16x256.size i2)) ![0, n] hs)
      (quer (View.ld x0 (Rect.unit (s := S64x1024) ![o, c0] S16x128.size k0))
        (View.ld x0 (Rect.unit (s := S64x1024) ![o, c1] S16x128.size k1))) (ix2 j l)
      = c2 * rscore q k ck (b g) r h i ⟨j.val, hj⟩ := by
  rw [scoreHi_apply]
  refine Eq.trans (Finset.sum_congr rfl fun e _ => congrArg₂ (· * ·)
    (keys_row H g h i1 i2 hs e1 e2 j hj e _ (show n + (64 + e.val) = h.val * 64 + e.val by omega)) (quer_col H g h k0 k1 eo e0 e1' e i r l hl)) ?_
  exact score_scale _ _ (fun e => rkey_num N _ _ _ e) (fun e => N.q _)

/-- What the launch leaves at an index of a point's block. -/
def spec (b : Fin 4 → Fin 16) (q : Vec Ideal S16x16x4x4x64 .f32) (k v : Vec Ideal S16x16x4x64 .f32)
    (ck cv : Vec Ideal S16x128x4x64 .f32) (sk : Vec Ideal S16 .f32) (yc ga : Vec Ideal S16x16x1024 .f32)
    (g h i : Fin 4) (r : Fin 16) (d : Fin 64) (f : Fin 1024) : EReal :=
  yc (ix3 (b g) r f) + ga (ix3 (b g) r f)
    * soft (rscore q k ck (b g) r h i) (sk (ix1 ⟨h.val * 4 + i.val, by omega⟩)) (rval v cv (b g) h d)

/-- The piece of a unit's first two heads. -/
def merge0 (U : FVec Ideal S64x512 .f32) (y g : Vec Ideal S16x128 .bf16) : FVec Ideal S16x128 .bf16 := k0_pay133 (k0_pay132 U) y g

/-- The piece of a unit's last two heads. -/
def merge1 (U : FVec Ideal S64x512 .f32) (y g : Vec Ideal S16x128 .bf16) : FVec Ideal S16x128 .bf16 := k0_pay134 U y g

theorem merge0_apply (U : FVec Ideal S64x512 .f32) (y g : Vec Ideal S16x128 .bf16) (r : Fin 16) (c : Fin 128) (d : Fin 64)
    (l : Fin 512) (hd : d.val = c.val % 64) (hl : l.val = (c.val / 64 + 0) * 128 + r.val) :
    merge0 U y g (ix2 r c) = y (ix2 r c) + g (ix2 r c) * U (ix2 d l) := by
  pointwise [merge0, k0_pay133, k0_pay132]
  refine congrArg (fun a => y (ix2 r c) + g (ix2 r c) * a) ?_
  by_cases h1 : c.val < 64
  · refine (dif_pos h1).trans (congrArg₂ (fun a b => U (ix2 a b)) (Fin.ext ?_) (Fin.ext ?_))
    · show c.val = d.val
      omega
    · show r.val = l.val
      omega
  · refine (dif_neg h1).trans (congrArg₂ (fun a b => U (ix2 a b)) (Fin.ext ?_) (Fin.ext ?_))
    · show c.val - 64 = d.val
      omega
    · show 128 + r.val = l.val
      omega

theorem merge1_apply (U : FVec Ideal S64x512 .f32) (y g : Vec Ideal S16x128 .bf16) (r : Fin 16) (c : Fin 128) (d : Fin 64)
    (l : Fin 512) (hd : d.val = c.val % 64) (hl : l.val = (c.val / 64 + 2) * 128 + r.val) :
    merge1 U y g (ix2 r c) = y (ix2 r c) + g (ix2 r c) * U (ix2 d l) := by
  pointwise [merge1, k0_pay134]
  refine congrArg (fun a => y (ix2 r c) + g (ix2 r c) * a) ?_
  by_cases h1 : c.val < 64
  · refine (dif_pos h1).trans (congrArg₂ (fun a b => U (ix2 a b)) (Fin.ext ?_) (Fin.ext ?_))
    · show c.val = d.val
      omega
    · show 256 + r.val = l.val
      omega
  · refine (dif_neg h1).trans (congrArg₂ (fun a b => U (ix2 a b)) (Fin.ext ?_) (Fin.ext ?_))
    · show c.val - 64 = d.val
      omega
    · show 384 + r.val = l.val
      omega

/-- `spec` at an index of the block: its batch row and query from the row, its heads and feature from the column. -/
def specAt (b : Fin 4 → Fin 16) (q : Vec Ideal S16x16x4x4x64 .f32) (k v : Vec Ideal S16x16x4x64 .f32)
    (ck cv : Vec Ideal S16x128x4x64 .f32) (sk : Vec Ideal S16 .f32) (yc ga : Vec Ideal S16x16x1024 .f32) (y : S64x1024.Idx) : EReal :=
  have h0 : (y 0).val < 64 := (y 0).isLt
  have h1 : (y 1).val < 1024 := (y 1).isLt
  spec b q k v ck cv sk yc ga ⟨(y 0).val / 16, by omega⟩ ⟨(y 1).val / 256, by omega⟩ ⟨(y 1).val / 64 % 4, by omega⟩
    ⟨(y 0).val % 16, by omega⟩ ⟨(y 1).val % 64, by omega⟩ ⟨(y 1).val, h1⟩

/-- A piece of the first two heads of a unit, at an index of its tile. -/
theorem piece0 (H : Blk b q k v ck cv sk yc ga x0 x1 x2 x3 x4 x5 x6 x7) (g h : Fin 4) (U : FVec Ideal S64x512 .f32)
    (hU : ∀ (i : Fin 4) (d : Fin 64) (r : Fin 16) (l : Fin 512), l.val = i.val * 128 + r.val →
      U (ix2 d l) = soft (rscore q k ck (b g) r h i) (sk (ix1 ⟨h.val * 4 + i.val, by omega⟩)) (rval v cv (b g) h d))
    {o c : Nat} (j : ∀ a, (![o, c] : Fin 2 → Nat) a + S16x128.size a ≤ S64x1024.size a) (eo : o = g.val * 16) (ec : c = h.val * 256 + 0)
    (w : S16x128.Idx) (y : S64x1024.Idx) (h0 : (y 0).val = o + (w 0).val) (h1 : (y 1).val = c + (w 1).val) :
    merge0 U (View.ld x6 (Rect.unit (s := S64x1024) ![o, c] S16x128.size j)) (View.ld x7 (Rect.unit (s := S64x1024) ![o, c] S16x128.size j)) w
      = specAt b q k v ck cv sk yc ga y := by
  idx_vars w
  have hr := w0.isLt
  have hl := w1.isLt
  have h0 : (y 0).val = o + w0.val := h0
  have h1 : (y 1).val = c + w1.val := h1
  have eg : (⟨(y 0).val / 16, by omega⟩ : Fin 4) = g := Fin.ext (by show (y 0).val / 16 = g.val; omega)
  have eh : (⟨(y 1).val / 256, by omega⟩ : Fin 4) = h := Fin.ext (by show (y 1).val / 256 = h.val; omega)
  have er : (⟨(y 0).val % 16, by omega⟩ : Fin 16) = w0 := Fin.ext (by show (y 0).val % 16 = w0.val; omega)
  have hf : (y 1).val < 1024 := (y 1).isLt
  have hi : (y 1).val / 64 % 4 < 4 := by omega
  have hd : (y 1).val % 64 < 64 := by omega
  rw [merge0_apply U _ _ w0 w1 ⟨(y 1).val % 64, hd⟩ ⟨(w1.val / 64 + 0) * 128 + w0.val, by omega⟩ (by show (y 1).val % 64 = w1.val % 64; omega) rfl]
  rw [hU ⟨(y 1).val / 64 % 4, hi⟩ _ w0 _ (by show (w1.val / 64 + 0) * 128 + w0.val = (y 1).val / 64 % 4 * 128 + w0.val; omega)]
  unfold specAt spec
  simp only [eg, eh, er]
  refine congrArg₂ (· + ·) ?_ (congrArg₂ (· * ·) ?_ (congrArg (fun z : Fin 16 => soft _ (sk (ix1 z)) _) (Fin.ext ?_)))
  · refine Eq.trans ?_ (H.h6 g w0 ⟨g.val * 16 + w0.val, by omega⟩ ⟨(y 1).val, hf⟩ rfl)
    exact View.ld_unit_apply_of _ _ _ _ _ _ (Fin.forall_fin_two.mpr ⟨congrArg (· + w0.val) eo.symm, h1⟩)
  · refine Eq.trans ?_ (H.h7 g w0 ⟨g.val * 16 + w0.val, by omega⟩ ⟨(y 1).val, hf⟩ rfl)
    exact View.ld_unit_apply_of _ _ _ _ _ _ (Fin.forall_fin_two.mpr ⟨congrArg (· + w0.val) eo.symm, h1⟩)
  · show h.val * 4 + (y 1).val / 64 % 4 = (y 1).val / 256 * 4 + (y 1).val / 64 % 4
    omega

/-- A piece of the last two heads of a unit, at an index of its tile. -/
theorem piece1 (H : Blk b q k v ck cv sk yc ga x0 x1 x2 x3 x4 x5 x6 x7) (g h : Fin 4) (U : FVec Ideal S64x512 .f32)
    (hU : ∀ (i : Fin 4) (d : Fin 64) (r : Fin 16) (l : Fin 512), l.val = i.val * 128 + r.val →
      U (ix2 d l) = soft (rscore q k ck (b g) r h i) (sk (ix1 ⟨h.val * 4 + i.val, by omega⟩)) (rval v cv (b g) h d))
    {o c : Nat} (j : ∀ a, (![o, c] : Fin 2 → Nat) a + S16x128.size a ≤ S64x1024.size a) (eo : o = g.val * 16) (ec : c = h.val * 256 + 128)
    (w : S16x128.Idx) (y : S64x1024.Idx) (h0 : (y 0).val = o + (w 0).val) (h1 : (y 1).val = c + (w 1).val) :
    merge1 U (View.ld x6 (Rect.unit (s := S64x1024) ![o, c] S16x128.size j)) (View.ld x7 (Rect.unit (s := S64x1024) ![o, c] S16x128.size j)) w
      = specAt b q k v ck cv sk yc ga y := by
  idx_vars w
  have hr := w0.isLt
  have hl := w1.isLt
  have h0 : (y 0).val = o + w0.val := h0
  have h1 : (y 1).val = c + w1.val := h1
  have eg : (⟨(y 0).val / 16, by omega⟩ : Fin 4) = g := Fin.ext (by show (y 0).val / 16 = g.val; omega)
  have eh : (⟨(y 1).val / 256, by omega⟩ : Fin 4) = h := Fin.ext (by show (y 1).val / 256 = h.val; omega)
  have er : (⟨(y 0).val % 16, by omega⟩ : Fin 16) = w0 := Fin.ext (by show (y 0).val % 16 = w0.val; omega)
  have hf : (y 1).val < 1024 := (y 1).isLt
  have hi : (y 1).val / 64 % 4 < 4 := by omega
  have hd : (y 1).val % 64 < 64 := by omega
  rw [merge1_apply U _ _ w0 w1 ⟨(y 1).val % 64, hd⟩ ⟨(w1.val / 64 + 2) * 128 + w0.val, by omega⟩ (by show (y 1).val % 64 = w1.val % 64; omega) rfl]
  rw [hU ⟨(y 1).val / 64 % 4, hi⟩ _ w0 _ (by show (w1.val / 64 + 2) * 128 + w0.val = (y 1).val / 64 % 4 * 128 + w0.val; omega)]
  unfold specAt spec
  simp only [eg, eh, er]
  refine congrArg₂ (· + ·) ?_ (congrArg₂ (· * ·) ?_ (congrArg (fun z : Fin 16 => soft _ (sk (ix1 z)) _) (Fin.ext ?_)))
  · refine Eq.trans ?_ (H.h6 g w0 ⟨g.val * 16 + w0.val, by omega⟩ ⟨(y 1).val, hf⟩ rfl)
    exact View.ld_unit_apply_of _ _ _ _ _ _ (Fin.forall_fin_two.mpr ⟨congrArg (· + w0.val) eo.symm, h1⟩)
  · refine Eq.trans ?_ (H.h7 g w0 ⟨g.val * 16 + w0.val, by omega⟩ ⟨(y 1).val, hf⟩ rfl)
    exact View.ld_unit_apply_of _ _ _ _ _ _ (Fin.forall_fin_two.mpr ⟨congrArg (· + w0.val) eo.symm, h1⟩)
  · show h.val * 4 + (y 1).val / 64 % 4 = (y 1).val / 256 * 4 + (y 1).val / 64 % 4
    omega

end

end Cert.Proof.Att
-- ==== Proof.AttOut.lean ====
/- What the attention body leaves in its block: at each index, the attention of the query and head there, gated and added. -/
module

public import proofs.«01_k».proof.Proof.AttPiece
public import proofs.«01_k».proof.Proof.AttSum

@[expose] public section

set_option maxRecDepth 16384

noncomputable section

namespace Cert.Proof.Att

open Cert.KernelIdeal Cert.KernelIdeal.Gen Idealize.ShloMosaic Idealize.ShloMosaic.TcCoe Idealize.SL.Sem

variable {b : Fin 4 → Fin 16} {q : Vec Ideal S16x16x4x4x64 .f32} {k v : Vec Ideal S16x16x4x64 .f32}
  {ck cv : Vec Ideal S16x128x4x64 .f32} {sk : Vec Ideal S16 .f32} {yc ga : Vec Ideal S16x16x1024 .f32}
  {x0 : Vec Ideal S64x1024 .bf16} {x1 : Vec Ideal S512x256 .f32} {x2 : Vec Ideal S64x256 .f32}
  {x3 : Vec Ideal S512x256 .f32} {x4 : Vec Ideal S64x256 .f32} {x5 : Vec Ideal S4x512 .f32}
  {x6 x7 : Vec Ideal S64x1024 .bf16}

/-- A unit's value at every head, feature and query of batch row `g` and key head `h`. -/
def Good (b : Fin 4 → Fin 16) (q : Vec Ideal S16x16x4x4x64 .f32) (k v : Vec Ideal S16x16x4x64 .f32)
    (ck cv : Vec Ideal S16x128x4x64 .f32) (sk : Vec Ideal S16 .f32) (g h : Fin 4) (U : FVec Ideal S64x512 .f32) : Prop :=
  ∀ (i : Fin 4) (d : Fin 64) (r : Fin 16) (l : Fin 512), l.val = i.val * 128 + r.val →
    U (ix2 d l) = soft (rscore q k ck (b g) r h i) (sk (ix1 ⟨h.val * 4 + i.val, by omega⟩)) (rval v cv (b g) h d)

theorem good_0_0 (H : Blk b q k v ck cv sk yc ga x0 x1 x2 x3 x4 x5 x6 x7) (N : Nums q k ck sk) :
    Good b q k v ck cv sk 0 0 (k0_pay463 x0 x1 x2 x3 x4 x5 x6 x7) := fun i d r l hl => by
  refine (congrFun (unit_0_0 x0 x1 x2 x3 x4 x5 x6 x7) _).trans
    (unit_soft H N 0 0 _ ?_ _ _ _ rfl rfl rfl rfl _ _ _ _ i d r l hl)
  exact fun i r l j hj hl => lo_score H N 0 0 _ _ _ _ _ rfl rfl rfl rfl rfl rfl i r l j hj hl

theorem good_0_1 (H : Blk b q k v ck cv sk yc ga x0 x1 x2 x3 x4 x5 x6 x7) (N : Nums q k ck sk) :
    Good b q k v ck cv sk 0 1 (k0_pay471 x0 x1 x2 x3 x4 x5 x6 x7) := fun i d r l hl => by
  refine (congrFun (unit_0_1 x0 x1 x2 x3 x4 x5 x6 x7) _).trans
    (unit_soft H N 0 1 _ ?_ _ _ _ rfl rfl rfl rfl _ _ _ _ i d r l hl)
  exact fun i r l j hj hl => hi_score H N 0 1 _ _ _ _ _ rfl rfl rfl rfl rfl rfl i r l j hj hl

theorem good_0_2 (H : Blk b q k v ck cv sk yc ga x0 x1 x2 x3 x4 x5 x6 x7) (N : Nums q k ck sk) :
    Good b q k v ck cv sk 0 2 (k0_pay473 x0 x1 x2 x3 x4 x5 x6 x7) := fun i d r l hl => by
  refine (congrFun (unit_0_2 x0 x1 x2 x3 x4 x5 x6 x7) _).trans
    (unit_soft H N 0 2 _ ?_ _ _ _ rfl rfl rfl rfl _ _ _ _ i d r l hl)
  exact fun i r l j hj hl => lo_score H N 0 2 _ _ _ _ _ rfl rfl rfl rfl rfl rfl i r l j hj hl

theorem good_0_3 (H : Blk b q k v ck cv sk yc ga x0 x1 x2 x3 x4 x5 x6 x7) (N : Nums q k ck sk) :
    Good b q k v ck cv sk 0 3 (k0_pay475 x0 x1 x2 x3 x4 x5 x6 x7) := fun i d r l hl => by
  refine (congrFun (unit_0_3 x0 x1 x2 x3 x4 x5 x6 x7) _).trans
    (unit_soft H N 0 3 _ ?_ _ _ _ rfl rfl rfl rfl _ _ _ _ i d r l hl)
  exact fun i r l j hj hl => hi_score H N 0 3 _ _ _ _ _ rfl rfl rfl rfl rfl rfl i r l j hj hl

theorem good_1_0 (H : Blk b q k v ck cv sk yc ga x0 x1 x2 x3 x4 x5 x6 x7) (N : Nums q k ck sk) :
    Good b q k v ck cv sk 1 0 (k0_pay481 x0 x1 x2 x3 x4 x5 x6 x7) := fun i d r l hl => by
  refine (congrFun (unit_1_0 x0 x1 x2 x3 x4 x5 x6 x7) _).trans
    (unit_soft H N 1 0 _ ?_ _ _ _ rfl rfl rfl rfl _ _ _ _ i d r l hl)
  exact fun i r l j hj hl => lo_score H N 1 0 _ _ _ _ _ rfl rfl rfl rfl rfl rfl i r l j hj hl

theorem good_1_1 (H : Blk b q k v ck cv sk yc ga x0 x1 x2 x3 x4 x5 x6 x7) (N : Nums q k ck sk) :
    Good b q k v ck cv sk 1 1 (k0_pay484 x0 x1 x2 x3 x4 x5 x6 x7) := fun i d r l hl => by
  refine (congrFun (unit_1_1 x0 x1 x2 x3 x4 x5 x6 x7) _).trans
    (unit_soft H N 1 1 _ ?_ _ _ _ rfl rfl rfl rfl _ _ _ _ i d r l hl)
  exact fun i r l j hj hl => hi_score H N 1 1 _ _ _ _ _ rfl rfl rfl rfl rfl rfl i r l j hj hl

theorem good_1_2 (H : Blk b q k v ck cv sk yc ga x0 x1 x2 x3 x4 x5 x6 x7) (N : Nums q k ck sk) :
    Good b q k v ck cv sk 1 2 (k0_pay486 x0 x1 x2 x3 x4 x5 x6 x7) := fun i d r l hl => by
  refine (congrFun (unit_1_2 x0 x1 x2 x3 x4 x5 x6 x7) _).trans
    (unit_soft H N 1 2 _ ?_ _ _ _ rfl rfl rfl rfl _ _ _ _ i d r l hl)
  exact fun i r l j hj hl => lo_score H N 1 2 _ _ _ _ _ rfl rfl rfl rfl rfl rfl i r l j hj hl

theorem good_1_3 (H : Blk b q k v ck cv sk yc ga x0 x1 x2 x3 x4 x5 x6 x7) (N : Nums q k ck sk) :
    Good b q k v ck cv sk 1 3 (k0_pay488 x0 x1 x2 x3 x4 x5 x6 x7) := fun i d r l hl => by
  refine (congrFun (unit_1_3 x0 x1 x2 x3 x4 x5 x6 x7) _).trans
    (unit_soft H N 1 3 _ ?_ _ _ _ rfl rfl rfl rfl _ _ _ _ i d r l hl)
  exact fun i r l j hj hl => hi_score H N 1 3 _ _ _ _ _ rfl rfl rfl rfl rfl rfl i r l j hj hl

theorem good_2_0 (H : Blk b q k v ck cv sk yc ga x0 x1 x2 x3 x4 x5 x6 x7) (N : Nums q k ck sk) :
    Good b q k v ck cv sk 2 0 (k0_pay492 x0 x1 x2 x3 x4 x5 x6 x7) := fun i d r l hl => by
  refine (congrFun (unit_2_0 x0 x1 x2 x3 x4 x5 x6 x7) _).trans
    (unit_soft H N 2 0 _ ?_ _ _ _ rfl rfl rfl rfl _ _ _ _ i d r l hl)
  exact fun i r l j hj hl => lo_score H N 2 0 _ _ _ _ _ rfl rfl rfl rfl rfl rfl i r l j hj hl

theorem good_2_1 (H : Blk b q k v ck cv sk yc ga x0 x1 x2 x3 x4 x5 x6 x7) (N : Nums q k ck sk) :
    Good b q k v ck cv sk 2 1 (k0_pay499 x0 x1 x2 x3 x4 x5 x6 x7) := fun i d r l hl => by
  refine (congrFun (unit_2_1 x0 x1 x2 x3 x4 x5 x6 x7) _).trans
    (unit_soft H N 2 1 _ ?_ _ _ _ rfl rfl rfl rfl _ _ _ _ i d r l hl)
  exact fun i r l j hj hl => hi_score H N 2 1 _ _ _ _ _ rfl rfl rfl rfl rfl rfl i r l j hj hl

theorem good_2_2 (H : Blk b q k v ck cv sk yc ga x0 x1 x2 x3 x4 x5 x6 x7) (N : Nums q k ck sk) :
    Good b q k v ck cv sk 2 2 (k0_pay506 x0 x1 x2 x3 x4 x5 x6 x7) := fun i d r l hl => by
  refine (congrFun (unit_2_2 x0 x1 x2 x3 x4 x5 x6 x7) _).trans
    (unit_soft H N 2 2 _ ?_ _ _ _ rfl rfl rfl rfl _ _ _ _ i d r l hl)
  exact fun i r l j hj hl => lo_score H N 2 2 _ _ _ _ _ rfl rfl rfl rfl rfl rfl i r l j hj hl

theorem good_2_3 (H : Blk b q k v ck cv sk yc ga x0 x1 x2 x3 x4 x5 x6 x7) (N : Nums q k ck sk) :
    Good b q k v ck cv sk 2 3 (k0_pay509 x0 x1 x2 x3 x4 x5 x6 x7) := fun i d r l hl => by
  refine (congrFun (unit_2_3 x0 x1 x2 x3 x4 x5 x6 x7) _).trans
    (unit_soft H N 2 3 _ ?_ _ _ _ rfl rfl rfl rfl _ _ _ _ i d r l hl)
  exact fun i r l j hj hl => hi_score H N 2 3 _ _ _ _ _ rfl rfl rfl rfl rfl rfl i r l j hj hl

theorem good_3_0 (H : Blk b q k v ck cv sk yc ga x0 x1 x2 x3 x4 x5 x6 x7) (N : Nums q k ck sk) :
    Good b q k v ck cv sk 3 0 (k0_pay513 x0 x1 x2 x3 x4 x5 x6 x7) := fun i d r l hl => by
  refine (congrFun (unit_3_0 x0 x1 x2 x3 x4 x5 x6 x7) _).trans
    (unit_soft H N 3 0 _ ?_ _ _ _ rfl rfl rfl rfl _ _ _ _ i d r l hl)
  exact fun i r l j hj hl => lo_score H N 3 0 _ _ _ _ _ rfl rfl rfl rfl rfl rfl i r l j hj hl

theorem good_3_1 (H : Blk b q k v ck cv sk yc ga x0 x1 x2 x3 x4 x5 x6 x7) (N : Nums q k ck sk) :
    Good b q k v ck cv sk 3 1 (k0_pay517 x0 x1 x2 x3 x4 x5 x6 x7) := fun i d r l hl => by
  refine (congrFun (unit_3_1 x0 x1 x2 x3 x4 x5 x6 x7) _).trans
    (unit_soft H N 3 1 _ ?_ _ _ _ rfl rfl rfl rfl _ _ _ _ i d r l hl)
  exact fun i r l j hj hl => hi_score H N 3 1 _ _ _ _ _ rfl rfl rfl rfl rfl rfl i r l j hj hl

theorem good_3_2 (H : Blk b q k v ck cv sk yc ga x0 x1 x2 x3 x4 x5 x6 x7) (N : Nums q k ck sk) :
    Good b q k v ck cv sk 3 2 (k0_pay518 x0 x1 x2 x3 x4 x5 x6 x7) := fun i d r l hl => by
  refine (congrFun (unit_3_2 x0 x1 x2 x3 x4 x5 x6 x7) _).trans
    (unit_soft H N 3 2 _ ?_ _ _ _ rfl rfl rfl rfl _ _ _ _ i d r l hl)
  exact fun i r l j hj hl => lo_score H N 3 2 _ _ _ _ _ rfl rfl rfl rfl rfl rfl i r l j hj hl

theorem good_3_3 (H : Blk b q k v ck cv sk yc ga x0 x1 x2 x3 x4 x5 x6 x7) (N : Nums q k ck sk) :
    Good b q k v ck cv sk 3 3 (k0_pay528 x0 x1 x2 x3 x4 x5 x6 x7) := fun i d r l hl => by
  refine (congrFun (unit_3_3 x0 x1 x2 x3 x4 x5 x6 x7) _).trans
    (unit_soft H N 3 3 _ ?_ _ _ _ rfl rfl rfl rfl _ _ _ _ i d r l hl)
  exact fun i r l j hj hl => hi_score H N 3 3 _ _ _ _ _ rfl rfl rfl rfl rfl rfl i r l j hj hl

/-- The block the body leaves is the attention's, at each of its indices. -/
theorem out_spec (H : Blk b q k v ck cv sk yc ga x0 x1 x2 x3 x4 x5 x6 x7) (N : Nums q k ck sk) (y : S64x1024.Idx) :
    out0_8 x0 x1 x2 x3 x4 x5 x6 x7 y = specAt b q k v ck cv sk yc ga y := by
  unfold out0_8
  canon_tiles w h
  · exact piece1 H 3 3 _ (good_3_3 H N) _ rfl rfl w y h0 h1
  · exact piece0 H 3 3 _ (good_3_3 H N) _ rfl rfl w y h0 h1
  · exact piece1 H 3 2 _ (good_3_2 H N) _ rfl rfl w y h0 h1
  · exact piece0 H 3 2 _ (good_3_2 H N) _ rfl rfl w y h0 h1
  · exact piece1 H 3 1 _ (good_3_1 H N) _ rfl rfl w y h0 h1
  · exact piece0 H 3 1 _ (good_3_1 H N) _ rfl rfl w y h0 h1
  · exact piece1 H 3 0 _ (good_3_0 H N) _ rfl rfl w y h0 h1
  · exact piece0 H 3 0 _ (good_3_0 H N) _ rfl rfl w y h0 (h1.trans (Nat.zero_add _).symm)
  · exact piece1 H 2 3 _ (good_2_3 H N) _ rfl rfl w y h0 h1
  · exact piece0 H 2 3 _ (good_2_3 H N) _ rfl rfl w y h0 h1
  · exact piece1 H 2 2 _ (good_2_2 H N) _ rfl rfl w y h0 h1
  · exact piece0 H 2 2 _ (good_2_2 H N) _ rfl rfl w y h0 h1
  · exact piece1 H 2 1 _ (good_2_1 H N) _ rfl rfl w y h0 h1
  · exact piece0 H 2 1 _ (good_2_1 H N) _ rfl rfl w y h0 h1
  · exact piece1 H 2 0 _ (good_2_0 H N) _ rfl rfl w y h0 h1
  · exact piece0 H 2 0 _ (good_2_0 H N) _ rfl rfl w y h0 (h1.trans (Nat.zero_add _).symm)
  · exact piece1 H 1 3 _ (good_1_3 H N) _ rfl rfl w y h0 h1
  · exact piece0 H 1 3 _ (good_1_3 H N) _ rfl rfl w y h0 h1
  · exact piece1 H 1 2 _ (good_1_2 H N) _ rfl rfl w y h0 h1
  · exact piece0 H 1 2 _ (good_1_2 H N) _ rfl rfl w y h0 h1
  · exact piece1 H 1 1 _ (good_1_1 H N) _ rfl rfl w y h0 h1
  · exact piece0 H 1 1 _ (good_1_1 H N) _ rfl rfl w y h0 h1
  · exact piece1 H 1 0 _ (good_1_0 H N) _ rfl rfl w y h0 h1
  · exact piece0 H 1 0 _ (good_1_0 H N) _ rfl rfl w y h0 (h1.trans (Nat.zero_add _).symm)
  · exact piece1 H 0 3 _ (good_0_3 H N) _ rfl rfl w y (h0.trans (Nat.zero_add _).symm) h1
  · exact piece0 H 0 3 _ (good_0_3 H N) _ rfl rfl w y (h0.trans (Nat.zero_add _).symm) h1
  · exact piece1 H 0 2 _ (good_0_2 H N) _ rfl rfl w y (h0.trans (Nat.zero_add _).symm) h1
  · exact piece0 H 0 2 _ (good_0_2 H N) _ rfl rfl w y (h0.trans (Nat.zero_add _).symm) h1
  · exact piece1 H 0 1 _ (good_0_1 H N) _ rfl rfl w y (h0.trans (Nat.zero_add _).symm) h1
  · exact piece0 H 0 1 _ (good_0_1 H N) _ rfl rfl w y (h0.trans (Nat.zero_add _).symm) h1
  · exact piece1 H 0 0 _ (good_0_0 H N) _ rfl rfl w y (h0.trans (Nat.zero_add _).symm) h1
  · exact piece0 H 0 0 _ (good_0_0 H N) _ rfl rfl w y (h0.trans (Nat.zero_add _).symm) (h1.trans (Nat.zero_add _).symm)

end Cert.Proof.Att

end
-- ==== Proof.AttBlk.lean ====
/- What each window's block of the attention launch holds at an index: the argument it is cut from. -/
module

public import proofs.«01_k».proof.Proof.Gen.KernelIdeal.Value
public import proofs.«01_k».proof.Proof.AttOut
public import Idealize.ShloMosaic.Lib.Pipeline.ValueKit
public import Idealize.ShloMosaic.Lib.StableHlo.ReadAt
public import Idealize.ShloMosaic.Lib.Pointwise

@[expose] public section

set_option maxRecDepth 16384

noncomputable section

namespace Cert.Proof.Att

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The windows' block indices, over the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] :=
  (by decide +kernel : ∀ t : Fin grid0.N, _)

theorem V_v1_apply (c : Dev nD) (R : Fin 256) (f : Fin 1024) (b r : Fin 16) (h i : Fin 4) (e : Fin 64)
    (hR : R.val = b.val * 16 + r.val) (hf : f.val = h.val * 256 + i.val * 64 + e.val) :
    V m c main_v1 (ix2 R f) = m ((c : Thread nD τ).loc main_arg0) (ix5 b r h i e) := by
  unfold V hostOps0
  after_reads_at
  blk_ext []

theorem iblk0_apply (c : Dev nD) (t : Fin cfg0.N) (R : Fin 64) (f : Fin 1024) (b r : Fin 16) (h i : Fin 4) (e : Fin 64)
    (hR : t.val * 64 + R.val = b.val * 16 + r.val) (hf : f.val = h.val * 256 + i.val * 64 + e.val) :
    (iblk m c 0 t : Vec Ideal S64x1024 _) (ix2 R f) = m ((c : Thread nD τ).loc main_arg0) (ix5 b r h i e) := by
  have ht : t.val < 4 := lt_of_lt_of_eq t.isLt N_0
  refine Eq.trans ?_ (V_v1_apply m c ⟨t.val * 64 + R.val, by omega⟩ f b r h i e hR hf)
  blk_ext [iblk, idx t]

theorem V_v11_apply (c : Dev nD) (R : Fin 2048) (f : Fin 256) (b : Fin 16) (r : Fin 128) (h : Fin 4) (e : Fin 64)
    (hR : R.val = b.val * 128 + r.val) (hf : f.val = h.val * 64 + e.val) :
    V m c main_v11 (ix2 R f) = m ((c : Thread nD τ).loc main_arg3) (ix4 b r h e) := by
  unfold V hostOps0
  after_reads_at
  blk_ext []

theorem iblk1_apply (c : Dev nD) (t : Fin cfg0.N) (R : Fin 512) (f : Fin 256) (b : Fin 16) (r : Fin 128) (h : Fin 4) (e : Fin 64)
    (hR : t.val * 512 + R.val = b.val * 128 + r.val) (hf : f.val = h.val * 64 + e.val) :
    (iblk m c 1 t : Vec Ideal S512x256 _) (ix2 R f) = m ((c : Thread nD τ).loc main_arg3) (ix4 b r h e) := by
  have ht : t.val < 4 := lt_of_lt_of_eq t.isLt N_0
  refine Eq.trans ?_ (V_v11_apply m c ⟨t.val * 512 + R.val, by omega⟩ f b r h e hR hf)
  blk_ext [iblk, idx t]

theorem V_v2_apply (c : Dev nD) (R : Fin 256) (f : Fin 256) (b : Fin 16) (r : Fin 16) (h : Fin 4) (e : Fin 64)
    (hR : R.val = b.val * 16 + r.val) (hf : f.val = h.val * 64 + e.val) :
    V m c main_v2 (ix2 R f) = m ((c : Thread nD τ).loc main_arg1) (ix4 b r h e) := by
  unfold V hostOps0
  after_reads_at
  blk_ext []

theorem iblk2_apply (c : Dev nD) (t : Fin cfg0.N) (R : Fin 64) (f : Fin 256) (b : Fin 16) (r : Fin 16) (h : Fin 4) (e : Fin 64)
    (hR : t.val * 64 + R.val = b.val * 16 + r.val) (hf : f.val = h.val * 64 + e.val) :
    (iblk m c 2 t : Vec Ideal S64x256 _) (ix2 R f) = m ((c : Thread nD τ).loc main_arg1) (ix4 b r h e) := by
  have ht : t.val < 4 := lt_of_lt_of_eq t.isLt N_0
  refine Eq.trans ?_ (V_v2_apply m c ⟨t.val * 64 + R.val, by omega⟩ f b r h e hR hf)
  blk_ext [iblk, idx t]

theorem V_v12_apply (c : Dev nD) (R : Fin 2048) (f : Fin 256) (b : Fin 16) (r : Fin 128) (h : Fin 4) (e : Fin 64)
    (hR : R.val = b.val * 128 + r.val) (hf : f.val = h.val * 64 + e.val) :
    V m c main_v12 (ix2 R f) = m ((c : Thread nD τ).loc main_arg4) (ix4 b r h e) := by
  unfold V hostOps0
  after_reads_at
  blk_ext []

theorem iblk3_apply (c : Dev nD) (t : Fin cfg0.N) (R : Fin 512) (f : Fin 256) (b : Fin 16) (r : Fin 128) (h : Fin 4) (e : Fin 64)
    (hR : t.val * 512 + R.val = b.val * 128 + r.val) (hf : f.val = h.val * 64 + e.val) :
    (iblk m c 3 t : Vec Ideal S512x256 _) (ix2 R f) = m ((c : Thread nD τ).loc main_arg4) (ix4 b r h e) := by
  have ht : t.val < 4 := lt_of_lt_of_eq t.isLt N_0
  refine Eq.trans ?_ (V_v12_apply m c ⟨t.val * 512 + R.val, by omega⟩ f b r h e hR hf)
  blk_ext [iblk, idx t]

theorem V_v3_apply (c : Dev nD) (R : Fin 256) (f : Fin 256) (b : Fin 16) (r : Fin 16) (h : Fin 4) (e : Fin 64)
    (hR : R.val = b.val * 16 + r.val) (hf : f.val = h.val * 64 + e.val) :
    V m c main_v3 (ix2 R f) = m ((c : Thread nD τ).loc main_arg2) (ix4 b r h e) := by
  unfold V hostOps0
  after_reads_at
  blk_ext []

theorem iblk4_apply (c : Dev nD) (t : Fin cfg0.N) (R : Fin 64) (f : Fin 256) (b : Fin 16) (r : Fin 16) (h : Fin 4) (e : Fin 64)
    (hR : t.val * 64 + R.val = b.val * 16 + r.val) (hf : f.val = h.val * 64 + e.val) :
    (iblk m c 4 t : Vec Ideal S64x256 _) (ix2 R f) = m ((c : Thread nD τ).loc main_arg2) (ix4 b r h e) := by
  have ht : t.val < 4 := lt_of_lt_of_eq t.isLt N_0
  refine Eq.trans ?_ (V_v3_apply m c ⟨t.val * 64 + R.val, by omega⟩ f b r h e hR hf)
  blk_ext [iblk, idx t]

theorem V_v10_apply (c : Dev nD) (h : Fin 4) (L : Fin 512) (i : Fin 4) (l : Fin 128) (hl : L.val = i.val * 128 + l.val) :
    V m c main_v10 (ix2 h L) = m ((c : Thread nD τ).loc main_arg5) (ix1 ⟨h.val * 4 + i.val, by omega⟩) := by
  unfold V hostOps0
  after_reads_at
  blk_ext []

theorem iblk5_apply (c : Dev nD) (t : Fin cfg0.N) (h : Fin 4) (L : Fin 512) (i : Fin 4) (l : Fin 128) (hl : L.val = i.val * 128 + l.val) :
    (iblk m c 5 t : Vec Ideal S4x512 _) (ix2 h L) = m ((c : Thread nD τ).loc main_arg5) (ix1 ⟨h.val * 4 + i.val, by omega⟩) := by
  refine Eq.trans ?_ (V_v10_apply m c h L i l hl)
  blk_ext [iblk, idx t]

theorem V_v5_apply (c : Dev nD) (R : Fin 256) (f : Fin 1024) (b r : Fin 16) (hR : R.val = b.val * 16 + r.val) :
    V m c main_v5 (ix2 R f) = m ((c : Thread nD τ).loc main_arg6) (ix3 b r f) := by
  unfold V hostOps0
  after_reads_at
  blk_ext []

theorem iblk6_apply (c : Dev nD) (t : Fin cfg0.N) (R : Fin 64) (f : Fin 1024) (b r : Fin 16)
    (hR : t.val * 64 + R.val = b.val * 16 + r.val) :
    (iblk m c 6 t : Vec Ideal S64x1024 _) (ix2 R f) = m ((c : Thread nD τ).loc main_arg6) (ix3 b r f) := by
  have ht : t.val < 4 := lt_of_lt_of_eq t.isLt N_0
  refine Eq.trans ?_ (V_v5_apply m c ⟨t.val * 64 + R.val, by omega⟩ f b r hR)
  blk_ext [iblk, idx t]

theorem V_v7_apply (c : Dev nD) (R : Fin 256) (f : Fin 1024) (b r : Fin 16) (hR : R.val = b.val * 16 + r.val) :
    V m c main_v7 (ix2 R f) = m ((c : Thread nD τ).loc main_arg7) (ix3 b r f) := by
  unfold V hostOps0
  after_reads_at
  blk_ext []

theorem iblk7_apply (c : Dev nD) (t : Fin cfg0.N) (R : Fin 64) (f : Fin 1024) (b r : Fin 16)
    (hR : t.val * 64 + R.val = b.val * 16 + r.val) :
    (iblk m c 7 t : Vec Ideal S64x1024 _) (ix2 R f) = m ((c : Thread nD τ).loc main_arg7) (ix3 b r f) := by
  have ht : t.val < 4 := lt_of_lt_of_eq t.isLt N_0
  refine Eq.trans ?_ (V_v7_apply m c ⟨t.val * 64 + R.val, by omega⟩ f b r hR)
  blk_ext [iblk, idx t]

/-- The batch rows of a grid point. -/
def brow (t : Fin cfg0.N) (g : Fin 4) : Fin 16 := ⟨t.val * 4 + g.val, by have ht : t.val < 4 := lt_of_lt_of_eq t.isLt N_0; omega⟩

/-- The blocks of a grid point hold its batch rows of the arguments. -/
theorem blk (c : Dev nD) (t : Fin cfg0.N) :
    Blk (brow t) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7))
      (iblk m c 0 t) (iblk m c 1 t) (iblk m c 2 t) (iblk m c 3 t) (iblk m c 4 t) (iblk m c 5 t) (iblk m c 6 t) (iblk m c 7 t) where
  h0 g r h i e R f hR hf := iblk0_apply m c t R f _ r h i e (show t.val * 64 + R.val = (t.val * 4 + g.val) * 16 + r.val by omega) hf
  h1 g j h e R f hR hf := iblk1_apply m c t R f _ j h e (show t.val * 512 + R.val = (t.val * 4 + g.val) * 128 + j.val by omega) hf
  h2 g j h e R f hR hf := iblk2_apply m c t R f _ j h e (show t.val * 64 + R.val = (t.val * 4 + g.val) * 16 + j.val by omega) hf
  h3 g j h e R f hR hf := iblk3_apply m c t R f _ j h e (show t.val * 512 + R.val = (t.val * 4 + g.val) * 128 + j.val by omega) hf
  h4 g j h e R f hR hf := iblk4_apply m c t R f _ j h e (show t.val * 64 + R.val = (t.val * 4 + g.val) * 16 + j.val by omega) hf
  h5 h i l L hl := iblk5_apply m c t h L i l hl
  h6 g r R f hR := iblk6_apply m c t R f _ r (show t.val * 64 + R.val = (t.val * 4 + g.val) * 16 + r.val by omega)
  h7 g r R f hR := iblk7_apply m c t R f _ r (show t.val * 64 + R.val = (t.val * 4 + g.val) * 16 + r.val by omega)

end Cert.Proof.Att

end
-- ==== Proof.AttVal.lean ====
/- The attention launch: what each grid point writes back is its block of rows of the reference's result of the same
   arguments, so the result array ends at the reference's term. -/
module

public import proofs.«01_k».proof.Proof.AttBlk

@[expose] public section

set_option maxRecDepth 16384

noncomputable section

namespace Cert.Proof.Att

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the kernel's argument arrays. -/
abbrev out (c : Dev nD) : FVec Ideal S256x1024 .bf16 :=
  Cert.ReferenceIdeal.Read.val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's result at a row of the flattened array, its batch and query the quotient and remainder. -/
theorem ref_flat (q : Vec Ideal S16x16x4x4x64 .f32) (k v : Vec Ideal S16x16x4x64 .f32) (ck cv : Vec Ideal S16x128x4x64 .f32)
    (sk : Vec Ideal S16 .f32) (yc ga : Vec Ideal S16x16x1024 .f32) (I : S256x1024.Idx) (b r : Fin 16) (h i : Fin 4) (d : Fin 64)
    (f : Fin 1024) (h0 : (I 0).val = b.val * 16 + r.val) (h1 : (I 1).val = f.val) (hf : f.val = h.val * 256 + i.val * 64 + d.val) :
    Cert.ReferenceIdeal.Read.val_main_v28 (F := Ideal) q k v ck cv sk yc ga I = yc (ix3 b r f) + ga (ix3 b r f)
      * soft (rscore q k ck b r h i) (sk (ix1 ⟨h.val * 4 + i.val, by omega⟩)) (rval v cv b h d) := by
  refine (Cert.ReferenceIdeal.Read.val_main_v27_apply q k v ck cv sk yc ga I).trans ?_
  refine Eq.trans (congrArg _ ?_) (ref_apply q k v ck cv sk yc ga b r h i d f hf)
  have hb := b.isLt
  have hr := r.isLt
  have hj := f.isLt
  funext a
  match a with
  | ⟨0, _⟩ => exact Fin.ext (by show ((I 0).val * 1024 + (I 1).val) / 16384 = b.val; omega)
  | ⟨1, _⟩ => exact Fin.ext (by show ((I 0).val * 1024 + (I 1).val) / 1024 % 16 = r.val; omega)
  | ⟨2, _⟩ => exact Fin.ext (by show ((I 0).val * 1024 + (I 1).val) % 1024 = f.val; omega)

/-- What the body leaves at an index of point `t`'s block is the reference's result at the index of the array there. -/
theorem point (c : Dev nD) (t : Fin cfg0.N)
    (N : Nums (m ((c : Thread nD τ).loc main_arg0)) (m ((c : Thread nD τ).loc main_arg1)) (m ((c : Thread nD τ).loc main_arg3))
      (m ((c : Thread nD τ).loc main_arg5))) (R : Fin 64) (f : Fin 1024) :
    out0_8 (F := Ideal) (iblk m c 0 t) (iblk m c 1 t) (iblk m c 2 t) (iblk m c 3 t) (iblk m c 4 t) (iblk m c 5 t) (iblk m c 6 t)
        (iblk m c 7 t) (ix2 R f)
      = out m c (((cfg0.win 8).blk t).view.emb (ix2 R f)) := by
  have ht : t.val < 4 := lt_of_lt_of_eq t.isLt N_0
  have hR := R.isLt
  have hf := f.isLt
  refine (out_spec (blk m c t) N (ix2 R f)).trans ?_
  refine (ref_flat _ _ _ _ _ _ _ _ _ (brow t ⟨R.val / 16, by omega⟩) ⟨R.val % 16, by omega⟩ ⟨f.val / 256, by omega⟩
    ⟨f.val / 64 % 4, by omega⟩ ⟨f.val % 64, by omega⟩ f ?_ ?_ ?_).symm
  · blk_simp [idx t]
    show t.val * 64 + R.val = (t.val * 4 + R.val / 16) * 16 + R.val % 16
    omega
  · blk_simp [idx t]
  · show f.val = f.val / 256 * 256 + f.val / 64 % 4 * 64 + f.val % 64
    omega

/-- After the run the result array is the reference's result of the arguments, when those the scores are made of are
    real numbers. -/
theorem final (c : Dev nD)
    (N : Nums (m ((c : Thread nD τ).loc main_arg0)) (m ((c : Thread nD τ).loc main_arg1)) (m ((c : Thread nD τ).loc main_arg3))
      (m ((c : Thread nD τ).loc main_arg5))) :
    (dats m 0 c).arrAt 8 cfg0.N = out m c := by
  refine (dats m 0 c).arrAt_eq_of_covers 8 _ (by decide +kernel) fun t _ y => ?_
  blk_simp
  rw [after0_8]; frame_out
  idx_vars y
  exact point m c t N _ _

end Cert.Proof.Att

end
-- ==== Proof.AttClaims.lean ====
/- The claims of the sample attention. -/
module

public import proofs.«01_k».proof.Defs
public import proofs.«01_k».proof.Proof.AttVal
public import proofs.«01_k».proof.Proof.Gen.Kernel.Frame
public import proofs.«01_k».proof.Proof.Gen.KernelIdeal.Value
public import proofs.«01_k».proof.Proof.Gen.ReferenceIdeal.Run
public import Idealize.ShloMosaic.Lib.Quiescent

@[expose] public section

set_option maxRecDepth 16384

noncomputable section

namespace Cert.Proof.Att

open Idealize.ShloMosaic Idealize.ShloMosaic.TcCoe Idealize.SL.Sem

/-- The kernel's frame at its float formats and at the extended reals. -/
theorem frame_k : Cert.quiescent_Kernel := fun m ρ _ => Cert.Kernel.Gen.frame m ρ
theorem frame_ki : Cert.quiescent_KernelIdeal := fun m ρ _ => Cert.KernelIdeal.Gen.frame m ρ
theorem frame_ki_pre [Cert.Pre_finite_scores.Facts] : Cert.quiescent_KernelIdeal_pre_finite_scores :=
  fun m ρ _ => Cert.KernelIdeal.Gen.frame m ρ

/-- The reference's frame: its run read at the arguments; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_pre [Cert.Pre_finite_scores.Facts] : Cert.quiescent_ReferenceIdeal_pre_finite_scores := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The three constants the idealized kernel names are the kernel's literals, rounded. -/
theorem preserves : Cert.preserves_Kernel_KernelIdeal :=
  ⟨IdealRules.named_const.statement Cert.KernelIdeal.κ "qscale" .f32 0x3E38AA3B#32 _ rfl,
    IdealRules.named_const.statement Cert.KernelIdeal.κ "mask" .f32 0xF149F2CA#32 _ rfl,
    IdealRules.named_const.statement Cert.KernelIdeal.κ "log2e" .f32 0x3FB8AA3B#32 _ rfl⟩

/-- An array whose absolute values are below infinity holds numbers. -/
theorem num_of_pre {s : Shape} (x : FVec Ideal s .f32) (hb : Cert.Pre_finite_scores.S_.BroadcastsInDim s (![] : Fin 0 → Fin s.rank))
    (e : cmpf .olt (Host.absf x) (broadcastInDim s ![] hb (constant (F := Ideal) Cert.Pre_finite_scores.S_ .f32 0x7F800000#32)) = fun _ => 1#1)
    (i : s.Idx) : ∃ a : ℝ, x i = a := by
  have h := congrFun e i
  refine num_of_abs (x i) ?_
  have inf : Ideal.ofBits FTy.f32 0x7F800000#32 = (⊤ : EReal) := by
    simp [Ideal.ofBits, Ideal.ieee]
  rw [← inf]
  by_contra hn
  have h2 : Ideal.cmp .olt (max (x i) (-x i)) (Ideal.ofBits FTy.f32 0x7F800000#32) = 1#1 := h
  simp [Ideal.cmp, hn] at h2

theorem nums [Cert.Pre_finite_scores.Facts]
    (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    Nums (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg3))
      (m ((c : Thread Cert.KernelIdeal.nD Cert.KernelIdeal.τ).loc Cert.KernelIdeal.main_arg5)) where
  q i := num_of_pre _ _ (h c).1 i
  k i := num_of_pre _ _ (h c).2.1 i
  ck i := num_of_pre _ _ (h c).2.2.1 i
  sk i := num_of_pre _ _ (h c).2.2.2 i

/-- From equal arguments, finite queries, keys and sinks, the kernel's result and the reference's are equal at the
    extended reals. -/
theorem algebraic [Cert.Pre_finite_scores.Facts] : Cert.algebraic_KernelIdeal_ReferenceIdeal_pre_finite_scores := by
  intro m ρ m' ρ' hp hag
  refine ⟨fun c => out m c, ?_, ?_⟩
  · exact (θ_run Cert.KernelIdeal.defs _ _).mono (fun _ h c => ⟨(h c).1.trans (final m c (nums m hp c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq]
    obtain ⟨h0, h1, h2, h3, h4, h5, h6, h7⟩ := hag c
    rw [h0, h1, h2, h3, h4, h5, h6, h7]

end Cert.Proof.Att

end
-- ==== Proof.FfnPay.lean ====
/- The arithmetic of the output projection and the feed-forward block at one row, and the kernel body's one payload and
   the reference's last stage read at a row in its terms. -/
module

public import proofs.«01_k».proof.Proof.Gen.Kernel2Ideal.Skeleton
public import proofs.«01_k».proof.Proof.Gen.Reference2Ideal.Read
public import Idealize.ShloMosaic.Lib.Pointwise

@[expose] public section

set_option maxRecDepth 16384

noncomputable section

namespace Cert.Proof.Ffn

open Idealize.ShloMosaic

/-- The residual row plus the output projection of the merged row. -/
def hid (x g : Fin 1024 → EReal) (wo : Fin 1024 → Fin 1024 → EReal) (j : Fin 1024) : EReal :=
  x j + ∑ k, g k * wo k j

/-- A row scaled by the inverse root of its mean square, then by the weights. -/
def nrm (h nw : Fin 1024 → EReal) (j : Fin 1024) : EReal :=
  h j * Ideal.rsqrt (Ideal.div (∑ k, h k * h k) (Ideal.ofBits .f32 0x44800000#32) + Ideal.ofBits .f32 0x358637BD#32) * nw j

/-- The gated product of the two up projections of a row. -/
def gat (n : Fin 1024 → EReal) (wg wu : Fin 1024 → Fin 2816 → EReal) (f : Fin 2816) : EReal :=
  (∑ k, n k * wg k f) * Ideal.logistic (∑ k, n k * wg k f) * ∑ k, n k * wu k f

/-- One row of the block's result: the projected row plus the down projection of the gated product of its norm. -/
def row (x g : Fin 1024 → EReal) (wo : Fin 1024 → Fin 1024 → EReal) (nw : Fin 1024 → EReal)
    (wg wu : Fin 1024 → Fin 2816 → EReal) (wd : Fin 2816 → Fin 1024 → EReal) (j : Fin 1024) : EReal :=
  hid x g wo j + ∑ f, gat (nrm (hid x g wo) nw) wg wu f * wd f j

/-- `row` depends on its arguments' entries only. -/
theorem row_congr {x x' g g' : Fin 1024 → EReal} {wo wo' : Fin 1024 → Fin 1024 → EReal} {nw nw' : Fin 1024 → EReal}
    {wg wg' wu wu' : Fin 1024 → Fin 2816 → EReal} {wd wd' : Fin 2816 → Fin 1024 → EReal}
    (hx : ∀ k, x k = x' k) (hg : ∀ k, g k = g' k) (ho : ∀ k l, wo k l = wo' k l) (hn : ∀ k, nw k = nw' k)
    (h1 : ∀ k l, wg k l = wg' k l) (h2 : ∀ k l, wu k l = wu' k l) (h3 : ∀ k l, wd k l = wd' k l) (j : Fin 1024) :
    row x g wo nw wg wu wd j = row x' g' wo' nw' wg' wu' wd' j := by
  rw [funext hx, funext hg, funext fun k => funext (ho k), funext hn, funext fun k => funext (h1 k),
    funext fun k => funext (h2 k), funext fun k => funext (h3 k)]

open Cert.Kernel2Ideal Cert.Kernel2Ideal.Gen in
/-- The kernel body's payload at row `r` is `row` of the blocks' rows. -/
theorem pay_apply (x : Vec Ideal S512x1024 .f32) (g : Vec Ideal S512x1024 .bf16) (wo : Vec Ideal S1024x1024 .bf16)
    (nw : Vec Ideal S1x1024 .f32) (wg wu : Vec Ideal S1024x2816 .bf16) (wd : Vec Ideal S2816x1024 .bf16)
    (r : Fin 512) (j : Fin 1024) :
    k0_pay1 (F := Ideal) x g wo nw wg wu wd (ix2 r j)
      = row (fun k => x (ix2 r k)) (fun k => g (ix2 r k)) (fun k l => wo (ix2 k l)) (fun k => nw (ix2 0 k))
          (fun k l => wg (ix2 k l)) (fun k l => wu (ix2 k l)) (fun k l => wd (ix2 k l)) j := by
  pointwise [k0_pay1, row, gat, nrm, hid]

open Cert.Reference2Ideal Cert.Reference2Ideal.Read in
/-- The reference's result at row `r` of batch `b` is `row` of that row. -/
theorem ref_apply (g x : Vec Ideal S4x8192x1024 .f32) (wo : Vec Ideal S1024x1024 .f32) (nw : Vec Ideal S1024 .f32)
    (wg wu : Vec Ideal S1024x2816 .f32) (wd : Vec Ideal S2816x1024 .f32) (b : Fin 4) (r : Fin 8192) (j : Fin 1024) :
    val_main_v20 (F := Ideal) g x wo nw wg wu wd (ix3 b r j)
      = row (fun k => x (ix3 b r k)) (fun k => g (ix3 b r k)) (fun k l => wo (ix2 k l)) (fun k => nw (ix1 k))
          (fun k l => wg (ix2 k l)) (fun k l => wu (ix2 k l)) (fun k l => wd (ix2 k l)) j := by
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_cst, val_main_cst_0, val_main_cst_1,
    val_main_call0_v0, val_main_call0_v1, val_main_call0_v2, val_main_call0_v3, val_main_call0_v4, val_main_call0_v5,
    val_main_call0_cst, val_main_call0_cst_0, row, gat, nrm, hid]
  rfl

end Cert.Proof.Ffn

end
-- ==== Proof.FfnVal.lean ====
/- The output projection and feed-forward launch: what each grid point writes back is its block of rows of the
   reference's result of the same arguments, so the result array ends at the reference's term. -/
module

public import proofs.«01_k».proof.Proof.Gen.Kernel2Ideal.Value
public import proofs.«01_k».proof.Proof.FfnPay
public import Idealize.ShloMosaic.Lib.Pipeline.ValueKit
public import Idealize.ShloMosaic.Lib.StableHlo.ReadAt

@[expose] public section

set_option maxRecDepth 16384

noncomputable section

namespace Cert.Proof.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The reference's result as a function of the kernel's argument arrays. -/
abbrev out (c : Dev nD) : FVec Ideal S32768x1024 .f32 :=
  Cert.Reference2Ideal.Read.val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The reference's result at a row of the flattened array, its batch and position the quotient and remainder. -/
theorem ref_flat (g x : Vec Ideal S4x8192x1024 .f32) (wo : Vec Ideal S1024x1024 .f32) (nw : Vec Ideal S1024 .f32)
    (wg wu : Vec Ideal S1024x2816 .f32) (wd : Vec Ideal S2816x1024 .f32) (i : S32768x1024.Idx) (b : Fin 4) (r : Fin 8192)
    (j : Fin 1024) (h0 : (i 0).val = b.val * 8192 + r.val) (h1 : (i 1).val = j.val) :
    Cert.Reference2Ideal.Read.val_main_v21 (F := Ideal) g x wo nw wg wu wd i
      = row (fun k => x (ix3 b r k)) (fun k => g (ix3 b r k)) (fun k l => wo (ix2 k l)) (fun k => nw (ix1 k))
          (fun k l => wg (ix2 k l)) (fun k l => wu (ix2 k l)) (fun k l => wd (ix2 k l)) j := by
  rw [Cert.Reference2Ideal.Read.val_main_v21_apply]
  refine Eq.trans (congrArg _ ?_) (ref_apply g x wo nw wg wu wd b r j)
  have hb := b.isLt
  have hr := r.isLt
  have hj := j.isLt
  funext a
  match a with
  | ⟨0, _⟩ => exact Fin.ext (by show ((i 0).val * 1024 + (i 1).val) / 8388608 = b.val; omega)
  | ⟨1, _⟩ => exact Fin.ext (by show ((i 0).val * 1024 + (i 1).val) / 1024 % 8192 = r.val; omega)
  | ⟨2, _⟩ => exact Fin.ext (by show ((i 0).val * 1024 + (i 1).val) % 1024 = j.val; omega)

/-- The windows' block indices, over the grid. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-! What each window's block holds at an index: the argument it is cut from. -/

theorem V_v7_apply (c : Dev nD) (b : Fin 4) (p : Fin 8192) (k : Fin 1024) (r : Fin 32768) (h : r.val = b.val * 8192 + p.val) :
    V m c main_v7 (ix2 r k) = m ((c : Thread nD τ).loc main_arg0) (ix3 b p k) := by
  unfold V hostOps0
  after_reads_at
  blk_ext []

theorem iblk0_apply (c : Dev nD) (t : Fin cfg0.N) (r : Fin 512) (k : Fin 1024) (b : Fin 4) (p : Fin 8192)
    (h : t.val * 512 + r.val = b.val * 8192 + p.val) :
    (iblk m c 0 t : Vec Ideal S512x1024 _) (ix2 r k) = m ((c : Thread nD τ).loc main_arg0) (ix3 b p k) := by
  have ht : t.val < 64 := lt_of_lt_of_eq t.isLt N_0
  refine Eq.trans ?_ (V_v7_apply m c b p k ⟨t.val * 512 + r.val, by omega⟩ h)
  blk_ext [iblk, idx t]

theorem V_v0_apply (c : Dev nD) (b : Fin 4) (p : Fin 8192) (k : Fin 1024) (r : Fin 32768) (h : r.val = b.val * 8192 + p.val) :
    V m c main_v0 (ix2 r k) = m ((c : Thread nD τ).loc main_arg1) (ix3 b p k) := by
  unfold V hostOps0
  after_reads_at
  blk_ext []

theorem iblk1_apply (c : Dev nD) (t : Fin cfg0.N) (r : Fin 512) (k : Fin 1024) (b : Fin 4) (p : Fin 8192)
    (h : t.val * 512 + r.val = b.val * 8192 + p.val) :
    (iblk m c 1 t : Vec Ideal S512x1024 _) (ix2 r k) = m ((c : Thread nD τ).loc main_arg1) (ix3 b p k) := by
  have ht : t.val < 64 := lt_of_lt_of_eq t.isLt N_0
  refine Eq.trans ?_ (V_v0_apply m c b p k ⟨t.val * 512 + r.val, by omega⟩ h)
  blk_ext [iblk, idx t]

theorem iblk2_apply (c : Dev nD) (t : Fin cfg0.N) (k : Fin 1024) (l : Fin 1024) :
    (iblk m c 2 t : Vec Ideal S1024x1024 _) (ix2 k l) = m ((c : Thread nD τ).loc main_arg2) (ix2 k l) := by
  have e : V m c main_v1 (ix2 k l) = m ((c : Thread nD τ).loc main_arg2) (ix2 k l) := by
    unfold V hostOps0
    after_reads_at
  refine Eq.trans ?_ e
  blk_ext [iblk, idx t]

theorem iblk4_apply (c : Dev nD) (t : Fin cfg0.N) (k : Fin 1024) (l : Fin 2816) :
    (iblk m c 4 t : Vec Ideal S1024x2816 _) (ix2 k l) = m ((c : Thread nD τ).loc main_arg4) (ix2 k l) := by
  have e : V m c main_v3 (ix2 k l) = m ((c : Thread nD τ).loc main_arg4) (ix2 k l) := by
    unfold V hostOps0
    after_reads_at
  refine Eq.trans ?_ e
  blk_ext [iblk, idx t]

theorem iblk5_apply (c : Dev nD) (t : Fin cfg0.N) (k : Fin 1024) (l : Fin 2816) :
    (iblk m c 5 t : Vec Ideal S1024x2816 _) (ix2 k l) = m ((c : Thread nD τ).loc main_arg5) (ix2 k l) := by
  have e : V m c main_v4 (ix2 k l) = m ((c : Thread nD τ).loc main_arg5) (ix2 k l) := by
    unfold V hostOps0
    after_reads_at
  refine Eq.trans ?_ e
  blk_ext [iblk, idx t]

theorem iblk6_apply (c : Dev nD) (t : Fin cfg0.N) (k : Fin 2816) (l : Fin 1024) :
    (iblk m c 6 t : Vec Ideal S2816x1024 _) (ix2 k l) = m ((c : Thread nD τ).loc main_arg6) (ix2 k l) := by
  have e : V m c main_v5 (ix2 k l) = m ((c : Thread nD τ).loc main_arg6) (ix2 k l) := by
    unfold V hostOps0
    after_reads_at
  refine Eq.trans ?_ e
  blk_ext [iblk, idx t]

theorem iblk3_apply (c : Dev nD) (t : Fin cfg0.N) (k : Fin 1024) :
    (iblk m c 3 t : Vec Ideal S1x1024 _) (ix2 0 k) = m ((c : Thread nD τ).loc main_arg3) (ix1 k) := by
  have e : V m c main_v2 (ix2 0 k) = m ((c : Thread nD τ).loc main_arg3) (ix1 k) := by
    unfold V hostOps0
    after_reads_at
  refine Eq.trans ?_ e
  blk_ext [iblk, idx t]

/-- What the body leaves at an index of point `t`'s block is the reference's result at the index of the array there. -/
theorem point (c : Dev nD) (t : Fin cfg0.N) (r : Fin 512) (j : Fin 1024) :
    k0_pay1 (F := Ideal) (iblk m c 1 t) (iblk m c 0 t) (iblk m c 2 t) (iblk m c 3 t) (iblk m c 4 t) (iblk m c 5 t) (iblk m c 6 t) (ix2 r j)
      = out m c (((cfg0.win 7).blk t).view.emb (ix2 r j)) := by
  have ht : t.val < 64 := lt_of_lt_of_eq t.isLt N_0
  have hr := r.isLt
  have hh : t.val * 512 + r.val = t.val / 16 * 8192 + (t.val % 16 * 512 + r.val) := by omega
  refine Eq.trans ?_ (ref_flat _ _ _ _ _ _ _ _ ⟨t.val / 16, by omega⟩ ⟨t.val % 16 * 512 + r.val, by omega⟩ j ?_ ?_).symm
  · refine (pay_apply _ _ _ _ _ _ _ r j).trans ?_
    refine row_congr (fun k => ?_) (fun k => ?_) (fun k l => ?_) (fun k => ?_) (fun k l => ?_) (fun k l => ?_) (fun k l => ?_) j
    · exact iblk1_apply m c t r k _ _ hh
    · exact iblk0_apply m c t r k _ _ hh
    · exact iblk2_apply m c t k l
    · exact iblk3_apply m c t k
    · exact iblk4_apply m c t k l
    · exact iblk5_apply m c t k l
    · exact iblk6_apply m c t k l
  · blk_simp [idx t]; exact hh
  · blk_simp [idx t]

/-- After the run the result array is the reference's result of the arguments. -/
theorem final (c : Dev nD) : (dats m 0 c).arrAt 7 cfg0.N = out m c := by
  refine (dats m 0 c).arrAt_eq_of_covers 7 _ (by decide +kernel) fun t _ y => ?_
  blk_simp
  rw [after0_7]; frame_out
  idx_vars y
  exact point m c t _ _

end Cert.Proof.Ffn

end
-- ==== Proof.FfnClaims.lean ====
/- The five claims of the output projection and feed-forward block. -/
module

public import proofs.«01_k».proof.Defs
public import proofs.«01_k».proof.Proof.FfnVal
public import proofs.«01_k».proof.Proof.Gen.Kernel2.Frame
public import proofs.«01_k».proof.Proof.Gen.Kernel2Ideal.Value
public import proofs.«01_k».proof.Proof.Gen.Reference2Ideal.Run
public import Idealize.ShloMosaic.Lib.Quiescent

@[expose] public section

set_option maxRecDepth 16384

noncomputable section

namespace Cert.Proof.Ffn

open Idealize.ShloMosaic Idealize.ShloMosaic.TcCoe Idealize.SL.Sem

/-- The kernel's frame at its float formats and at the extended reals. -/
theorem frame_k : Cert.quiescent_Kernel2 := fun m ρ _ => Cert.Kernel2.Gen.frame m ρ
theorem frame_ki : Cert.quiescent_Kernel2Ideal := fun m ρ _ => Cert.Kernel2Ideal.Gen.frame m ρ

/-- The reference's frame: its run read at the arguments; it declares no semaphore. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealized kernel is the kernel's own text. -/
theorem preserves : Cert.preserves_Kernel2_Kernel2Ideal := trivial

/-- From equal arguments the kernel's result and the reference's are equal at the extended reals. -/
theorem algebraic : Cert.algebraic_Kernel2Ideal_Reference2Ideal := by
  intro m ρ m' ρ' _ hag
  refine ⟨fun c => out m c, ?_, ?_⟩
  · exact (θ_run Cert.Kernel2Ideal.defs _ _).mono (fun _ h c => ⟨(h c).1.trans (final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    rw [Cert.Reference2Ideal.Read.val_main_v21_eq]
    obtain ⟨h0, h1, h2, h3, h4, h5, h6⟩ := hag c
    rw [h0, h1, h2, h3, h4, h5, h6]

end Cert.Proof.Ffn

end
-- ==== Proof.FfsPay.lean ====
/- The sample batch's output projection and feed-forward block: the kernel body's one payload and the reference's last
   stage read at a row, in the prompt batch's terms. -/
module

public import proofs.«01_k».proof.Proof.Gen.Kernel3Ideal.Skeleton
public import proofs.«01_k».proof.Proof.Gen.Reference3Ideal.Read
public import proofs.«01_k».proof.Proof.FfnPay
public import Idealize.ShloMosaic.Lib.Pointwise

@[expose] public section

set_option maxRecDepth 16384

noncomputable section

namespace Cert.Proof.Ffs

open Idealize.ShloMosaic

open Ffn (row gat nrm hid)

open Cert.Kernel3Ideal Cert.Kernel3Ideal.Gen in
/-- The kernel body's payload at row `r` is `row` of the blocks' rows. -/
theorem pay_apply (x : Vec Ideal S256x1024 .f32) (g : Vec Ideal S256x1024 .bf16) (wo : Vec Ideal S1024x1024 .bf16)
    (nw : Vec Ideal S1x1024 .f32) (wg wu : Vec Ideal S1024x2816 .bf16) (wd : Vec Ideal S2816x1024 .bf16)
    (r : Fin 256) (j : Fin 1024) :
    k0_pay1 (F := Ideal) x g wo nw wg wu wd (ix2 r j)
      = row (fun k => x (ix2 r k)) (fun k => g (ix2 r k)) (fun k l => wo (ix2 k l)) (fun k => nw (ix2 0 k))
          (fun k l => wg (ix2 k l)) (fun k l => wu (ix2 k l)) (fun k l => wd (ix2 k l)) j := by
  pointwise [k0_pay1, row, gat, nrm, hid]

open Cert.Reference3Ideal Cert.Reference3Ideal.Read in
/-- The reference's result at row `r` of batch `b` is `row` of that row. -/
theorem ref_apply (g x : Vec Ideal S16x16x1024 .f32) (wo : Vec Ideal S1024x1024 .f32) (nw : Vec Ideal S1024 .f32)
    (wg wu : Vec Ideal S1024x2816 .f32) (wd : Vec Ideal S2816x1024 .f32) (b : Fin 16) (r : Fin 16) (j : Fin 1024) :
    val_main_v20 (F := Ideal) g x wo nw wg wu wd (ix3 b r j)
      = row (fun k => x (ix3 b r k)) (fun k => g (ix3 b r k)) (fun k l => wo (ix2 k l)) (fun k => nw (ix1 k))
          (fun k l => wg (ix2 k l)) (fun k l => wu (ix2 k l)) (fun k l => wd (ix2 k l)) j := by
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_cst, val_main_cst_0, val_main_cst_1,
    val_main_call0_v0, val_main_call0_v1, val_main_call0_v2, val_main_call0_v3, val_main_call0_v4, val_main_call0_v5,
    val_main_call0_cst, val_main_call0_cst_0, row, gat, nrm, hid]
  rfl

end Cert.Proof.Ffs

end
-- ==== Proof.FfsVal.lean ====
/- The sample batch's output projection and feed-forward launch: what each grid point writes back is its block of rows of the
   reference's result of the same arguments, so the result array ends at the reference's term. -/
module

public import proofs.«01_k».proof.Proof.Gen.Kernel3Ideal.Value
public import proofs.«01_k».proof.Proof.FfsPay
public import Idealize.ShloMosaic.Lib.Pipeline.ValueKit
public import Idealize.ShloMosaic.Lib.StableHlo.ReadAt

@[expose] public section

set_option maxRecDepth 16384

noncomputable section

namespace Cert.Proof.Ffs

open Cert.Kernel3Ideal Cert.Kernel3Ideal.Gen Idealize.ShloMosaic Idealize.ShloMosaic.TcCoe Idealize.SL.Sem
open Idealize.ShloMosaic.Pipeline (Dat)
open Ffn (row row_congr)

variable (m : (ℓ : Loc nD τ sig) → Buf (Elt Ideal) ℓ)

/-- The reference's result as a function of the kernel's argument arrays. -/
abbrev out (c : Dev nD) : FVec Ideal S256x1024 .f32 :=
  Cert.Reference3Ideal.Read.val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The reference's result at a row of the flattened array, its batch and position the quotient and remainder. -/
theorem ref_flat (g x : Vec Ideal S16x16x1024 .f32) (wo : Vec Ideal S1024x1024 .f32) (nw : Vec Ideal S1024 .f32)
    (wg wu : Vec Ideal S1024x2816 .f32) (wd : Vec Ideal S2816x1024 .f32) (i : S256x1024.Idx) (b : Fin 16) (r : Fin 16)
    (j : Fin 1024) (h0 : (i 0).val = b.val * 16 + r.val) (h1 : (i 1).val = j.val) :
    Cert.Reference3Ideal.Read.val_main_v21 (F := Ideal) g x wo nw wg wu wd i
      = row (fun k => x (ix3 b r k)) (fun k => g (ix3 b r k)) (fun k l => wo (ix2 k l)) (fun k => nw (ix1 k))
          (fun k l => wg (ix2 k l)) (fun k l => wu (ix2 k l)) (fun k l => wd (ix2 k l)) j := by
  rw [Cert.Reference3Ideal.Read.val_main_v21_apply]
  refine Eq.trans (congrArg _ ?_) (ref_apply g x wo nw wg wu wd b r j)
  have hb := b.isLt
  have hr := r.isLt
  have hj := j.isLt
  funext a
  match a with
  | ⟨0, _⟩ => exact Fin.ext (by show ((i 0).val * 1024 + (i 1).val) / 16384 = b.val; omega)
  | ⟨1, _⟩ => exact Fin.ext (by show ((i 0).val * 1024 + (i 1).val) / 1024 % 16 = r.val; omega)
  | ⟨2, _⟩ => exact Fin.ext (by show ((i 0).val * 1024 + (i 1).val) % 1024 = j.val; omega)

/-- The windows' block indices, over the grid. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-! What each window's block holds at an index: the argument it is cut from. -/

theorem V_v7_apply (c : Dev nD) (b : Fin 16) (p : Fin 16) (k : Fin 1024) (r : Fin 256) (h : r.val = b.val * 16 + p.val) :
    V m c main_v7 (ix2 r k) = m ((c : Thread nD τ).loc main_arg0) (ix3 b p k) := by
  unfold V hostOps0
  after_reads_at
  blk_ext []

theorem iblk0_apply (c : Dev nD) (t : Fin cfg0.N) (r : Fin 256) (k : Fin 1024) (b : Fin 16) (p : Fin 16)
    (h : t.val * 256 + r.val = b.val * 16 + p.val) :
    (iblk m c 0 t : Vec Ideal S256x1024 _) (ix2 r k) = m ((c : Thread nD τ).loc main_arg0) (ix3 b p k) := by
  have ht : t.val < 1 := lt_of_lt_of_eq t.isLt N_0
  refine Eq.trans ?_ (V_v7_apply m c b p k ⟨t.val * 256 + r.val, by omega⟩ h)
  blk_ext [iblk, idx t]

theorem V_v0_apply (c : Dev nD) (b : Fin 16) (p : Fin 16) (k : Fin 1024) (r : Fin 256) (h : r.val = b.val * 16 + p.val) :
    V m c main_v0 (ix2 r k) = m ((c : Thread nD τ).loc main_arg1) (ix3 b p k) := by
  unfold V hostOps0
  after_reads_at
  blk_ext []

theorem iblk1_apply (c : Dev nD) (t : Fin cfg0.N) (r : Fin 256) (k : Fin 1024) (b : Fin 16) (p : Fin 16)
    (h : t.val * 256 + r.val = b.val * 16 + p.val) :
    (iblk m c 1 t : Vec Ideal S256x1024 _) (ix2 r k) = m ((c : Thread nD τ).loc main_arg1) (ix3 b p k) := by
  have ht : t.val < 1 := lt_of_lt_of_eq t.isLt N_0
  refine Eq.trans ?_ (V_v0_apply m c b p k ⟨t.val * 256 + r.val, by omega⟩ h)
  blk_ext [iblk, idx t]

theorem iblk2_apply (c : Dev nD) (t : Fin cfg0.N) (k : Fin 1024) (l : Fin 1024) :
    (iblk m c 2 t : Vec Ideal S1024x1024 _) (ix2 k l) = m ((c : Thread nD τ).loc main_arg2) (ix2 k l) := by
  have e : V m c main_v1 (ix2 k l) = m ((c : Thread nD τ).loc main_arg2) (ix2 k l) := by
    unfold V hostOps0
    after_reads_at
  refine Eq.trans ?_ e
  blk_ext [iblk, idx t]

theorem iblk4_apply (c : Dev nD) (t : Fin cfg0.N) (k : Fin 1024) (l : Fin 2816) :
    (iblk m c 4 t : Vec Ideal S1024x2816 _) (ix2 k l) = m ((c : Thread nD τ).loc main_arg4) (ix2 k l) := by
  have e : V m c main_v3 (ix2 k l) = m ((c : Thread nD τ).loc main_arg4) (ix2 k l) := by
    unfold V hostOps0
    after_reads_at
  refine Eq.trans ?_ e
  blk_ext [iblk, idx t]

theorem iblk5_apply (c : Dev nD) (t : Fin cfg0.N) (k : Fin 1024) (l : Fin 2816) :
    (iblk m c 5 t : Vec Ideal S1024x2816 _) (ix2 k l) = m ((c : Thread nD τ).loc main_arg5) (ix2 k l) := by
  have e : V m c main_v4 (ix2 k l) = m ((c : Thread nD τ).loc main_arg5) (ix2 k l) := by
    unfold V hostOps0
    after_reads_at
  refine Eq.trans ?_ e
  blk_ext [iblk, idx t]

theorem iblk6_apply (c : Dev nD) (t : Fin cfg0.N) (k : Fin 2816) (l : Fin 1024) :
    (iblk m c 6 t : Vec Ideal S2816x1024 _) (ix2 k l) = m ((c : Thread nD τ).loc main_arg6) (ix2 k l) := by
  have e : V m c main_v5 (ix2 k l) = m ((c : Thread nD τ).loc main_arg6) (ix2 k l) := by
    unfold V hostOps0
    after_reads_at
  refine Eq.trans ?_ e
  blk_ext [iblk, idx t]

theorem iblk3_apply (c : Dev nD) (t : Fin cfg0.N) (k : Fin 1024) :
    (iblk m c 3 t : Vec Ideal S1x1024 _) (ix2 0 k) = m ((c : Thread nD τ).loc main_arg3) (ix1 k) := by
  have e : V m c main_v2 (ix2 0 k) = m ((c : Thread nD τ).loc main_arg3) (ix1 k) := by
    unfold V hostOps0
    after_reads_at
  refine Eq.trans ?_ e
  blk_ext [iblk, idx t]

/-- What the body leaves at an index of point `t`'s block is the reference's result at the index of the array there. -/
theorem point (c : Dev nD) (t : Fin cfg0.N) (r : Fin 256) (j : Fin 1024) :
    k0_pay1 (F := Ideal) (iblk m c 1 t) (iblk m c 0 t) (iblk m c 2 t) (iblk m c 3 t) (iblk m c 4 t) (iblk m c 5 t) (iblk m c 6 t) (ix2 r j)
      = out m c (((cfg0.win 7).blk t).view.emb (ix2 r j)) := by
  have ht : t.val < 1 := lt_of_lt_of_eq t.isLt N_0
  have hr := r.isLt
  have hh : t.val * 256 + r.val = r.val / 16 * 16 + r.val % 16 := by omega
  refine Eq.trans ?_ (ref_flat _ _ _ _ _ _ _ _ ⟨r.val / 16, by omega⟩ ⟨r.val % 16, by omega⟩ j ?_ ?_).symm
  · refine (pay_apply _ _ _ _ _ _ _ r j).trans ?_
    refine row_congr (fun k => ?_) (fun k => ?_) (fun k l => ?_) (fun k => ?_) (fun k l => ?_) (fun k l => ?_) (fun k l => ?_) j
    · exact iblk1_apply m c t r k _ _ hh
    · exact iblk0_apply m c t r k _ _ hh
    · exact iblk2_apply m c t k l
    · exact iblk3_apply m c t k
    · exact iblk4_apply m c t k l
    · exact iblk5_apply m c t k l
    · exact iblk6_apply m c t k l
  · blk_simp [idx t]; show r.val = r.val / 16 * 16 + r.val % 16; omega
  · blk_simp [idx t]

/-- After the run the result array is the reference's result of the arguments. -/
theorem final (c : Dev nD) : (dats m 0 c).arrAt 7 cfg0.N = out m c := by
  refine (dats m 0 c).arrAt_eq_of_covers 7 _ (by decide +kernel) fun t _ y => ?_
  blk_simp
  rw [after0_7]; frame_out
  idx_vars y
  exact point m c t _ _

end Cert.Proof.Ffs

end
-- ==== Proof.FfsClaims.lean ====
/- The five claims of the sample batch's output projection and feed-forward block. -/
module

public import proofs.«01_k».proof.Defs
public import proofs.«01_k».proof.Proof.FfsVal
public import proofs.«01_k».proof.Proof.Gen.Kernel3.Frame
public import proofs.«01_k».proof.Proof.Gen.Kernel3Ideal.Value
public import proofs.«01_k».proof.Proof.Gen.Reference3Ideal.Run
public import Idealize.ShloMosaic.Lib.Quiescent

@[expose] public section

set_option maxRecDepth 16384

noncomputable section

namespace Cert.Proof.Ffs

open Idealize.ShloMosaic Idealize.ShloMosaic.TcCoe Idealize.SL.Sem

/-- The kernel's frame at its float formats and at the extended reals. -/
theorem frame_k : Cert.quiescent_Kernel3 := fun m ρ _ => Cert.Kernel3.Gen.frame m ρ
theorem frame_ki : Cert.quiescent_Kernel3Ideal := fun m ρ _ => Cert.Kernel3Ideal.Gen.frame m ρ

/-- The reference's frame: its run read at the arguments; it declares no semaphore. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The idealized kernel is the kernel's own text. -/
theorem preserves : Cert.preserves_Kernel3_Kernel3Ideal := trivial

/-- From equal arguments the kernel's result and the reference's are equal at the extended reals. -/
theorem algebraic : Cert.algebraic_Kernel3Ideal_Reference3Ideal := by
  intro m ρ m' ρ' _ hag
  refine ⟨fun c => out m c, ?_, ?_⟩
  · exact (θ_run Cert.Kernel3Ideal.defs _ _).mono (fun _ h c => ⟨(h c).1.trans (final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    rw [Cert.Reference3Ideal.Read.val_main_v21_eq]
    obtain ⟨h0, h1, h2, h3, h4, h5, h6⟩ := hag c
    rw [h0, h1, h2, h3, h4, h5, h6]

end Cert.Proof.Ffs

end
-- ==== Proof.MixHost.lean ====
/- The arrays that the host code of the sample batch's mixer prepares, read at an index. -/
module

public import proofs.«01_k».proof.Proof.Gen.Kernel4Ideal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Proof.Mix

open Cert.Kernel4Ideal Cert.Kernel4Ideal.Gen Idealize.ShloMosaic Idealize.ShloMosaic.TcCoe Idealize.SL.Sem

variable (m : (ℓ : Loc nD τ sig) → Buf (Elt Ideal) ℓ)

theorem V_v51_apply (c : Dev nD) (b : Fin 16) (p : Fin 16) (k : Fin 1024) (r : Fin 256) (h : r.val = b.val * 16 + p.val) :
    V m c main_v51 (ix2 r k) = m ((c : Thread nD τ).loc main_arg0) (ix3 b p k) := by
  unfold V hostOps0 hostOps0_1 hostOps0_2
  after_reads_at
  blk_ext []

theorem V_v42_apply (c : Dev nD) (k : Fin 1024) :
    V m c main_v42 (ix2 0 k) = m ((c : Thread nD τ).loc main_arg2) (ix1 k) := by
  unfold V hostOps0 hostOps0_1 hostOps0_2
  after_reads_at
  blk_ext []

theorem V_v46_apply (c : Dev nD) (j : Fin 1024) (d : Fin 64) (h : d.val = j.val % 64) :
    V m c main_v46 (ix2 0 j) = m ((c : Thread nD τ).loc main_arg5) (ix1 d) := by
  unfold V hostOps0 hostOps0_1 hostOps0_2
  after_reads_at
  blk_ext []

theorem V_v50_apply (c : Dev nD) (j : Fin 256) (d : Fin 64) (h : d.val = j.val % 64) :
    V m c main_v50 (ix2 0 j) = m ((c : Thread nD τ).loc main_arg6) (ix1 d) := by
  unfold V hostOps0 hostOps0_1 hostOps0_2
  after_reads_at
  blk_ext []

/-- The columns of `w_in` that the columns of `w2` are: the query, key and value columns, then the attention gate's. -/
theorem V_v30_apply (c : Dev nD) (k : Fin 1024) (j : Fin 2560) (l : Fin 6656)
    (h : l.val = if j.val < 1536 then 3072 + j.val else 4096 + j.val) :
    V m c main_v30 (ix2 k j) = m ((c : Thread nD τ).loc main_arg3) (ix2 k l) := by
  unfold V hostOps0 hostOps0_1 hostOps0_2
  after_reads_at
  split_ifs at h
  all_goals split_ifs
  all_goals first | omega | (after_reads_at; blk_ext [] <;> omega)

/-- Slab 0 of `w1` holds columns 0 to 255 of the four parts of `w_in` that the convolution uses. -/
theorem V_v25_apply0 (c : Dev nD) (p : Fin 4) (k : Fin 1024) (l : Fin 256) (j : Fin 1024) (n : Fin 6656)
    (hj : j.val = p.val * 256 + l.val) (hn : n.val = (if p.val = 3 then 4608 else p.val * 1024) + 0 * 256 + l.val) :
    V m c main_v25 (ix3 0 k j) = m ((c : Thread nD τ).loc main_arg3) (ix2 k n) := by
  unfold V hostOps0 hostOps0_1 hostOps0_2
  after_reads_at
  after_reads_at
  split_ifs at hn
  all_goals split_ifs
  all_goals first | omega | (after_reads_at; blk_ext [] <;> omega)

/-- Slab 1 of `w1` holds columns 256 to 511 of the four parts of `w_in` that the convolution uses. -/
theorem V_v25_apply1 (c : Dev nD) (p : Fin 4) (k : Fin 1024) (l : Fin 256) (j : Fin 1024) (n : Fin 6656)
    (hj : j.val = p.val * 256 + l.val) (hn : n.val = (if p.val = 3 then 4608 else p.val * 1024) + 1 * 256 + l.val) :
    V m c main_v25 (ix3 1 k j) = m ((c : Thread nD τ).loc main_arg3) (ix2 k n) := by
  unfold V hostOps0 hostOps0_1 hostOps0_2
  after_reads_at
  after_reads_at
  split_ifs at hn
  all_goals split_ifs
  all_goals first | omega | (after_reads_at; blk_ext [] <;> omega)

/-- Slab 2 of `w1` holds columns 512 to 767 of the four parts of `w_in` that the convolution uses. -/
theorem V_v25_apply2 (c : Dev nD) (p : Fin 4) (k : Fin 1024) (l : Fin 256) (j : Fin 1024) (n : Fin 6656)
    (hj : j.val = p.val * 256 + l.val) (hn : n.val = (if p.val = 3 then 4608 else p.val * 1024) + 2 * 256 + l.val) :
    V m c main_v25 (ix3 2 k j) = m ((c : Thread nD τ).loc main_arg3) (ix2 k n) := by
  unfold V hostOps0 hostOps0_1 hostOps0_2
  after_reads_at
  after_reads_at
  split_ifs at hn
  all_goals split_ifs
  all_goals first | omega | (after_reads_at; blk_ext [] <;> omega)

/-- Slab 3 of `w1` holds columns 768 to 1023 of the four parts of `w_in` that the convolution uses. -/
theorem V_v25_apply3 (c : Dev nD) (p : Fin 4) (k : Fin 1024) (l : Fin 256) (j : Fin 1024) (n : Fin 6656)
    (hj : j.val = p.val * 256 + l.val) (hn : n.val = (if p.val = 3 then 4608 else p.val * 1024) + 3 * 256 + l.val) :
    V m c main_v25 (ix3 3 k j) = m ((c : Thread nD τ).loc main_arg3) (ix2 k n) := by
  unfold V hostOps0 hostOps0_1 hostOps0_2
  after_reads_at
  after_reads_at
  split_ifs at hn
  all_goals split_ifs
  all_goals first | omega | (after_reads_at; blk_ext [] <;> omega)

/-- The head of a lane. -/
theorem V_v32_apply (c : Dev nD) (k : Fin 256) :
    V m c main_v32 (ix1 k) = BitVec.ofNat 32 (k.val / 64) := by
  unfold V hostOps0 hostOps0_1 hostOps0_2
  after_reads_at
  revert k
  decide +kernel

/-- The host's block-diagonal matrix: one sixty-fourth where both lanes are of one head of 64, zero elsewhere. -/
theorem V_v41_apply (c : Dev nD) (k j : Fin 256) :
    V m c main_v41 (ix2 k j) = (if k.val / 64 = j.val / 64 then (((1 / 64 : ℝ)) : EReal) else 0 : EReal) := by
  have h (k : Fin 256) := V_v32_apply m c k
  have lit : Ideal.ofBits FTy.f32 1015021568#32 = ((1 / 64 : ℝ) : EReal) := by
    simp [Ideal.ofBits, Ideal.ieee]
    norm_cast
    norm_num
  have e : V m c main_v41 (ix2 k j) = FloatOps.uitofp (F := Ideal) FTy.f32
      (IntOp.cmpi .eq (V m c main_v32 (ix1 k)) (V m c main_v32 (ix1 j))) * Ideal.ofBits FTy.f32 1015021568#32 := by
    unfold V hostOps0 hostOps0_1 hostOps0_2
    after_reads_at
  rw [e, h, h, lit]
  by_cases hq : k.val / 64 = j.val / 64
  · rw [if_pos hq, hq, show IntOp.cmpi .eq (BitVec.ofNat 32 (j.val / 64)) (BitVec.ofNat 32 (j.val / 64)) = 1#1 by simp [IntOp.cmpi]]
    show (((1#1 : BitVec 1).toNat : ℝ) : EReal) * _ = _
    simp
  · have hn : BitVec.ofNat 32 (k.val / 64) ≠ BitVec.ofNat 32 (j.val / 64) := fun e => hq (by
      have := congrArg BitVec.toNat e
      simp only [BitVec.toNat_ofNat] at this
      omega)
    rw [if_neg hq, show IntOp.cmpi .eq (BitVec.ofNat 32 (k.val / 64)) (BitVec.ofNat 32 (j.val / 64)) = 0#1 by
      show BitVec.ofBool (BitVec.ofNat 32 (k.val / 64) == BitVec.ofNat 32 (j.val / 64)) = 0#1
      rw [beq_eq_false_iff_ne.mpr hn]
      rfl]
    show (((0#1 : BitVec 1).toNat : ℝ) : EReal) * _ = _
    simp

end Cert.Proof.Mix

end
-- ==== Proof.MixBlk.lean ====
/- The arrays that the host code of the sample batch's mixer prepares, cut into blocks and read at an index. -/
module

public import proofs.«01_k».proof.Proof.Gen.Kernel4Ideal.Value
public import Idealize.ShloMosaic.Lib.Pointwise
public import Idealize.ShloMosaic.Lib.Pipeline.ValueKit
public import Idealize.ShloMosaic.Lib.StableHlo.ReadAt
public import proofs.«01_k».proof.Proof.MixHost

@[expose] public section

set_option maxRecDepth 16384

noncomputable section

namespace Cert.Proof.Mix

open Cert.Kernel4Ideal Cert.Kernel4Ideal.Gen Idealize.ShloMosaic Idealize.ShloMosaic.TcCoe Idealize.SL.Sem

variable (m : (ℓ : Loc nD τ sig) → Buf (Elt Ideal) ℓ)

/-- The columns of `w_in` that slab `cb` of `w1` holds, in any slab. -/
theorem V_v25_apply (c : Dev nD) (cb p : Fin 4) (k : Fin 1024) (l : Fin 256) (j : Fin 1024) (n : Fin 6656)
    (hj : j.val = p.val * 256 + l.val) (hn : n.val = (if p.val = 3 then 4608 else p.val * 1024) + cb.val * 256 + l.val) :
    V m c main_v25 (ix3 cb k j) = m ((c : Thread nD τ).loc main_arg3) (ix2 k n) := by
  match cb with
  | ⟨0, _⟩ => exact V_v25_apply0 m c p k l j n hj hn
  | ⟨1, _⟩ => exact V_v25_apply1 m c p k l j n hj hn
  | ⟨2, _⟩ => exact V_v25_apply2 m c p k l j n hj hn
  | ⟨3, _⟩ => exact V_v25_apply3 m c p k l j n hj hn

/-! The launch has one grid point, and each window's block is its whole array. -/

theorem idx : ∀ t : Fin cfg0.N, win0_0.index t = ![0, 0] ∧ win0_1.index t = ![0, 0, 0] ∧ win0_2.index t = ![0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0, 0] :=
  (by decide +kernel : ∀ t : Fin grid0.N, _)

theorem iblk0_apply (c : Dev nD) (t : Fin cfg0.N) (r : Fin 256) (k : Fin 1024) (b : Fin 16) (p : Fin 16)
    (h : r.val = b.val * 16 + p.val) :
    (iblk m c 0 t : Vec Ideal S256x1024 _) (ix2 r k) = m ((c : Thread nD τ).loc main_arg0) (ix3 b p k) := by
  refine Eq.trans ?_ (V_v51_apply m c b p k r h)
  blk_ext [iblk, idx t]

theorem iblk1_apply (c : Dev nD) (t : Fin cfg0.N) (b : Fin 16) (p : Fin 2) (k : Fin 1024) :
    (iblk m c 1 t : Vec Ideal S16x2x1024 _) (ix3 b p k) = m ((c : Thread nD τ).loc main_arg1) (ix3 b p k) := by
  have e : V m c main_arg1 (ix3 b p k) = m ((c : Thread nD τ).loc main_arg1) (ix3 b p k) := by
    unfold V hostOps0 hostOps0_1 hostOps0_2
    after_reads_at
  refine Eq.trans ?_ e
  blk_ext [iblk, idx t]

theorem iblk2_apply (c : Dev nD) (t : Fin cfg0.N) (k : Fin 1024) :
    (iblk m c 2 t : Vec Ideal S1x1024 _) (ix2 0 k) = m ((c : Thread nD τ).loc main_arg2) (ix1 k) := by
  refine Eq.trans ?_ (V_v42_apply m c k)
  blk_ext [iblk, idx t]

theorem iblk3_apply (c : Dev nD) (t : Fin cfg0.N) (cb p : Fin 4) (k : Fin 1024) (l : Fin 256) (j : Fin 1024) (n : Fin 6656)
    (hj : j.val = p.val * 256 + l.val) (hn : n.val = (if p.val = 3 then 4608 else p.val * 1024) + cb.val * 256 + l.val) :
    (iblk m c 3 t : Vec Ideal S4x1024x1024 _) (ix3 cb k j) = m ((c : Thread nD τ).loc main_arg3) (ix2 k n) := by
  refine Eq.trans ?_ (V_v25_apply m c cb p k l j n hj hn)
  blk_ext [iblk, idx t]

theorem iblk4_apply (c : Dev nD) (t : Fin cfg0.N) (k : Fin 1024) (j : Fin 2560) (l : Fin 6656)
    (h : l.val = if j.val < 1536 then 3072 + j.val else 4096 + j.val) :
    (iblk m c 4 t : Vec Ideal S1024x2560 _) (ix2 k j) = m ((c : Thread nD τ).loc main_arg3) (ix2 k l) := by
  refine Eq.trans ?_ (V_v30_apply m c k j l h)
  blk_ext [iblk, idx t]

theorem iblk5_apply (c : Dev nD) (t : Fin cfg0.N) (i : Fin 3) (k : Fin 1024) :
    (iblk m c 5 t : Vec Ideal S3x1024 _) (ix2 i k) = m ((c : Thread nD τ).loc main_arg4) (ix2 i k) := by
  have e : V m c main_arg4 (ix2 i k) = m ((c : Thread nD τ).loc main_arg4) (ix2 i k) := by
    unfold V hostOps0 hostOps0_1 hostOps0_2
    after_reads_at
  refine Eq.trans ?_ e
  blk_ext [iblk, idx t]

theorem iblk6_apply (c : Dev nD) (t : Fin cfg0.N) (k j : Fin 256) :
    (iblk m c 6 t : Vec Ideal S256x256 _) (ix2 k j) = (if k.val / 64 = j.val / 64 then (((1 / 64 : ℝ)) : EReal) else 0 : EReal) := by
  refine Eq.trans ?_ (V_v41_apply m c k j)
  blk_ext [iblk, idx t]

theorem iblk7_apply (c : Dev nD) (t : Fin cfg0.N) (j : Fin 1024) (d : Fin 64) (h : d.val = j.val % 64) :
    (iblk m c 7 t : Vec Ideal S1x1024 _) (ix2 0 j) = m ((c : Thread nD τ).loc main_arg5) (ix1 d) := by
  refine Eq.trans ?_ (V_v46_apply m c j d h)
  blk_ext [iblk, idx t]

theorem iblk8_apply (c : Dev nD) (t : Fin cfg0.N) (j : Fin 256) (d : Fin 64) (h : d.val = j.val % 64) :
    (iblk m c 8 t : Vec Ideal S1x256 _) (ix2 0 j) = m ((c : Thread nD τ).loc main_arg6) (ix1 d) := by
  refine Eq.trans ?_ (V_v50_apply m c j d h)
  blk_ext [iblk, idx t]

end Cert.Proof.Mix

end
-- ==== Proof.MixMath.lean ====
/- The sample batch's mixer: a row's projections, and a head's normalisation by its mean square. -/
module

public import proofs.«01_k».proof.Proof.FfnPay
public import proofs.«01_k».proof.Proof.AttMath

@[expose] public section

set_option maxRecDepth 16384

noncomputable section

namespace Cert.Proof.Mix

open Idealize.ShloMosaic
open Ffn (nrm)

/-- A row's norm times one column of the input projection. -/
def prj (x nw w : Fin 1024 → EReal) : EReal := ∑ k, nrm x nw k * w k

/-- A head's lanes scaled by the inverse root of their mean square, then by the weights. -/
def hnm (t w : Fin 64 → EReal) (d : Fin 64) : EReal :=
  t d * Ideal.rsqrt (Ideal.div (∑ e, t e * t e) (Ideal.ofBits .f32 0x42800000#32) + Ideal.ofBits .f32 0x358637BD#32) * w d

/-- The sum of squares against a column of the block-diagonal matrix of one sixty-fourths is the mean square of the column's head. -/
theorem head_mean (t : Fin 256 → EReal) (B : Fin 256 → EReal) (u : Fin 64 → EReal) (g : Fin 4)
    (hB : ∀ k, B k = if k.val / 64 = g.val then ((1 / 64 : ℝ) : EReal) else 0)
    (hu : ∀ (k : Fin 256) (e : Fin 64), k.val = g.val * 64 + e.val → t k = u e) :
    ∑ k, t k * t k * B k = Ideal.div (∑ e, u e * u e) (Ideal.ofBits .f32 0x42800000#32) := by
  have h64 : Ideal.ofBits .f32 0x42800000#32 = ((64 : ℝ) : EReal) := by
    simp [Ideal.ofBits, Ideal.ieee]
    norm_cast
    norm_num
  have hd : Ideal.div (∑ e, u e * u e) (Ideal.ofBits .f32 0x42800000#32) = (∑ e, u e * u e) * ((1 / 64 : ℝ) : EReal) := by
    rw [h64, Ideal.div, if_neg (by norm_cast)]
    congr 1
    rw [← EReal.coe_inv]
    norm_num
  rw [hd, Att.sum_mul _ _ _ (by norm_cast; norm_num) (EReal.coe_ne_top _)]
  symm
  refine Finset.sum_of_injOn (fun e : Fin 64 => (⟨g.val * 64 + e.val, by omega⟩ : Fin 256)) ?_ (by simp) ?_ ?_
  · intro a _ b _ h
    have := congrArg Fin.val h
    exact Fin.ext (by simpa using this)
  · intro k _ hk
    rw [hB, if_neg, mul_zero]
    intro h
    refine hk ⟨⟨k.val % 64, by omega⟩, by simp, Fin.ext ?_⟩
    show g.val * 64 + k.val % 64 = k.val
    omega
  · intro e _
    have e1 := hu ⟨g.val * 64 + e.val, by omega⟩ e rfl
    show u e * u e * _ = t _ * t _ * B _
    rw [e1, hB, if_pos (by show (g.val * 64 + e.val) / 64 = g.val; omega)]

end Cert.Proof.Mix

end
-- ==== Proof.MixPay.lean ====
/- The sample batch's mixer: the kernel body's payloads outside the convolution, read at an index. -/
module

public import proofs.«01_k».proof.Proof.Gen.Kernel4Ideal.Skeleton
public import proofs.«01_k».proof.Proof.MixMath
public import Idealize.ShloMosaic.Lib.Pointwise

@[expose] public section

set_option maxRecDepth 16384

noncomputable section

namespace Cert.Proof.Mix

open Cert.Kernel4Ideal Cert.Kernel4Ideal.Gen Idealize.ShloMosaic
open Ffn (nrm)

variable (x : Vec Ideal S256x1024 .f32) (nw : Vec Ideal S1x1024 .f32)

/-- The normed block at row `r`. -/
theorem pay24_apply (r : Fin 256) (k : Fin 1024) :
    k0_pay24 (F := Ideal) x nw (ix2 r k) = nrm (fun k => x (ix2 r k)) (fun k => nw (ix2 0 k)) k := by
  pointwise [k0_pay24, nrm]

/-- The normed block times the query, key and value columns. -/
theorem pay25_apply (w : Vec Ideal S1024x1536 .bf16) (r : Fin 256) (j : Fin 1536) :
    k0_pay25 (F := Ideal) x nw w (ix2 r j) = prj (fun k => x (ix2 r k)) (fun k => nw (ix2 0 k)) (fun k => w (ix2 k j)) := by
  pointwise [k0_pay25, pay24_apply, prj]

/-- The normed block times one slab of the convolution's columns; the four slabs' products have one text. -/
theorem pay26_apply (w : Vec Ideal S1x1024x1024 .bf16) (r : Fin 256) (j : Fin 1024) :
    k0_pay26 (F := Ideal) x nw w (ix2 r j) = prj (fun k => x (ix2 r k)) (fun k => nw (ix2 0 k)) (fun k => w (ix3 0 k j)) := by
  pointwise [k0_pay26, pay24_apply, prj]

/-- The attention gate's columns but the last 256. -/
theorem pay5_apply (w : Vec Ideal S1024x768 .bf16) (r : Fin 256) (j : Fin 768) :
    k0_pay5 (F := Ideal) (k0_pay31 (k0_pay24 x nw) (k0_pay30 w)) (ix2 r j)
      = Ideal.logistic (prj (fun k => x (ix2 r k)) (fun k => nw (ix2 0 k)) (fun k => w (ix2 k j))) := by
  pointwise [k0_pay5, k0_pay31, k0_pay30, pay24_apply, prj]

/-- The attention gate's last 256 columns. -/
theorem pay6_apply (w : Vec Ideal S1024x256 .bf16) (r : Fin 256) (j : Fin 256) :
    k0_pay6 (F := Ideal) (k0_pay32 (k0_pay24 x nw) w) (ix2 r j)
      = Ideal.logistic (prj (fun k => x (ix2 r k)) (fun k => nw (ix2 0 k)) (fun k => w (ix2 k j))) := by
  pointwise [k0_pay6, k0_pay32, pay24_apply, prj]

/-- A lane scaled by the inverse root of what the matrix's column gathers of the squares, then by its weight. -/
def lan (t B : Fin 256 → EReal) (w : EReal) (l : Fin 256) : EReal :=
  t l * Ideal.rsqrt (∑ k, t k * t k * B k + Ideal.ofBits .f32 0x358637BD#32) * w

variable (P : FVec Ideal S256x1536 .f32) (B : Vec Ideal S256x256 .bf16) (w : Vec Ideal S1x256 .f32) (r l : Fin 256)

theorem pay34_apply : k0_pay34 (F := Ideal) P B w (ix2 r l)
    = lan (fun k => P (ix2 r ⟨k.val, by omega⟩)) (fun k => B (ix2 k l)) (w (ix2 0 l)) l := by
  pointwise [k0_pay34, k0_pay33, lan]

theorem pay35_apply : k0_pay35 (F := Ideal) P B w (ix2 r l)
    = lan (fun k => P (ix2 r ⟨256 + k.val, by omega⟩)) (fun k => B (ix2 k l)) (w (ix2 0 l)) l := by
  pointwise [k0_pay35, k0_pay33, lan]

theorem pay38_apply : k0_pay38 (F := Ideal) (k0_pay36 P) (k0_pay37 P B) (FloatOps.ofBits .f32 897988541#32) w (ix2 r l)
    = lan (fun k => P (ix2 r ⟨512 + k.val, by omega⟩)) (fun k => B (ix2 k l)) (w (ix2 0 l)) l := by
  pointwise [k0_pay38, k0_pay36, k0_pay37, k0_pay33, lan]

theorem pay39_apply : k0_pay39 (F := Ideal) P (k0_pay33 B) w (ix2 r l)
    = lan (fun k => P (ix2 r ⟨768 + k.val, by omega⟩)) (fun k => B (ix2 k l)) (w (ix2 0 l)) l := by
  pointwise [k0_pay39, k0_pay33, lan]

theorem pay40_apply : k0_pay40 (F := Ideal) P (k0_pay33 B) w (ix2 r l)
    = lan (fun k => P (ix2 r ⟨1024 + k.val, by omega⟩)) (fun k => B (ix2 k l)) (w (ix2 0 l)) l := by
  pointwise [k0_pay40, k0_pay33, lan]

theorem pay41_apply : k0_pay41 (F := Ideal) P (ix2 r l) = P (ix2 r ⟨1280 + l.val, by omega⟩) := by
  pointwise [k0_pay41]

end Cert.Proof.Mix

end
-- ==== Proof.MixRef.lean ====
/- The sample batch's mixer: the reference's stages and results read at an index. -/
module

public import proofs.«01_k».proof.Proof.Gen.Reference4Ideal.Read
public import proofs.«01_k».proof.Proof.MixMath
public import Idealize.ShloMosaic.Lib.Pointwise
public import Idealize.ShloMosaic.Lib.Pipeline.ValueKit

@[expose] public section

set_option maxRecDepth 16384

noncomputable section

namespace Cert.Proof.Mix

open Cert.Reference4Ideal Cert.Reference4Ideal.Read Idealize.ShloMosaic
open Ffn (nrm)

variable (x : Vec Ideal S16x16x1024 .f32) (st : Vec Ideal S16x2x1024 .f32) (nw : Vec Ideal S1024 .f32)
  (W : Vec Ideal S1024x6656 .f32) (cw : Vec Ideal S3x1024 .f32) (qn kn : Vec Ideal S64 .f32)

/-- One entry of the input projection: position `p` of sequence `b`, column `j`. -/
def ent (b p : Fin 16) (j : Fin 6656) : EReal :=
  prj (fun k => x (ix3 b p k)) (fun k => nw (ix1 k)) (fun k => W (ix2 k j))

/-- The convolution's input at position `p` of sequence `b`. -/
def inp (b p : Fin 16) (j : Fin 1024) : EReal :=
  ent x nw W b p ⟨2048 + j.val, by omega⟩ * ent x nw W b p ⟨j.val, by omega⟩

/-- The convolution's input with the carried state's two positions before it. -/
def ups (b : Fin 16) (s : Fin 18) (j : Fin 1024) : EReal :=
  if h : s.val < 2 then st (ix3 b ⟨s.val, h⟩ j) else inp x nw W b ⟨s.val - 2, by omega⟩ j

/-- The gated convolution at position `p` of sequence `b`. -/
def ycg (b p : Fin 16) (j : Fin 1024) : EReal :=
  Ideal.logistic (ent x nw W b p ⟨4608 + j.val, by omega⟩) * (ent x nw W b p ⟨1024 + j.val, by omega⟩
    * (cw (ix2 0 j) * ups x st nw W b ⟨p.val, by omega⟩ j + cw (ix2 1 j) * ups x st nw W b ⟨1 + p.val, by omega⟩ j
      + cw (ix2 2 j) * ups x st nw W b ⟨2 + p.val, by omega⟩ j))

theorem v13_apply (b p : Fin 16) (j : Fin 6656) : val_main_v13 (F := Ideal) x nw W (ix3 b p j) = ent x nw W b p j := by
  pointwise [val_main_v0, val_main_v1, val_main_v2, val_main_v3, val_main_v4, val_main_v5, val_main_v6, val_main_v7,
    val_main_v8, val_main_v9, val_main_v10, val_main_v11, val_main_v12, val_main_v13, val_main_cst, val_main_cst_0,
    val_main_cst_1, ent, prj, nrm]

theorem v35_apply (b p : Fin 16) (g h : Fin 4) (d : Fin 64) : val_main_v35 (F := Ideal) x nw W qn (ix5 b p g h d)
    = hnm (fun e => ent x nw W b p ⟨3072 + (g.val * 256 + h.val * 64 + e.val), by omega⟩) (fun e => qn (ix1 e)) d := by
  have e (d : Fin 64) : val_main_v22 (F := Ideal) x nw W (ix5 b p g h d)
      = ent x nw W b p ⟨3072 + (g.val * 256 + h.val * 64 + d.val), by omega⟩ := by
    rw [val_main_v22_apply, val_main_v17_apply, ← v13_apply]
    generalize val_main_v13 (F := Ideal) x nw W = f
    blk_ext []
  pointwise [val_main_v23, val_main_v24, val_main_v25, val_main_v26, val_main_v27, val_main_v28, val_main_v29, val_main_v30,
    val_main_v31, val_main_v32, val_main_v33, val_main_v34, val_main_v35, val_main_cst_2, val_main_cst_3, val_main_cst_4, hnm, e]

theorem v49_apply (b p : Fin 16) (h : Fin 4) (d : Fin 64) : val_main_v49 (F := Ideal) x nw W kn (ix4 b p h d)
    = hnm (fun e => ent x nw W b p ⟨4096 + (h.val * 64 + e.val), by omega⟩) (fun e => kn (ix1 e)) d := by
  have e (d : Fin 64) : val_main_v36 (F := Ideal) x nw W (ix4 b p h d)
      = ent x nw W b p ⟨4096 + (h.val * 64 + d.val), by omega⟩ := by
    rw [val_main_v36_apply, val_main_v18_apply, ← v13_apply]
    generalize val_main_v13 (F := Ideal) x nw W = f
    blk_ext []
  pointwise [val_main_v37, val_main_v38, val_main_v39, val_main_v40, val_main_v41, val_main_v42, val_main_v43, val_main_v44,
    val_main_v45, val_main_v46, val_main_v47, val_main_v48, val_main_v49, val_main_cst_5, val_main_cst_6, val_main_cst_7, hnm, e]

theorem v51_apply (b : Fin 16) (s : Fin 18) (j : Fin 1024) :
    val_main_v51 (F := Ideal) x st nw W (ix3 b s j) = ups x st nw W b s j := by
  have e (b p : Fin 16) (j : Fin 1024) : val_main_v50 (F := Ideal) x nw W (ix3 b p j) = inp x nw W b p j := by
    pointwise [val_main_v50, val_main_v14, val_main_v16, v13_apply, inp]
  pointwise [val_main_v51, ups, e]

theorem v79_apply (b p : Fin 16) (j : Fin 1024) :
    val_main_v79 (F := Ideal) x st nw W cw (ix3 b p j) = ycg x st nw W cw b p j := by
  pointwise [val_main_v15, val_main_v20, val_main_v52, val_main_v53, val_main_v54, val_main_v55, val_main_v56, val_main_v57,
    val_main_v58, val_main_v59, val_main_v60, val_main_v61, val_main_v62, val_main_v63, val_main_v64, val_main_v65,
    val_main_v66, val_main_v67, val_main_v68, val_main_v69, val_main_v70, val_main_v71, val_main_v72, val_main_v73,
    val_main_v74, val_main_v75, val_main_v76, val_main_v77, val_main_v78, val_main_v79, val_main_cst_8, val_main_cst_9,
    v51_apply, v13_apply, ycg]
  rfl

theorem v89_apply (b p : Fin 16) (j : Fin 1024) :
    val_main_v89 (F := Ideal) x nw W (ix3 b p j) = Ideal.logistic (ent x nw W b p ⟨5632 + j.val, by omega⟩) := by
  pointwise [val_main_v21, val_main_v84, val_main_v85, val_main_v86, val_main_v87, val_main_v88, val_main_v89,
    val_main_cst_10, val_main_cst_11, v13_apply]
  rfl

/-! The results, at a row of the flattened batch. -/

variable (b p : Fin 16) (r : Fin 256) (h : r.val = b.val * 16 + p.val)
include h

/-- The gated convolution. -/
theorem out9_apply (j : Fin 1024) : val_main_v81 (F := Ideal) x st nw W cw (ix2 r j) = ycg x st nw W cw b p j := by
  rw [val_main_v81_apply, val_main_v80_apply, ← v79_apply]
  generalize val_main_v79 (F := Ideal) x st nw W cw = f
  show f (idx_main_v80 (ix2 r j)) = f (ix3 b p j)
  blk_ext []

/-- The normed queries. -/
theorem out10_apply (g : Fin 16) (d : Fin 64) (j : Fin 1024) (hj : j.val = g.val * 64 + d.val) :
    val_main_v83 (F := Ideal) x nw W qn (ix2 r j)
      = hnm (fun e => ent x nw W b p ⟨3072 + (g.val * 64 + e.val), by omega⟩) (fun e => qn (ix1 e)) d := by
  have hg : g.val / 4 * 256 + g.val % 4 * 64 = g.val * 64 := by omega
  have e := v35_apply x nw W qn b p ⟨g.val / 4, by omega⟩ ⟨g.val % 4, by omega⟩ d
  simp only [hg] at e
  rw [← e, val_main_v83_apply, val_main_v82_apply]
  generalize val_main_v35 (F := Ideal) x nw W qn = f
  show f (idx_main_v82 (ix2 r j)) = f (ix5 b p ⟨g.val / 4, by omega⟩ ⟨g.val % 4, by omega⟩ d)
  blk_ext []

/-- The attention's gate. -/
theorem out11_apply (j : Fin 1024) :
    val_main_v91 (F := Ideal) x nw W (ix2 r j) = Ideal.logistic (ent x nw W b p ⟨5632 + j.val, by omega⟩) := by
  rw [val_main_v91_apply, val_main_v90_apply, ← v89_apply]
  generalize val_main_v89 (F := Ideal) x nw W = f
  show f (idx_main_v90 (ix2 r j)) = f (ix3 b p j)
  blk_ext []

/-- The normed keys. -/
theorem out12_apply (g : Fin 4) (d : Fin 64) (j : Fin 256) (hj : j.val = g.val * 64 + d.val) :
    val_main_v92 (F := Ideal) x nw W kn (ix2 r j)
      = hnm (fun e => ent x nw W b p ⟨4096 + (g.val * 64 + e.val), by omega⟩) (fun e => kn (ix1 e)) d := by
  rw [← v49_apply x nw W kn b p g d, val_main_v92_apply]
  generalize val_main_v49 (F := Ideal) x nw W kn = f
  blk_ext []

/-- The values. -/
theorem out13_apply (j : Fin 256) :
    val_main_v93 (F := Ideal) x nw W (ix2 r j) = ent x nw W b p ⟨4352 + j.val, by omega⟩ := by
  rw [val_main_v93_apply, val_main_v19_apply, ← v13_apply]
  generalize val_main_v13 (F := Ideal) x nw W = f
  blk_ext []

omit h in
/-- The carried state: the last two positions of the convolution's input. -/
theorem out14_apply (s : Fin 2) (j : Fin 1024) :
    val_main_v94 (F := Ideal) x st nw W (ix3 b s j) = ups x st nw W b ⟨16 + s.val, by omega⟩ j := by
  rw [← v51_apply, val_main_v94_apply]
  generalize val_main_v51 (F := Ideal) x st nw W = f
  blk_ext []

end Cert.Proof.Mix

end
-- ==== Proof.MixScr.lean ====
/- The sample batch's mixer: what its scratch holds, and the gated convolution's payload over reads of it. -/
module

public import proofs.«01_k».proof.Proof.Gen.Kernel4Ideal.Skeleton
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof.Mix

open Cert.Kernel4Ideal Cert.Kernel4Ideal.Gen Idealize.ShloMosaic

/-! ## The payload -/

/-- The gated convolution of 16 rows from row `o` on: `a2`, `a1` are the convolution's input two rows and one row before. -/
def cel (r : FVec Ideal S256x1024 .f32) (o : ℕ) (h : S256x256.Slices ![o, 0] S16x256) (a1 a2 : Vec Ideal S16x256 .f32)
    (c0 c1 c2 : Vec Ideal S1x256 .f32) : FVec Ideal S16x256 .bf16 :=
  truncf .bf16 (mulf (logistic (extractStridedSlice S16x256 ![o, 0] (k0_pay43 r) h))
    (mulf (extractStridedSlice S16x256 ![o, 0] (k0_pay42 r) h)
      (addf (addf (mulf (broadcastTo S16x256 c0 broadcasts_S1x256_S16x256) a2) (mulf (broadcastTo S16x256 c1 broadcasts_S1x256_S16x256) a1))
        (mulf (broadcastTo S16x256 c2 broadcasts_S1x256_S16x256) (extractStridedSlice S16x256 ![o, 0] (k0_pay44 r) h))))) bitsLt_bf16_f32

theorem pay44_apply (r : FVec Ideal S256x1024 .f32) (q l : Fin 256) :
    k0_pay44 (F := Ideal) r (ix2 q l) = r (ix2 q ⟨512 + l.val, by omega⟩) * r (ix2 q ⟨l.val, by omega⟩) := by
  pointwise [k0_pay44]

theorem cel_apply (r : FVec Ideal S256x1024 .f32) (o : ℕ) (h : S256x256.Slices ![o, 0] S16x256) (a1 a2 : Vec Ideal S16x256 .f32)
    (c0 c1 c2 : Vec Ideal S1x256 .f32) (p : Fin 16) (l q : Fin 256) (hq : q.val = o + p.val) :
    cel r o h a1 a2 c0 c1 c2 (ix2 p l)
      = Ideal.logistic (r (ix2 q ⟨768 + l.val, by omega⟩)) * (r (ix2 q ⟨256 + l.val, by omega⟩)
        * (c0 (ix2 0 l) * a2 (ix2 p l) + c1 (ix2 0 l) * a1 (ix2 p l) + c2 (ix2 0 l) * k0_pay44 (F := Ideal) r (ix2 q l))) := by
  obtain ⟨q, hlt⟩ := q
  subst hq
  pointwise [cel, k0_pay42, k0_pay43, pay44_apply]

/-! ## The scratch -/

variable (UP : Fin 16 → Fin 18 → Fin 1024 → EReal)

/-- The scratch's contents: sequence `b`'s 18 positions lie in rows `24 b + 6` to `24 b + 23`. -/
def scr : S384x1024.Idx → Elt Ideal .f32 := fun y =>
  if h : 6 ≤ (y 0).val % 24 then
    UP ⟨(y 0).val / 24, by have : (y 0).val < 384 := (y 0).isLt; omega⟩ ⟨(y 0).val % 24 - 6, by omega⟩ ⟨(y 1).val, (y 1).isLt⟩
  else (0 : EReal)

theorem scr_apply (y : S384x1024.Idx) (b : Fin 16) (s : Fin 18) (j : Fin 1024) (h0 : (y 0).val = b.val * 24 + 6 + s.val)
    (h1 : (y 1).val = j.val) : scr UP y = UP b s j := by
  have hs := s.isLt
  unfold scr
  rw [dif_pos (by omega)]
  refine congr (congr (congrArg UP (Fin.ext ?_)) (Fin.ext ?_)) (Fin.ext h1)
  · show (y 0).val / 24 = b.val
    omega
  · show (y 0).val % 24 - 6 = s.val
    omega

theorem inb_pre (b : Fin 16) : ∀ a, (![b.val * 24 + 6, 0] : Fin 2 → ℕ) a + S2x1024.size a ≤ S384x1024.size a :=
  Fin.forall_fin_two.mpr ⟨by show b.val * 24 + 6 + 2 ≤ 384; omega, by show 0 + 1024 ≤ 1024; omega⟩

theorem inb_st (b : Fin 16) : ∀ a, (![b.val, 0, 0] : Fin 3 → ℕ) a + S1x2x1024.size a ≤ S16x2x1024.size a := by
  intro a
  match a with
  | ⟨0, _⟩ => show b.val + 1 ≤ 16; omega
  | ⟨1, _⟩ => show 0 + 2 ≤ 2; omega
  | ⟨2, _⟩ => show 0 + 1024 ≤ 1024; omega

theorem inb_seg (b : Fin 16) (cb : Fin 4) (d : ℕ) (hd : d ≤ 8) :
    ∀ a, (![b.val * 24 + d, cb.val * 256] : Fin 2 → ℕ) a + S16x256.size a ≤ S384x1024.size a :=
  Fin.forall_fin_two.mpr ⟨by show b.val * 24 + d + 16 ≤ 384; omega, by show cb.val * 256 + 256 ≤ 1024; omega⟩

theorem sl_seg (b : Fin 16) : S256x256.Slices ![b.val * 16, 0] S16x256 :=
  match b with
  | ⟨0, _⟩ => slices_S256x256_o0_0_S16x256
  | ⟨1, _⟩ => slices_S256x256_o16_0_S16x256
  | ⟨2, _⟩ => slices_S256x256_o32_0_S16x256
  | ⟨3, _⟩ => slices_S256x256_o48_0_S16x256
  | ⟨4, _⟩ => slices_S256x256_o64_0_S16x256
  | ⟨5, _⟩ => slices_S256x256_o80_0_S16x256
  | ⟨6, _⟩ => slices_S256x256_o96_0_S16x256
  | ⟨7, _⟩ => slices_S256x256_o112_0_S16x256
  | ⟨8, _⟩ => slices_S256x256_o128_0_S16x256
  | ⟨9, _⟩ => slices_S256x256_o144_0_S16x256
  | ⟨10, _⟩ => slices_S256x256_o160_0_S16x256
  | ⟨11, _⟩ => slices_S256x256_o176_0_S16x256
  | ⟨12, _⟩ => slices_S256x256_o192_0_S16x256
  | ⟨13, _⟩ => slices_S256x256_o208_0_S16x256
  | ⟨14, _⟩ => slices_S256x256_o224_0_S16x256
  | ⟨15, _⟩ => slices_S256x256_o240_0_S16x256
  | ⟨n + 16, h⟩ => absurd h (by omega)

/-- The store of the carried state of sequence `b`. -/
def pre (x1 : Vec Ideal S16x2x1024 .f32) (b : Fin 16) : View.Piece (Elt Ideal) S384x1024 .f32 :=
  ⟨Rect.unit (s := S384x1024) ![b.val * 24 + 6, 0] S2x1024.size (inb_pre b),
    k0_pay7 (F := Ideal) (View.ld x1 (Rect.unit (s := S16x2x1024) ![b.val, 0, 0] S1x2x1024.size (inb_st b)))⟩

/-- The store of the convolution's input of sequence `b` in slab `cb`. -/
def seg (r : FVec Ideal S256x1024 .f32) (cb : Fin 4) (b : Fin 16) : View.Piece (Elt Ideal) S384x1024 .f32 :=
  ⟨Rect.unit (s := S384x1024) ![b.val * 24 + 8, cb.val * 256] S16x256.size (inb_seg b cb 8 (le_refl _)),
    shapeCast S16x256 (extractStridedSlice S16x256 ![b.val * 16, 0] (k0_pay44 (F := Ideal) r) (sl_seg b)) shapeCasts_S16x256_S16x256⟩

/-- The first `n` sequences' carried states, the last store first. -/
def pres (x1 : Vec Ideal S16x2x1024 .f32) : (n : ℕ) → n ≤ 16 → List (View.Piece (Elt Ideal) S384x1024 .f32)
  | 0, _ => []
  | n + 1, h => pre x1 ⟨n, h⟩ :: pres x1 n (Nat.le_of_succ_le h)

/-- The first `n` sequences' segments of slab `cb`, the last store first, over earlier stores. -/
def segs (r : FVec Ideal S256x1024 .f32) (cb : Fin 4) (L : List (View.Piece (Elt Ideal) S384x1024 .f32)) :
    (n : ℕ) → n ≤ 16 → List (View.Piece (Elt Ideal) S384x1024 .f32)
  | 0, _ => L
  | n + 1, h => seg r cb ⟨n, h⟩ :: segs r cb L n (Nat.le_of_succ_le h)

theorem mem_pres (x1 : Vec Ideal S16x2x1024 .f32) (b : Fin 16) : (n : ℕ) → (h : n ≤ 16) → b.val < n → pre x1 b ∈ pres x1 n h
  | 0, _, h => absurd h (Nat.not_lt_zero _)
  | n + 1, h, hb => by
    rcases Nat.lt_succ_iff_lt_or_eq.mp hb with hb | hb
    · exact List.mem_cons_of_mem _ (mem_pres x1 b n _ hb)
    · obtain ⟨b, hb'⟩ := b
      subst hb
      exact List.mem_cons_self

theorem mem_segs (r : FVec Ideal S256x1024 .f32) (cb : Fin 4) (L) (b : Fin 16) :
    (n : ℕ) → (h : n ≤ 16) → b.val < n → seg r cb b ∈ segs r cb L n h
  | 0, _, h => absurd h (Nat.not_lt_zero _)
  | n + 1, h, hb => by
    rcases Nat.lt_succ_iff_lt_or_eq.mp hb with hb | hb
    · exact List.mem_cons_of_mem _ (mem_segs r cb L b n _ hb)
    · obtain ⟨b, hb'⟩ := b
      subst hb
      exact List.mem_cons_self

theorem mem_of_base (r : FVec Ideal S256x1024 .f32) (cb : Fin 4) (L) (p) (hp : p ∈ L) :
    (n : ℕ) → (h : n ≤ 16) → p ∈ segs r cb L n h
  | 0, _ => hp
  | n + 1, _ => List.mem_cons_of_mem _ (mem_of_base r cb L p hp n _)

theorem pay7_apply (x1 : Vec Ideal S16x2x1024 .f32) (b : Fin 16) (s : Fin 2) (j : Fin 1024) :
    k0_pay7 (F := Ideal) (View.ld x1 (Rect.unit (s := S16x2x1024) ![b.val, 0, 0] S1x2x1024.size (inb_st b))) (ix2 s j)
      = x1 (ix3 b s j) := by
  have e (v : Vec Ideal S1x2x1024 .f32) : k0_pay7 (F := Ideal) v (ix2 s j) = v (ix3 0 s j) := by
    pointwise [k0_pay7]
  rw [e]
  refine congrArg x1 (funext fun a => Fin.ext ?_)
  match a with
  | ⟨0, _⟩ => show b.val + 1 * 0 = b.val; omega
  | ⟨1, _⟩ => show 0 + 1 * s.val = s.val; omega
  | ⟨2, _⟩ => show 0 + 1 * j.val = j.val; omega

theorem segv_apply (f : FVec Ideal S256x256 .f32) (b : Fin 16) (p : Fin 16) (l : Fin 256) :
    shapeCast S16x256 (extractStridedSlice S16x256 ![b.val * 16, 0] f (sl_seg b)) shapeCasts_S16x256_S16x256 (ix2 p l)
      = f (ix2 ⟨b.val * 16 + p.val, by omega⟩ l) := by
  pointwise []

theorem pres_of (x1 : Vec Ideal S16x2x1024 .f32) (hx : ∀ b s j, x1 (ix3 b s j) = UP b ⟨s.val, by omega⟩ j) :
    (n : ℕ) → (h : n ≤ 16) → View.PiecesOf (scr UP) (pres x1 n h)
  | 0, _ => trivial
  | n + 1, h => by
    refine ⟨fun (w : S2x1024.Idx) => ?_, pres_of x1 hx n _⟩
    idx_vars w
    refine Eq.trans ?_ (scr_apply UP _ ⟨n, h⟩ ⟨w0.val, by omega⟩ w1 ?_ ?_).symm
    · exact (pay7_apply x1 ⟨n, h⟩ w0 w1).trans (hx ⟨n, h⟩ w0 w1)
    · show n * 24 + 6 + 1 * w0.val = n * 24 + 6 + w0.val
      omega
    · show 0 + 1 * w1.val = w1.val
      omega

theorem segs_of (r : FVec Ideal S256x1024 .f32) (cb : Fin 4) (L) (hL : View.PiecesOf (scr UP) L)
    (hr : ∀ (b p : Fin 16) (l : Fin 256), k0_pay44 (F := Ideal) r (ix2 ⟨b.val * 16 + p.val, by omega⟩ l)
      = UP b ⟨2 + p.val, by omega⟩ ⟨cb.val * 256 + l.val, by omega⟩) :
    (n : ℕ) → (h : n ≤ 16) → View.PiecesOf (scr UP) (segs r cb L n h)
  | 0, _ => hL
  | n + 1, h => by
    refine ⟨fun (w : S16x256.Idx) => ?_, segs_of r cb L hL hr n _⟩
    idx_vars w
    refine Eq.trans ?_ (scr_apply UP _ ⟨n, h⟩ ⟨2 + w0.val, by omega⟩ ⟨cb.val * 256 + w1.val, by omega⟩ ?_ ?_).symm
    · exact (segv_apply _ ⟨n, h⟩ w0 w1).trans (hr ⟨n, h⟩ w0 w1)
    · show n * 24 + 8 + 1 * w0.val = n * 24 + 6 + (2 + w0.val)
      omega
    · show cb.val * 256 + 1 * w1.val = cb.val * 256 + w1.val
      omega

/-- A load at indices that the stores cover reads the contents there. -/
theorem rd (L : List (View.Piece (Elt Ideal) S384x1024 .f32)) (hL : View.PiecesOf (scr UP) L) (B : LoadRect S384x1024) (j)
    (hc : ∃ p ∈ L, B.idx j ∈ p.1.set) : (View.whole cc0_scratch0).readCov L B j = scr UP (B.idx j) := by
  rw [View.readCov_eq_canon']
  have e := View.canon_append_of_piecesOf (scr UP) [] L hL (B.idx j) hc
  rwa [List.append_nil] at e

/-- The load of the 16 rows `d` rows after sequence `b`'s first position, once its segment of the slab is stored. -/
theorem rd_seg (x1 : Vec Ideal S16x2x1024 .f32) (r : FVec Ideal S256x1024 .f32) (cb : Fin 4) (b : Fin 16) (L)
    (hp : ∀ b, pre x1 b ∈ L) (hL : View.PiecesOf (scr UP) (segs r cb L (b.val + 1) b.isLt)) (d : ℕ) (hd : d ≤ 2)
    (inb) (p : Fin 16) (l : Fin 256) :
    (View.whole cc0_scratch0).readCov (segs r cb L (b.val + 1) b.isLt)
        (Rect.unit (s := S384x1024) ![b.val * 24 + (6 + d), cb.val * 256] S16x256.size inb).toLoadRect (ix2 p l)
      = UP b ⟨d + p.val, by omega⟩ ⟨cb.val * 256 + l.val, by omega⟩ := by
  refine (rd UP _ hL _ _ ?_).trans (scr_apply UP _ b _ _ ?_ ?_)
  · by_cases h : d + p.val < 2
    · refine ⟨pre x1 b, mem_of_base _ _ _ _ (hp b) _ _, (Rect.mem_set_unit (inb := inb_pre b)).mpr (Fin.forall_fin_two.mpr ⟨?_, ?_⟩)⟩
      · show b.val * 24 + 6 ≤ b.val * 24 + (6 + d) + 1 * p.val ∧ b.val * 24 + (6 + d) + 1 * p.val < b.val * 24 + 6 + 2
        omega
      · show 0 ≤ cb.val * 256 + 1 * l.val ∧ cb.val * 256 + 1 * l.val < 0 + 1024
        omega
    · refine ⟨seg r cb b, mem_segs _ _ _ _ _ _ (Nat.lt_succ_self _), (Rect.mem_set_unit (inb := inb_seg b cb 8 (le_refl _))).mpr (Fin.forall_fin_two.mpr ⟨?_, ?_⟩)⟩
      · show b.val * 24 + 8 ≤ b.val * 24 + (6 + d) + 1 * p.val ∧ b.val * 24 + (6 + d) + 1 * p.val < b.val * 24 + 8 + 16
        omega
      · show cb.val * 256 ≤ cb.val * 256 + 1 * l.val ∧ cb.val * 256 + 1 * l.val < cb.val * 256 + 256
        omega
  · show b.val * 24 + (6 + d) + 1 * p.val = b.val * 24 + 6 + (d + p.val)
    omega
  · show cb.val * 256 + 1 * l.val = cb.val * 256 + l.val
    omega

/-- The payload over the scratch's loads at a position. -/
theorem cel_rd (x1 : Vec Ideal S16x2x1024 .f32) (r : FVec Ideal S256x1024 .f32) (cb : Fin 4) (b : Fin 16) (L)
    (hp : ∀ b, pre x1 b ∈ L) (hL : View.PiecesOf (scr UP) L)
    (hr : ∀ (b p : Fin 16) (l : Fin 256), k0_pay44 (F := Ideal) r (ix2 ⟨b.val * 16 + p.val, by omega⟩ l)
      = UP b ⟨2 + p.val, by omega⟩ ⟨cb.val * 256 + l.val, by omega⟩)
    (c0 c1 c2 : Vec Ideal S1x256 .f32) (p : Fin 16) (l : Fin 256) :
    cel r (b.val * 16) (sl_seg b)
        ((View.whole cc0_scratch0).readCov (segs r cb L (b.val + 1) b.isLt)
          (Rect.unit (s := S384x1024) ![b.val * 24 + 7, cb.val * 256] S16x256.size (inb_seg b cb 7 (by omega))).toLoadRect)
        ((View.whole cc0_scratch0).readCov (segs r cb L (b.val + 1) b.isLt)
          (Rect.unit (s := S384x1024) ![b.val * 24 + 6, cb.val * 256] S16x256.size (inb_seg b cb 6 (by omega))).toLoadRect)
        c0 c1 c2 (ix2 p l)
      = Ideal.logistic (r (ix2 ⟨b.val * 16 + p.val, by omega⟩ ⟨768 + l.val, by omega⟩))
        * (r (ix2 ⟨b.val * 16 + p.val, by omega⟩ ⟨256 + l.val, by omega⟩)
          * (c0 (ix2 0 l) * UP b ⟨p.val, by omega⟩ ⟨cb.val * 256 + l.val, by omega⟩
            + c1 (ix2 0 l) * UP b ⟨1 + p.val, by omega⟩ ⟨cb.val * 256 + l.val, by omega⟩
            + c2 (ix2 0 l) * UP b ⟨2 + p.val, by omega⟩ ⟨cb.val * 256 + l.val, by omega⟩)) := by
  have hs := segs_of UP r cb L hL hr (b.val + 1) b.isLt
  have e1 := rd_seg UP x1 r cb b L hp hs 1 (by omega) (inb_seg b cb 7 (by omega)) p l
  have e0 := rd_seg UP x1 r cb b L hp hs 0 (by omega) (inb_seg b cb 6 (by omega)) p l
  simp only [Nat.zero_add] at e0
  rw [cel_apply r (b.val * 16) (sl_seg b) _ _ c0 c1 c2 p l ⟨b.val * 16 + p.val, by omega⟩ rfl, ← hr, ← e1, ← e0]

end Cert.Proof.Mix

end
-- ==== Proof.MixCnv.lean ====
/- The sample batch's mixer: the gated convolution and the carried state, the kernel's stores against the reference's results. -/
module

public import proofs.«01_k».proof.Proof.MixBlk
public import proofs.«01_k».proof.Proof.MixPay
public import proofs.«01_k».proof.Proof.MixRef
public import proofs.«01_k».proof.Proof.MixScr

@[expose] public section

set_option maxRecDepth 16384

noncomputable section

namespace Cert.Proof.Mix

open Cert.Kernel4Ideal Cert.Kernel4Ideal.Gen Idealize.ShloMosaic Idealize.ShloMosaic.TcCoe Idealize.SL.Sem

variable (m : (ℓ : Loc nD τ sig) → Buf (Elt Ideal) ℓ)

/-- The reference's gated convolution of the arguments. -/
abbrev out9 (c : Dev nD) : FVec Ideal S256x1024 .bf16 :=
  Cert.Reference4Ideal.Read.val_main_v81 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's carried state of the arguments. -/
abbrev out14 (c : Dev nD) : FVec Ideal S16x2x1024 .f32 :=
  Cert.Reference4Ideal.Read.val_main_v94 (F := Ideal) (m ((c : Thread nD τ).loc main_arg0)) (m ((c : Thread nD τ).loc main_arg1))
    (m ((c : Thread nD τ).loc main_arg2)) (m ((c : Thread nD τ).loc main_arg3))

/-- An entry of the input projection of the arguments. -/
abbrev entA (c : Dev nD) (b p : Fin 16) (n : Fin 6656) : EReal :=
  ent (m ((c : Thread nD τ).loc main_arg0)) (m ((c : Thread nD τ).loc main_arg2)) (m ((c : Thread nD τ).loc main_arg3)) b p n

/-- The convolution's input of the arguments, the carried state before it. -/
abbrev upsA (c : Dev nD) : Fin 16 → Fin 18 → Fin 1024 → EReal :=
  ups (m ((c : Thread nD τ).loc main_arg0)) (m ((c : Thread nD τ).loc main_arg1)) (m ((c : Thread nD τ).loc main_arg2))
    (m ((c : Thread nD τ).loc main_arg3))

theorem prj_congr {x x' nw nw' w w' : Fin 1024 → EReal} (hx : ∀ k, x k = x' k) (hn : ∀ k, nw k = nw' k) (hw : ∀ k, w k = w' k) :
    prj x nw w = prj x' nw' w' := by
  rw [funext hx, funext hn, funext hw]

theorem inb_slab (cb : Fin 4) : ∀ a, (![cb.val, 0, 0] : Fin 3 → ℕ) a + S1x1024x1024.size a ≤ S4x1024x1024.size a := by
  intro a
  match a with
  | ⟨0, _⟩ => show cb.val + 1 ≤ 4; omega
  | ⟨1, _⟩ => show 0 + 1024 ≤ 1024; omega
  | ⟨2, _⟩ => show 0 + 1024 ≤ 1024; omega

/-- The product of slab `cb`. -/
def slb (c : Dev nD) (t : Fin cfg0.N) (cb : Fin 4) : FVec Ideal S256x1024 .f32 :=
  k0_pay26 (F := Ideal) (iblk m c 0 t) (iblk m c 2 t)
    (View.ld (iblk m c 3 t) (Rect.unit (s := S4x1024x1024) ![cb.val, 0, 0] S1x1024x1024.size (inb_slab cb)))

theorem slb_apply (c : Dev nD) (t : Fin cfg0.N) (cb q : Fin 4) (b p : Fin 16) (l : Fin 256) (r : Fin 256) (j : Fin 1024) (n : Fin 6656)
    (hr : r.val = b.val * 16 + p.val) (hj : j.val = q.val * 256 + l.val)
    (hn : n.val = (if q.val = 3 then 4608 else q.val * 1024) + cb.val * 256 + l.val) :
    slb m c t cb (ix2 r j) = entA m c b p n := by
  refine (pay26_apply _ _ _ r j).trans (prj_congr (fun k => ?_) (fun k => ?_) fun k => ?_)
  · exact iblk0_apply m c t r k b p hr
  · exact iblk2_apply m c t k
  · refine Eq.trans ?_ (iblk3_apply m c t cb q k l j n hj hn)
    refine View.ld_unit_apply_of _ _ _ _ _ _ fun a => ?_
    match a with
    | ⟨0, _⟩ => show cb.val = cb.val + 0; omega
    | ⟨1, _⟩ => show k.val = 0 + k.val; omega
    | ⟨2, _⟩ => show j.val = 0 + j.val; omega

/-- What a slab's segments store is the convolution's input. -/
theorem seg_input (c : Dev nD) (t : Fin cfg0.N) (cb : Fin 4) (b p : Fin 16) (l : Fin 256) :
    k0_pay44 (F := Ideal) (slb m c t cb) (ix2 ⟨b.val * 16 + p.val, by omega⟩ l)
      = upsA m c b ⟨2 + p.val, by omega⟩ ⟨cb.val * 256 + l.val, by omega⟩ := by
  have e : (⟨2 + p.val - 2, by omega⟩ : Fin 16) = p := Fin.ext (by show 2 + p.val - 2 = p.val; omega)
  rw [pay44_apply, slb_apply m c t cb ⟨2, by omega⟩ b p l _ _ ⟨2048 + (cb.val * 256 + l.val), by omega⟩ rfl rfl (Nat.add_assoc _ _ _).symm,
    slb_apply m c t cb ⟨0, by omega⟩ b p l _ _ ⟨cb.val * 256 + l.val, by omega⟩ rfl (by show l.val = 0 * 256 + l.val; omega)
      (by show cb.val * 256 + l.val = 0 * 1024 + cb.val * 256 + l.val; omega)]
  unfold upsA ups
  rw [dif_neg (by show ¬ 2 + p.val < 2; omega)]
  unfold inp
  rw [e]

theorem state (c : Dev nD) (t : Fin cfg0.N) (b : Fin 16) (s : Fin 2) (j : Fin 1024) :
    (iblk m c 1 t : Vec Ideal S16x2x1024 .f32) (ix3 b s j) = upsA m c b ⟨s.val, by omega⟩ j := by
  unfold upsA ups
  rw [dif_pos s.isLt]
  exact iblk1_apply m c t b s j

/-- The stores before slab 0, 1, 2, 3 and after the last. -/
def st0 (c : Dev nD) (t : Fin cfg0.N) := pres (iblk m c 1 t) 16 (le_refl _)
def st1 (c : Dev nD) (t : Fin cfg0.N) := segs (slb m c t ⟨0, by omega⟩) ⟨0, by omega⟩ (st0 m c t) 16 (le_refl _)
def st2 (c : Dev nD) (t : Fin cfg0.N) := segs (slb m c t ⟨1, by omega⟩) ⟨1, by omega⟩ (st1 m c t) 16 (le_refl _)
def st3 (c : Dev nD) (t : Fin cfg0.N) := segs (slb m c t ⟨2, by omega⟩) ⟨2, by omega⟩ (st2 m c t) 16 (le_refl _)
def st4 (c : Dev nD) (t : Fin cfg0.N) := segs (slb m c t ⟨3, by omega⟩) ⟨3, by omega⟩ (st3 m c t) 16 (le_refl _)

/-- A list of stores that holds every carried state and agrees with the scratch's contents. -/
def Good (c : Dev nD) (t : Fin cfg0.N) (L : List (View.Piece (Elt Ideal) S384x1024 .f32)) : Prop :=
  (∀ b, pre (iblk m c 1 t) b ∈ L) ∧ View.PiecesOf (scr (upsA m c)) L

theorem good0 (c : Dev nD) (t : Fin cfg0.N) : Good m c t (st0 m c t) :=
  ⟨fun b => mem_pres _ b _ _ b.isLt, pres_of _ _ (state m c t) _ _⟩

theorem good_next (c : Dev nD) (t : Fin cfg0.N) (cb : Fin 4) (L) (h : Good m c t L) :
    Good m c t (segs (slb m c t cb) cb L 16 (le_refl _)) :=
  ⟨fun b => mem_of_base _ _ _ _ (h.1 b) _ _, segs_of _ _ _ _ h.2 (seg_input m c t cb) _ _⟩

theorem good1 (c : Dev nD) (t : Fin cfg0.N) : Good m c t (st1 m c t) := good_next m c t _ _ (good0 m c t)
theorem good2 (c : Dev nD) (t : Fin cfg0.N) : Good m c t (st2 m c t) := good_next m c t _ _ (good1 m c t)
theorem good3 (c : Dev nD) (t : Fin cfg0.N) : Good m c t (st3 m c t) := good_next m c t _ _ (good2 m c t)
theorem good4 (c : Dev nD) (t : Fin cfg0.N) : Good m c t (st4 m c t) := good_next m c t _ _ (good3 m c t)

theorem inb_cw (i : Fin 3) (cb : Fin 4) : ∀ a, (![i.val, cb.val * 256] : Fin 2 → ℕ) a + S1x256.size a ≤ S3x1024.size a :=
  Fin.forall_fin_two.mpr ⟨by show i.val + 1 ≤ 3; omega, by show cb.val * 256 + 256 ≤ 1024; omega⟩

/-- A row of the convolution's weights, the columns of slab `cb`. -/
def cwv (c : Dev nD) (t : Fin cfg0.N) (i : Fin 3) (cb : Fin 4) : Vec Ideal S1x256 .f32 :=
  View.ld (iblk m c 5 t) (Rect.unit (s := S3x1024) ![i.val, cb.val * 256] S1x256.size (inb_cw i cb))

theorem cwv_apply (c : Dev nD) (t : Fin cfg0.N) (i : Fin 3) (cb : Fin 4) (l : Fin 256) :
    cwv m c t i cb (ix2 0 l) = m ((c : Thread nD τ).loc main_arg4) (ix2 i ⟨cb.val * 256 + l.val, by omega⟩) := by
  refine Eq.trans ?_ (iblk5_apply m c t i _)
  exact View.ld_unit_apply_of _ _ _ _ _ _ (Fin.forall_fin_two.mpr ⟨by show i.val = i.val + 0; omega,
    by show cb.val * 256 + l.val = cb.val * 256 + l.val; rfl⟩)

/-- One piece of the gated convolution: sequence `b`, slab `cb`, after the stores `L` of the earlier slabs. -/
theorem piece9 (c : Dev nD) (t : Fin cfg0.N) (cb : ℕ) (hcb : cb < 4) (b : ℕ) (hb : b < 16) (L) (h : Good m c t L)
    (w : S16x256.Idx) (y : S256x1024.Idx) (h0 : (y 0).val = b * 16 + (w 0).val) (h1 : (y 1).val = cb * 256 + (w 1).val) :
    cel (slb m c t ⟨cb, hcb⟩) (b * 16) (sl_seg ⟨b, hb⟩)
        ((View.whole cc0_scratch0).readCov (segs (slb m c t ⟨cb, hcb⟩) ⟨cb, hcb⟩ L (b + 1) hb)
          (Rect.unit (s := S384x1024) ![b * 24 + 7, cb * 256] S16x256.size (inb_seg ⟨b, hb⟩ ⟨cb, hcb⟩ 7 (by omega))).toLoadRect)
        ((View.whole cc0_scratch0).readCov (segs (slb m c t ⟨cb, hcb⟩) ⟨cb, hcb⟩ L (b + 1) hb)
          (Rect.unit (s := S384x1024) ![b * 24 + 6, cb * 256] S16x256.size (inb_seg ⟨b, hb⟩ ⟨cb, hcb⟩ 6 (by omega))).toLoadRect)
        (cwv m c t ⟨0, by omega⟩ ⟨cb, hcb⟩) (cwv m c t ⟨1, by omega⟩ ⟨cb, hcb⟩) (cwv m c t ⟨2, by omega⟩ ⟨cb, hcb⟩) w
      = out9 m c (((cfg0.win 9).blk t).view.emb y) := by
  have e : (((cfg0.win 9).blk t).view.emb y : S256x1024.Idx) = y := by
    idx_vars y
    blk_ext [idx t]
  rw [e]
  idx_vars w
  idx_vars y
  have h0' : y0.val = b * 16 + w0.val := h0
  have h1' : y1.val = cb * 256 + w1.val := h1
  obtain ⟨y0, y0lt⟩ := y0
  obtain ⟨y1, y1lt⟩ := y1
  subst h0' h1'
  refine Eq.trans ?_ (out9_apply _ _ _ _ _ ⟨b, hb⟩ w0 _ rfl _).symm
  refine (cel_rd (upsA m c) (iblk m c 1 t) (slb m c t ⟨cb, hcb⟩) ⟨cb, hcb⟩ ⟨b, hb⟩ L h.1 h.2 (seg_input m c t _) _ _ _ w0 w1).trans ?_
  rw [slb_apply m c t ⟨cb, hcb⟩ ⟨3, by omega⟩ ⟨b, hb⟩ w0 w1 _ _ ⟨4608 + (cb * 256 + w1.val), by omega⟩ rfl rfl (Nat.add_assoc _ _ _).symm,
    slb_apply m c t ⟨cb, hcb⟩ ⟨1, by omega⟩ ⟨b, hb⟩ w0 w1 _ _ ⟨1024 + (cb * 256 + w1.val), by omega⟩ rfl rfl (Nat.add_assoc _ _ _).symm,
    cwv_apply, cwv_apply, cwv_apply]
  rfl

theorem inb_tail (b : Fin 16) : ∀ a, (![b.val * 24 + 22, 0] : Fin 2 → ℕ) a + S2x1024.size a ≤ S384x1024.size a :=
  Fin.forall_fin_two.mpr ⟨by show b.val * 24 + 22 + 2 ≤ 384; omega, by show 0 + 1024 ≤ 1024; omega⟩

/-- Every slab's segments are among the stores after the last slab. -/
theorem mem_st4 (c : Dev nD) (t : Fin cfg0.N) (cb : Fin 4) (b : Fin 16) : seg (slb m c t cb) cb b ∈ st4 m c t := by
  match cb with
  | ⟨0, _⟩ => exact mem_of_base _ _ _ _ (mem_of_base _ _ _ _ (mem_of_base _ _ _ _ (mem_segs _ _ _ b _ _ b.isLt) _ _) _ _) _ _
  | ⟨1, _⟩ => exact mem_of_base _ _ _ _ (mem_of_base _ _ _ _ (mem_segs _ _ _ b _ _ b.isLt) _ _) _ _
  | ⟨2, _⟩ => exact mem_of_base _ _ _ _ (mem_segs _ _ _ b _ _ b.isLt) _ _
  | ⟨3, _⟩ => exact mem_segs _ _ _ b _ _ b.isLt

theorem pay4_apply (v : Vec Ideal S2x1024 .f32) (s : Fin 2) (j : Fin 1024) : k0_pay4 (F := Ideal) v (ix3 0 s j) = v (ix2 s j) := by
  pointwise [k0_pay4]

/-- One piece of the carried state: sequence `b`'s last two positions, read after the last slab. -/
theorem piece14 (c : Dev nD) (t : Fin cfg0.N) (b : ℕ) (hb : b < 16) (w : S1x2x1024.Idx) (y : S16x2x1024.Idx)
    (h0 : (y 0).val = b + (w 0).val) (h1 : (y 1).val = (w 1).val) (h2 : (y 2).val = (w 2).val) :
    k0_pay4 (F := Ideal) ((View.whole cc0_scratch0).readCov (st4 m c t)
        (Rect.unit (s := S384x1024) ![b * 24 + 22, 0] S2x1024.size (inb_tail ⟨b, hb⟩)).toLoadRect) w
      = out14 m c (((cfg0.win 14).blk t).view.emb y) := by
  have e : (((cfg0.win 14).blk t).view.emb y : S16x2x1024.Idx) = y := by
    idx_vars y
    blk_ext [idx t]
  rw [e]
  idx_vars w
  idx_vars y
  have h0' : y0.val = b + w0.val := h0
  have h1' : y1 = w1 := Fin.ext h1
  have h2' : y2 = w2 := Fin.ext h2
  have hw : w0 = 0 := Fin.ext (Nat.lt_one_iff.mp w0.isLt)
  subst h1' h2' hw
  have h0'' : y0 = ⟨b, hb⟩ := Fin.ext h0'
  subst h0''
  have hy1 : y1.val < 2 := y1.isLt
  have hy2 : y2.val < 1024 := y2.isLt
  have hq : y2.val / 256 < 4 := by omega
  refine Eq.trans ?_ (out14_apply _ _ _ _ _ 0 0 _ _).symm
  refine (pay4_apply _ _ _).trans ?_
  refine (rd (upsA m c) _ (good4 m c t).2 _ _ ?_).trans (scr_apply (upsA m c) _ ⟨b, hb⟩ _ _ ?_ ?_)
  · refine ⟨seg (slb m c t ⟨y2.val / 256, hq⟩) ⟨y2.val / 256, hq⟩ ⟨b, hb⟩, mem_st4 m c t _ _,
      (Rect.mem_set_unit (inb := inb_seg ⟨b, hb⟩ ⟨y2.val / 256, hq⟩ 8 (le_refl _))).mpr (Fin.forall_fin_two.mpr ⟨?_, ?_⟩)⟩
    · show b * 24 + 8 ≤ b * 24 + 22 + 1 * y1.val ∧ b * 24 + 22 + 1 * y1.val < b * 24 + 8 + 16
      omega
    · show y2.val / 256 * 256 ≤ 0 + 1 * y2.val ∧ 0 + 1 * y2.val < y2.val / 256 * 256 + 256
      omega
  · show b * 24 + 22 + 1 * y1.val = b * 24 + 6 + (16 + y1.val)
    omega
  · show 0 + 1 * y2.val = y2.val
    omega

end Cert.Proof.Mix

end
-- ==== Proof.MixFin9.lean ====
/- The sample batch's mixer: the gated convolution's array after the run. -/
module

public import proofs.«01_k».proof.Proof.MixCnv

@[expose] public section

set_option maxRecDepth 16384

noncomputable section

namespace Cert.Proof.Mix

open Cert.Kernel4Ideal Cert.Kernel4Ideal.Gen Idealize.ShloMosaic Idealize.ShloMosaic.TcCoe Idealize.SL.Sem

variable (m : (ℓ : Loc nD τ sig) → Buf (Elt Ideal) ℓ)

set_option maxHeartbeats 4000000

/-- After the run the gated convolution's array is the reference's. -/
theorem final9 (c : Dev nD) : (dats m 0 c).arrAt 9 cfg0.N = out9 m c := by
  refine (dats m 0 c).arrAt_eq_of_covers 9 _ (by decide +kernel) fun t _ y => ?_
  blk_simp
  rw [after0_9]
  refine congrFun (?_ : (outsAt0 m c t).1 = fun y => out9 m c (((cfg0.win 9).blk t).view.emb y)) y
  frame_out
  funext y
  show View.canon _ y = _
  canon_tiles w hw
  · exact piece9 m c t 3 (by omega) 15 (by omega) _ (good3 m c t) w y (by omega) (by omega)
  · exact piece9 m c t 3 (by omega) 14 (by omega) _ (good3 m c t) w y (by omega) (by omega)
  · exact piece9 m c t 3 (by omega) 13 (by omega) _ (good3 m c t) w y (by omega) (by omega)
  · exact piece9 m c t 3 (by omega) 12 (by omega) _ (good3 m c t) w y (by omega) (by omega)
  · exact piece9 m c t 3 (by omega) 11 (by omega) _ (good3 m c t) w y (by omega) (by omega)
  · exact piece9 m c t 3 (by omega) 10 (by omega) _ (good3 m c t) w y (by omega) (by omega)
  · exact piece9 m c t 3 (by omega) 9 (by omega) _ (good3 m c t) w y (by omega) (by omega)
  · exact piece9 m c t 3 (by omega) 8 (by omega) _ (good3 m c t) w y (by omega) (by omega)
  · exact piece9 m c t 3 (by omega) 7 (by omega) _ (good3 m c t) w y (by omega) (by omega)
  · exact piece9 m c t 3 (by omega) 6 (by omega) _ (good3 m c t) w y (by omega) (by omega)
  · exact piece9 m c t 3 (by omega) 5 (by omega) _ (good3 m c t) w y (by omega) (by omega)
  · exact piece9 m c t 3 (by omega) 4 (by omega) _ (good3 m c t) w y (by omega) (by omega)
  · exact piece9 m c t 3 (by omega) 3 (by omega) _ (good3 m c t) w y (by omega) (by omega)
  · exact piece9 m c t 3 (by omega) 2 (by omega) _ (good3 m c t) w y (by omega) (by omega)
  · exact piece9 m c t 3 (by omega) 1 (by omega) _ (good3 m c t) w y (by omega) (by omega)
  · exact piece9 m c t 3 (by omega) 0 (by omega) _ (good3 m c t) w y (by omega) (by omega)
  · exact piece9 m c t 2 (by omega) 15 (by omega) _ (good2 m c t) w y (by omega) (by omega)
  · exact piece9 m c t 2 (by omega) 14 (by omega) _ (good2 m c t) w y (by omega) (by omega)
  · exact piece9 m c t 2 (by omega) 13 (by omega) _ (good2 m c t) w y (by omega) (by omega)
  · exact piece9 m c t 2 (by omega) 12 (by omega) _ (good2 m c t) w y (by omega) (by omega)
  · exact piece9 m c t 2 (by omega) 11 (by omega) _ (good2 m c t) w y (by omega) (by omega)
  · exact piece9 m c t 2 (by omega) 10 (by omega) _ (good2 m c t) w y (by omega) (by omega)
  · exact piece9 m c t 2 (by omega) 9 (by omega) _ (good2 m c t) w y (by omega) (by omega)
  · exact piece9 m c t 2 (by omega) 8 (by omega) _ (good2 m c t) w y (by omega) (by omega)
  · exact piece9 m c t 2 (by omega) 7 (by omega) _ (good2 m c t) w y (by omega) (by omega)
  · exact piece9 m c t 2 (by omega) 6 (by omega) _ (good2 m c t) w y (by omega) (by omega)
  · exact piece9 m c t 2 (by omega) 5 (by omega) _ (good2 m c t) w y (by omega) (by omega)
  · exact piece9 m c t 2 (by omega) 4 (by omega) _ (good2 m c t) w y (by omega) (by omega)
  · exact piece9 m c t 2 (by omega) 3 (by omega) _ (good2 m c t) w y (by omega) (by omega)
  · exact piece9 m c t 2 (by omega) 2 (by omega) _ (good2 m c t) w y (by omega) (by omega)
  · exact piece9 m c t 2 (by omega) 1 (by omega) _ (good2 m c t) w y (by omega) (by omega)
  · exact piece9 m c t 2 (by omega) 0 (by omega) _ (good2 m c t) w y (by omega) (by omega)
  · exact piece9 m c t 1 (by omega) 15 (by omega) _ (good1 m c t) w y (by omega) (by omega)
  · exact piece9 m c t 1 (by omega) 14 (by omega) _ (good1 m c t) w y (by omega) (by omega)
  · exact piece9 m c t 1 (by omega) 13 (by omega) _ (good1 m c t) w y (by omega) (by omega)
  · exact piece9 m c t 1 (by omega) 12 (by omega) _ (good1 m c t) w y (by omega) (by omega)
  · exact piece9 m c t 1 (by omega) 11 (by omega) _ (good1 m c t) w y (by omega) (by omega)
  · exact piece9 m c t 1 (by omega) 10 (by omega) _ (good1 m c t) w y (by omega) (by omega)
  · exact piece9 m c t 1 (by omega) 9 (by omega) _ (good1 m c t) w y (by omega) (by omega)
  · exact piece9 m c t 1 (by omega) 8 (by omega) _ (good1 m c t) w y (by omega) (by omega)
  · exact piece9 m c t 1 (by omega) 7 (by omega) _ (good1 m c t) w y (by omega) (by omega)
  · exact piece9 m c t 1 (by omega) 6 (by omega) _ (good1 m c t) w y (by omega) (by omega)
  · exact piece9 m c t 1 (by omega) 5 (by omega) _ (good1 m c t) w y (by omega) (by omega)
  · exact piece9 m c t 1 (by omega) 4 (by omega) _ (good1 m c t) w y (by omega) (by omega)
  · exact piece9 m c t 1 (by omega) 3 (by omega) _ (good1 m c t) w y (by omega) (by omega)
  · exact piece9 m c t 1 (by omega) 2 (by omega) _ (good1 m c t) w y (by omega) (by omega)
  · exact piece9 m c t 1 (by omega) 1 (by omega) _ (good1 m c t) w y (by omega) (by omega)
  · exact piece9 m c t 1 (by omega) 0 (by omega) _ (good1 m c t) w y (by omega) (by omega)
  · exact piece9 m c t 0 (by omega) 15 (by omega) _ (good0 m c t) w y (by omega) (by omega)
  · exact piece9 m c t 0 (by omega) 14 (by omega) _ (good0 m c t) w y (by omega) (by omega)
  · exact piece9 m c t 0 (by omega) 13 (by omega) _ (good0 m c t) w y (by omega) (by omega)
  · exact piece9 m c t 0 (by omega) 12 (by omega) _ (good0 m c t) w y (by omega) (by omega)
  · exact piece9 m c t 0 (by omega) 11 (by omega) _ (good0 m c t) w y (by omega) (by omega)
  · exact piece9 m c t 0 (by omega) 10 (by omega) _ (good0 m c t) w y (by omega) (by omega)
  · exact piece9 m c t 0 (by omega) 9 (by omega) _ (good0 m c t) w y (by omega) (by omega)
  · exact piece9 m c t 0 (by omega) 8 (by omega) _ (good0 m c t) w y (by omega) (by omega)
  · exact piece9 m c t 0 (by omega) 7 (by omega) _ (good0 m c t) w y (by omega) (by omega)
  · exact piece9 m c t 0 (by omega) 6 (by omega) _ (good0 m c t) w y (by omega) (by omega)
  · exact piece9 m c t 0 (by omega) 5 (by omega) _ (good0 m c t) w y (by omega) (by omega)
  · exact piece9 m c t 0 (by omega) 4 (by omega) _ (good0 m c t) w y (by omega) (by omega)
  · exact piece9 m c t 0 (by omega) 3 (by omega) _ (good0 m c t) w y (by omega) (by omega)
  · exact piece9 m c t 0 (by omega) 2 (by omega) _ (good0 m c t) w y (by omega) (by omega)
  · exact piece9 m c t 0 (by omega) 1 (by omega) _ (good0 m c t) w y (by omega) (by omega)
  · exact piece9 m c t 0 (by omega) 0 (by omega) _ (good0 m c t) w y (by omega) (by omega)

end Cert.Proof.Mix

end
-- ==== Proof.MixFin14.lean ====
/- The sample batch's mixer: the carried state's array after the run. -/
module

public import proofs.«01_k».proof.Proof.MixCnv

@[expose] public section

set_option maxRecDepth 16384

noncomputable section

namespace Cert.Proof.Mix

open Cert.Kernel4Ideal Cert.Kernel4Ideal.Gen Idealize.ShloMosaic Idealize.ShloMosaic.TcCoe Idealize.SL.Sem

variable (m : (ℓ : Loc nD τ sig) → Buf (Elt Ideal) ℓ)

set_option maxHeartbeats 4000000

/-- After the run the carried state's array is the reference's. -/
theorem final14 (c : Dev nD) : (dats m 0 c).arrAt 14 cfg0.N = out14 m c := by
  refine (dats m 0 c).arrAt_eq_of_covers 14 _ (by decide +kernel) fun t _ y => ?_
  blk_simp
  rw [after0_14]; frame_out
  canon_tiles w hw
  · exact piece14 m c t 15 (by omega) w y (by omega) (by omega) (by omega)
  · exact piece14 m c t 14 (by omega) w y (by omega) (by omega) (by omega)
  · exact piece14 m c t 13 (by omega) w y (by omega) (by omega) (by omega)
  · exact piece14 m c t 12 (by omega) w y (by omega) (by omega) (by omega)
  · exact piece14 m c t 11 (by omega) w y (by omega) (by omega) (by omega)
  · exact piece14 m c t 10 (by omega) w y (by omega) (by omega) (by omega)
  · exact piece14 m c t 9 (by omega) w y (by omega) (by omega) (by omega)
  · exact piece14 m c t 8 (by omega) w y (by omega) (by omega) (by omega)
  · exact piece14 m c t 7 (by omega) w y (by omega) (by omega) (by omega)
  · exact piece14 m c t 6 (by omega) w y (by omega) (by omega) (by omega)
  · exact piece14 m c t 5 (by omega) w y (by omega) (by omega) (by omega)
  · exact piece14 m c t 4 (by omega) w y (by omega) (by omega) (by omega)
  · exact piece14 m c t 3 (by omega) w y (by omega) (by omega) (by omega)
  · exact piece14 m c t 2 (by omega) w y (by omega) (by omega) (by omega)
  · exact piece14 m c t 1 (by omega) w y (by omega) (by omega) (by omega)
  · exact piece14 m c t 0 (by omega) w y (by omega) (by omega) (by omega)

end Cert.Proof.Mix

end
-- ==== Proof.MixVal.lean ====
/- The sample batch's mixer: the queries, the attention gate, the keys, and the values after the run. -/
module

public import proofs.«01_k».proof.Proof.MixCnv

@[expose] public section

set_option maxRecDepth 16384

noncomputable section

namespace Cert.Proof.Mix

open Cert.Kernel4Ideal Cert.Kernel4Ideal.Gen Idealize.ShloMosaic Idealize.ShloMosaic.TcCoe Idealize.SL.Sem

variable (m : (ℓ : Loc nD τ sig) → Buf (Elt Ideal) ℓ)

/-- The reference's normed queries of the arguments. -/
abbrev out10 (c : Dev nD) : FVec Ideal S256x1024 .bf16 :=
  Cert.Reference4Ideal.Read.val_main_v83 (F := Ideal) (m ((c : Thread nD τ).loc main_arg0)) (m ((c : Thread nD τ).loc main_arg2))
    (m ((c : Thread nD τ).loc main_arg3)) (m ((c : Thread nD τ).loc main_arg5))

/-- The reference's attention gate of the arguments. -/
abbrev out11 (c : Dev nD) : FVec Ideal S256x1024 .bf16 :=
  Cert.Reference4Ideal.Read.val_main_v91 (F := Ideal) (m ((c : Thread nD τ).loc main_arg0)) (m ((c : Thread nD τ).loc main_arg2))
    (m ((c : Thread nD τ).loc main_arg3))

/-- The reference's normed keys of the arguments. -/
abbrev out12 (c : Dev nD) : FVec Ideal S256x256 .f32 :=
  Cert.Reference4Ideal.Read.val_main_v92 (F := Ideal) (m ((c : Thread nD τ).loc main_arg0)) (m ((c : Thread nD τ).loc main_arg2))
    (m ((c : Thread nD τ).loc main_arg3)) (m ((c : Thread nD τ).loc main_arg6))

/-- The reference's values of the arguments. -/
abbrev out13 (c : Dev nD) : FVec Ideal S256x256 .f32 :=
  Cert.Reference4Ideal.Read.val_main_v93 (F := Ideal) (m ((c : Thread nD τ).loc main_arg0)) (m ((c : Thread nD τ).loc main_arg2))
    (m ((c : Thread nD τ).loc main_arg3))

/-- The query, key and value columns of the projection. -/
def qkv (c : Dev nD) (t : Fin cfg0.N) : FVec Ideal S256x1536 .f32 :=
  k0_pay25 (F := Ideal) (iblk m c 0 t) (iblk m c 2 t)
    (View.ld (iblk m c 4 t) (Rect.unit (s := S1024x2560) ![0, 0] S1024x1536.size inb_S1024x2560_S1024x1536_0_0))

theorem qkv_apply (c : Dev nD) (t : Fin cfg0.N) (r : Fin 256) (b p : Fin 16) (hr : r.val = b.val * 16 + p.val) (j : Fin 1536)
    (n : Fin 6656) (hn : n.val = 3072 + j.val) : qkv m c t (ix2 r j) = entA m c b p n := by
  refine (pay25_apply _ _ _ r j).trans (prj_congr (fun k => ?_) (fun k => ?_) fun k => ?_)
  · exact iblk0_apply m c t r k b p hr
  · exact iblk2_apply m c t k
  · refine Eq.trans ?_ (iblk4_apply m c t k ⟨j.val, by omega⟩ n (by rw [if_pos j.isLt]; exact hn))
    exact View.ld_unit_apply_of _ _ _ _ _ _ (Fin.forall_fin_two.mpr ⟨by show k.val = 0 + k.val; omega, by show j.val = 0 + j.val; omega⟩)

/-- A lane normed through the block-diagonal matrix is normed by its head's mean square. -/
theorem lan_eq (t B : Fin 256 → EReal) (w : EReal) (l : Fin 256) (g : Fin 4) (d : Fin 64) (hl : l.val = g.val * 64 + d.val)
    (u v : Fin 64 → EReal) (hB : ∀ k : Fin 256, B k = if k.val / 64 = l.val / 64 then ((1 / 64 : ℝ) : EReal) else 0)
    (hu : ∀ (k : Fin 256) (e : Fin 64), k.val = g.val * 64 + e.val → t k = u e) (hw : w = v d) : lan t B w l = hnm u v d := by
  have hg : l.val / 64 = g.val := by omega
  unfold lan hnm
  rw [head_mean t B u g (by rwa [hg] at hB) hu, hu l d hl, hw]

theorem inb_qw (i : Fin 4) : ∀ a, (![0, i.val * 256] : Fin 2 → ℕ) a + S1x256.size a ≤ S1x1024.size a :=
  Fin.forall_fin_two.mpr ⟨by show 0 + 1 ≤ 1; omega, by show i.val * 256 + 256 ≤ 1024; omega⟩

/-- One piece of the queries: the columns from `256 i` on. -/
theorem piece10 (c : Dev nD) (t : Fin cfg0.N) (i : ℕ) (hi : i < 4) (pay : FVec Ideal S256x256 .bf16)
    (hp : ∀ r l : Fin 256, pay (ix2 r l) = lan (fun k => qkv m c t (ix2 r ⟨i * 256 + k.val, by omega⟩))
      (fun k => (iblk m c 6 t : Vec Ideal S256x256 _) (ix2 k l))
      (View.ld (iblk m c 7 t) (Rect.unit (s := S1x1024) ![0, i * 256] S1x256.size (inb_qw ⟨i, hi⟩)) (ix2 0 l)) l)
    (w : S256x256.Idx) (y : S256x1024.Idx) (h0 : (y 0).val = (w 0).val) (h1 : (y 1).val = i * 256 + (w 1).val) :
    pay w = out10 m c (((cfg0.win 10).blk t).view.emb y) := by
  have e : (((cfg0.win 10).blk t).view.emb y : S256x1024.Idx) = y := by
    idx_vars y
    blk_ext [idx t]
  rw [e]
  idx_vars w
  idx_vars y
  have h0' : y0 = w0 := Fin.ext h0
  have h1' : y1.val = i * 256 + w1.val := h1
  subst h0'
  have hw1 : w1.val < 256 := w1.isLt
  have hy0 : y0.val < 256 := y0.isLt
  refine Eq.trans ?_ (out10_apply _ _ _ _ ⟨y0.val / 16, by omega⟩ ⟨y0.val % 16, by omega⟩ _ (by show y0.val = y0.val / 16 * 16 + y0.val % 16; omega)
    ⟨i * 4 + w1.val / 64, by omega⟩ ⟨w1.val % 64, by omega⟩ _ (by show y1.val = (i * 4 + w1.val / 64) * 64 + w1.val % 64; omega)).symm
  refine (hp y0 w1).trans (lan_eq _ _ _ w1 ⟨w1.val / 64, by omega⟩ _ (by show w1.val = w1.val / 64 * 64 + w1.val % 64; omega) _ _
    (fun k => iblk6_apply m c t k w1) (fun k e hk => ?_) ?_)
  · have hk' : k.val = w1.val / 64 * 64 + e.val := hk
    exact qkv_apply m c t y0 _ _ (by show y0.val = y0.val / 16 * 16 + y0.val % 16; omega) _ _
      (by show 3072 + ((i * 4 + w1.val / 64) * 64 + e.val) = 3072 + (i * 256 + k.val); omega)
  · refine Eq.trans ?_ (iblk7_apply m c t ⟨i * 256 + w1.val, by omega⟩ _ (by show w1.val % 64 = (i * 256 + w1.val) % 64; omega))
    exact View.ld_unit_apply_of _ _ _ _ _ _ (Fin.forall_fin_two.mpr ⟨by show 0 = 0 + 0; omega, rfl⟩)

/-- After the run the queries' array is the reference's. -/
theorem final10 (c : Dev nD) : (dats m 0 c).arrAt 10 cfg0.N = out10 m c := by
  refine (dats m 0 c).arrAt_eq_of_covers 10 _ (by decide +kernel) fun t _ y => ?_
  blk_simp
  rw [after0_10]; frame_out
  canon_tiles w hw
  · exact piece10 m c t 3 (by omega) _ (fun r l => pay39_apply (qkv m c t) (iblk m c 6 t) _ r l) w y (by omega) (by omega)
  · exact piece10 m c t 2 (by omega) _ (fun r l => pay38_apply (qkv m c t) (iblk m c 6 t) _ r l) w y (by omega) (by omega)
  · exact piece10 m c t 1 (by omega) _ (fun r l => pay35_apply (qkv m c t) (iblk m c 6 t) _ r l) w y (by omega) (by omega)
  · exact piece10 m c t 0 (by omega) _ (fun r l => (pay34_apply (qkv m c t) (iblk m c 6 t) _ r l).trans
      (by simp only [Nat.zero_mul, Nat.zero_add])) w y (by omega) (by omega)

/-- After the run the keys' array is the reference's. -/
theorem final12 (c : Dev nD) : (dats m 0 c).arrAt 12 cfg0.N = out12 m c := by
  refine (dats m 0 c).arrAt_eq_of_covers 12 _ (by decide +kernel) fun t _ y => ?_
  blk_simp
  rw [after0_12]; frame_out
  have e : (((cfg0.win 12).blk t).view.emb y : S256x256.Idx) = y := by
    idx_vars y
    blk_ext [idx t]
  refine Eq.trans ?_ (congrArg (out12 m c) e).symm
  idx_vars y
  have hy0 : y0.val < 256 := y0.isLt
  have hy1 : y1.val < 256 := y1.isLt
  refine Eq.trans ?_ (out12_apply _ _ _ _ ⟨y0.val / 16, by omega⟩ ⟨y0.val % 16, by omega⟩ _ (by show y0.val = y0.val / 16 * 16 + y0.val % 16; omega)
    ⟨y1.val / 64, by omega⟩ ⟨y1.val % 64, by omega⟩ _ (by show y1.val = y1.val / 64 * 64 + y1.val % 64; omega)).symm
  refine (pay40_apply (qkv m c t) (iblk m c 6 t) (iblk m c 8 t) y0 y1).trans (lan_eq _ _ _ y1 ⟨y1.val / 64, by omega⟩ _
    (by show y1.val = y1.val / 64 * 64 + y1.val % 64; omega) _ _
    (fun k => iblk6_apply m c t k y1) (fun k e hk => ?_) ?_)
  · have hk' : k.val = y1.val / 64 * 64 + e.val := hk
    exact qkv_apply m c t y0 _ _ (by show y0.val = y0.val / 16 * 16 + y0.val % 16; omega) _ _
      (by show 4096 + (y1.val / 64 * 64 + e.val) = 3072 + (1024 + k.val); omega)
  · exact iblk8_apply m c t y1 _ rfl

/-- After the run the values' array is the reference's. -/
theorem final13 (c : Dev nD) : (dats m 0 c).arrAt 13 cfg0.N = out13 m c := by
  refine (dats m 0 c).arrAt_eq_of_covers 13 _ (by decide +kernel) fun t _ y => ?_
  blk_simp
  rw [after0_13]; frame_out
  have e : (((cfg0.win 13).blk t).view.emb y : S256x256.Idx) = y := by
    idx_vars y
    blk_ext [idx t]
  refine Eq.trans ?_ (congrArg (out13 m c) e).symm
  idx_vars y
  have hy0 : y0.val < 256 := y0.isLt
  refine Eq.trans ?_ (out13_apply _ _ _ ⟨y0.val / 16, by omega⟩ ⟨y0.val % 16, by omega⟩ _ (by show y0.val = y0.val / 16 * 16 + y0.val % 16; omega)
    _).symm
  refine (pay41_apply (qkv m c t) y0 y1).trans ?_
  exact qkv_apply m c t y0 _ _ (by show y0.val = y0.val / 16 * 16 + y0.val % 16; omega) _ _
      (by show 4352 + y1.val = 3072 + (1280 + y1.val); omega)

theorem inb_gate (o n : ℕ) (h : o + n ≤ 2560) : ∀ a, (![0, o] : Fin 2 → ℕ) a + (![1024, n] : Fin 2 → ℕ) a ≤ S1024x2560.size a :=
  Fin.forall_fin_two.mpr ⟨by show 0 + 1024 ≤ 1024; omega, h⟩

/-- One piece of the attention gate: `n` columns from `o` on. -/
theorem piece11 (c : Dev nD) (t : Fin cfg0.N) (o n : ℕ) (hn : o + n ≤ 1024) (pay : Fin 256 → Fin n → EReal)
    (hp : ∀ (r : Fin 256) (l : Fin n), pay r l = Ideal.logistic (prj (fun k => (iblk m c 0 t : Vec Ideal S256x1024 _) (ix2 r k))
      (fun k => (iblk m c 2 t : Vec Ideal S1x1024 _) (ix2 0 k))
      (fun k => View.ld (iblk m c 4 t) (Rect.unit (s := S1024x2560) ![0, 1536 + o] ![1024, n] (inb_gate (1536 + o) n (by omega))) (ix2 k l))))
    (r : Fin 256) (l : Fin n) (y : S256x1024.Idx) (h0 : (y 0).val = r.val) (h1 : (y 1).val = o + l.val) :
    pay r l = out11 m c (((cfg0.win 11).blk t).view.emb y) := by
  have e : (((cfg0.win 11).blk t).view.emb y : S256x1024.Idx) = y := by
    idx_vars y
    blk_ext [idx t]
  rw [e]
  idx_vars y
  have h0' : y0 = r := Fin.ext h0
  have h1' : y1.val = o + l.val := h1
  subst h0'
  have hl : l.val < n := l.isLt
  have hy0 : y0.val < 256 := y0.isLt
  refine Eq.trans ?_ (out11_apply _ _ _ ⟨y0.val / 16, by omega⟩ ⟨y0.val % 16, by omega⟩ _ (by show y0.val = y0.val / 16 * 16 + y0.val % 16; omega)
    _).symm
  refine (hp y0 l).trans (congrArg Ideal.logistic (prj_congr (fun k => ?_) (fun k => ?_) fun k => ?_))
  · exact iblk0_apply m c t y0 k _ _ (by show y0.val = y0.val / 16 * 16 + y0.val % 16; omega)
  · exact iblk2_apply m c t k
  · refine Eq.trans ?_ (iblk4_apply m c t k ⟨1536 + o + l.val, by omega⟩ _
      (by rw [if_neg (by show ¬ 1536 + o + l.val < 1536; omega)]; show 5632 + y1.val = 4096 + (1536 + o + l.val); omega))
    exact View.ld_unit_apply_of _ _ _ _ _ _ (Fin.forall_fin_two.mpr ⟨by show k.val = 0 + k.val; omega, rfl⟩)

/-- After the run the attention gate's array is the reference's. -/
theorem final11 (c : Dev nD) : (dats m 0 c).arrAt 11 cfg0.N = out11 m c := by
  refine (dats m 0 c).arrAt_eq_of_covers 11 _ (by decide +kernel) fun t _ y => ?_
  blk_simp
  rw [after0_11]; frame_out
  canon_tiles w hw using (View.cover_of_tiledBy _ ![256, 256] (by sl_kernel_rfl) _)
  · idx_vars w
    exact piece11 m c t 768 256 (by omega) _ (fun r l => pay6_apply (iblk m c 0 t) (iblk m c 2 t) _ r l) w0 w1 y hw0 hw1
  · idx_vars w
    exact piece11 m c t 0 768 (by omega) _ (fun r l => pay5_apply (iblk m c 0 t) (iblk m c 2 t) _ r l) w0 w1 y hw0 (by omega)

end Cert.Proof.Mix

end
-- ==== Proof.MixClaims.lean ====
/- The five claims of the sample batch's mixer input. -/
module

public import proofs.«01_k».proof.Defs
public import proofs.«01_k».proof.Proof.MixFin9
public import proofs.«01_k».proof.Proof.MixFin14
public import proofs.«01_k».proof.Proof.MixVal
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent

@[expose] public section

set_option maxRecDepth 16384

noncomputable section

namespace Cert.Proof.Mix

open Idealize.ShloMosaic Idealize.ShloMosaic.TcCoe Idealize.SL.Sem

/-- The kernel's frame at its float formats and at the extended reals. -/
theorem frame_k : Cert.quiescent_Kernel4 := fun m ρ _ => Cert.Kernel4.Gen.frame m ρ
theorem frame_ki : Cert.quiescent_Kernel4Ideal := fun m ρ _ => Cert.Kernel4Ideal.Gen.frame m ρ

/-- The reference's frame: its run read at the arguments; it declares no semaphore. -/
theorem frame_ri : Cert.quiescent_Reference4Ideal := fun m ρ _ =>
  (θ_run Cert.Reference4Ideal.defs _ _).mono
    (fun r h => ⟨fun c => (h c).2.2.2.2.2.2, sem_eq_zero_of_no_sems (by decide) r.2⟩)
    (Cert.Reference4Ideal.Value.run (F := Ideal) m ρ)

/-- The idealized kernel is the kernel's own text. -/
theorem preserves : Cert.preserves_Kernel4_Kernel4Ideal := trivial

/-- From equal arguments the kernel's six results and the reference's are equal at the extended reals. -/
theorem algebraic : Cert.algebraic_Kernel4Ideal_Reference4Ideal := by
  intro m ρ m' ρ' _ hag
  refine ⟨fun c => out9 m c, fun c => out10 m c, fun c => out11 m c, fun c => out12 m c, fun c => out13 m c, fun c => out14 m c, ?_, ?_⟩
  · refine (θ_run Cert.Kernel4Ideal.defs _ _).mono (fun _ h c => ?_) (Cert.Kernel4Ideal.Value.run_blocks (F := Ideal) m ρ)
    obtain ⟨e9, e10, e11, e12, e13, e14, ha⟩ := h c
    exact ⟨e9.trans (final9 m c), e10.trans (final10 m c), e11.trans (final11 m c), e12.trans (final12 m c),
      e13.trans (final13 m c), e14.trans (final14 m c), ha⟩
  · refine (θ_run Cert.Reference4Ideal.defs _ _).mono (fun _ h c => ?_) (Cert.Reference4Ideal.Value.run (F := Ideal) m' ρ')
    obtain ⟨e9, e10, e11, e12, e13, e14, ha⟩ := h c
    obtain ⟨h0, h1, h2, h3, h4, h5, h6⟩ := hag c
    refine ⟨e9.trans ?_, e10.trans ((Cert.Reference4Ideal.Read.val_main_v83_eq _ _ _ _).trans ?_),
      e11.trans ((Cert.Reference4Ideal.Read.val_main_v91_eq _ _ _).trans ?_),
      e12.trans ((Cert.Reference4Ideal.Read.val_main_v92_eq _ _ _ _).trans ?_),
      e13.trans ((Cert.Reference4Ideal.Read.val_main_v93_eq _ _ _).trans ?_),
      e14.trans ((Cert.Reference4Ideal.Read.val_main_v94_eq _ _ _ _).trans ?_), ha⟩
    · rw [Cert.Reference4Ideal.Read.val_main_v81_eq, h0, h1, h2, h3, h4]
    · rw [h0, h2, h3, h5]
    · rw [h0, h2, h3]
    · rw [h0, h2, h3, h6]
    · rw [h0, h2, h3]
    · rw [h0, h1, h2, h3]

end Cert.Proof.Mix

end
-- ==== Proof.PrmHost.lean ====
/- The arrays that the host code of the prompt batch's mixer prepares, read at an index. -/
module

public import proofs.«01_k».proof.Proof.Gen.Kernel5Ideal.Skeleton
public import proofs.«01_k».proof.Proof.Gen.Kernel5Ideal.Frame
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Proof.Prm

open Cert.Kernel5Ideal Cert.Kernel5Ideal.Gen Idealize.ShloMosaic Idealize.ShloMosaic.TcCoe Idealize.SL.Sem

variable (m : (ℓ : Loc nD τ sig) → Buf (Elt Ideal) ℓ)

theorem V_v51_apply (c : Dev nD) (b : Fin 4) (p : Fin 8192) (k : Fin 1024) (r : Fin 32768) (h : r.val = b.val * 8192 + p.val) :
    V m c main_v51 (ix2 r k) = m ((c : Thread nD τ).loc main_arg0) (ix3 b p k) := by
  unfold V hostOps0 hostOps0_1 hostOps0_2
  after_reads_at
  blk_ext []

theorem V_v52_apply (c : Dev nD) (b : Fin 4) (s : Fin 2) (k : Fin 1024) :
    V m c main_v52 (ix3 b s k) = Ideal.ofBits .f32 0x00000000#32 := by
  unfold V hostOps0 hostOps0_1 hostOps0_2
  after_reads_at
  try rfl

theorem V_v42_apply (c : Dev nD) (k : Fin 1024) :
    V m c main_v42 (ix2 0 k) = m ((c : Thread nD τ).loc main_arg1) (ix1 k) := by
  unfold V hostOps0 hostOps0_1 hostOps0_2
  after_reads_at
  blk_ext []

theorem V_v46_apply (c : Dev nD) (j : Fin 1024) (d : Fin 64) (h : d.val = j.val % 64) :
    V m c main_v46 (ix2 0 j) = m ((c : Thread nD τ).loc main_arg4) (ix1 d) := by
  unfold V hostOps0 hostOps0_1 hostOps0_2
  after_reads_at
  blk_ext []

theorem V_v50_apply (c : Dev nD) (j : Fin 256) (d : Fin 64) (h : d.val = j.val % 64) :
    V m c main_v50 (ix2 0 j) = m ((c : Thread nD τ).loc main_arg5) (ix1 d) := by
  unfold V hostOps0 hostOps0_1 hostOps0_2
  after_reads_at
  blk_ext []

/-- The columns of `w_in` that the columns of `w2` are: the query, key and value columns, then the attention gate's. -/
theorem V_v30_apply (c : Dev nD) (k : Fin 1024) (j : Fin 2560) (l : Fin 6656)
    (h : l.val = if j.val < 1536 then 3072 + j.val else 4096 + j.val) :
    V m c main_v30 (ix2 k j) = m ((c : Thread nD τ).loc main_arg2) (ix2 k l) := by
  unfold V hostOps0 hostOps0_1 hostOps0_2
  after_reads_at
  split_ifs at h
  all_goals split_ifs
  all_goals first | omega | (after_reads_at; blk_ext [] <;> omega)

/-- Slab 0 of `w1` holds columns 0 to 255 of the four parts of `w_in` that the convolution uses. -/
theorem V_v25_apply0 (c : Dev nD) (p : Fin 4) (k : Fin 1024) (l : Fin 256) (j : Fin 1024) (n : Fin 6656)
    (hj : j.val = p.val * 256 + l.val) (hn : n.val = (if p.val = 3 then 4608 else p.val * 1024) + 0 * 256 + l.val) :
    V m c main_v25 (ix3 0 k j) = m ((c : Thread nD τ).loc main_arg2) (ix2 k n) := by
  unfold V hostOps0 hostOps0_1 hostOps0_2
  after_reads_at
  after_reads_at
  split_ifs at hn
  all_goals split_ifs
  all_goals first | omega | (after_reads_at; blk_ext [] <;> omega)

/-- Slab 1 of `w1` holds columns 256 to 511 of the four parts of `w_in` that the convolution uses. -/
theorem V_v25_apply1 (c : Dev nD) (p : Fin 4) (k : Fin 1024) (l : Fin 256) (j : Fin 1024) (n : Fin 6656)
    (hj : j.val = p.val * 256 + l.val) (hn : n.val = (if p.val = 3 then 4608 else p.val * 1024) + 1 * 256 + l.val) :
    V m c main_v25 (ix3 1 k j) = m ((c : Thread nD τ).loc main_arg2) (ix2 k n) := by
  unfold V hostOps0 hostOps0_1 hostOps0_2
  after_reads_at
  after_reads_at
  split_ifs at hn
  all_goals split_ifs
  all_goals first | omega | (after_reads_at; blk_ext [] <;> omega)

/-- Slab 2 of `w1` holds columns 512 to 767 of the four parts of `w_in` that the convolution uses. -/
theorem V_v25_apply2 (c : Dev nD) (p : Fin 4) (k : Fin 1024) (l : Fin 256) (j : Fin 1024) (n : Fin 6656)
    (hj : j.val = p.val * 256 + l.val) (hn : n.val = (if p.val = 3 then 4608 else p.val * 1024) + 2 * 256 + l.val) :
    V m c main_v25 (ix3 2 k j) = m ((c : Thread nD τ).loc main_arg2) (ix2 k n) := by
  unfold V hostOps0 hostOps0_1 hostOps0_2
  after_reads_at
  after_reads_at
  split_ifs at hn
  all_goals split_ifs
  all_goals first | omega | (after_reads_at; blk_ext [] <;> omega)

/-- Slab 3 of `w1` holds columns 768 to 1023 of the four parts of `w_in` that the convolution uses. -/
theorem V_v25_apply3 (c : Dev nD) (p : Fin 4) (k : Fin 1024) (l : Fin 256) (j : Fin 1024) (n : Fin 6656)
    (hj : j.val = p.val * 256 + l.val) (hn : n.val = (if p.val = 3 then 4608 else p.val * 1024) + 3 * 256 + l.val) :
    V m c main_v25 (ix3 3 k j) = m ((c : Thread nD τ).loc main_arg2) (ix2 k n) := by
  unfold V hostOps0 hostOps0_1 hostOps0_2
  after_reads_at
  after_reads_at
  split_ifs at hn
  all_goals split_ifs
  all_goals first | omega | (after_reads_at; blk_ext [] <;> omega)

/-- The head of a lane. -/
theorem V_v32_apply (c : Dev nD) (k : Fin 256) :
    V m c main_v32 (ix1 k) = BitVec.ofNat 32 (k.val / 64) := by
  unfold V hostOps0 hostOps0_1 hostOps0_2
  after_reads_at
  revert k
  decide +kernel

/-- The host's block-diagonal matrix: one sixty-fourth where both lanes are of one head of 64, zero elsewhere. -/
theorem V_v41_apply (c : Dev nD) (k j : Fin 256) :
    V m c main_v41 (ix2 k j) = (if k.val / 64 = j.val / 64 then (((1 / 64 : ℝ)) : EReal) else 0 : EReal) := by
  have h (k : Fin 256) := V_v32_apply m c k
  have lit : Ideal.ofBits FTy.f32 1015021568#32 = ((1 / 64 : ℝ) : EReal) := by
    simp [Ideal.ofBits, Ideal.ieee]
    norm_cast
    norm_num
  have e : V m c main_v41 (ix2 k j) = FloatOps.uitofp (F := Ideal) FTy.f32
      (IntOp.cmpi .eq (V m c main_v32 (ix1 k)) (V m c main_v32 (ix1 j))) * Ideal.ofBits FTy.f32 1015021568#32 := by
    unfold V hostOps0 hostOps0_1 hostOps0_2
    after_reads_at
  rw [e, h, h, lit]
  by_cases hq : k.val / 64 = j.val / 64
  · rw [if_pos hq, hq, show IntOp.cmpi .eq (BitVec.ofNat 32 (j.val / 64)) (BitVec.ofNat 32 (j.val / 64)) = 1#1 by simp [IntOp.cmpi]]
    show (((1#1 : BitVec 1).toNat : ℝ) : EReal) * _ = _
    simp
  · have hn : BitVec.ofNat 32 (k.val / 64) ≠ BitVec.ofNat 32 (j.val / 64) := fun e => hq (by
      have := congrArg BitVec.toNat e
      simp only [BitVec.toNat_ofNat] at this
      omega)
    rw [if_neg hq, show IntOp.cmpi .eq (BitVec.ofNat 32 (k.val / 64)) (BitVec.ofNat 32 (j.val / 64)) = 0#1 by
      show BitVec.ofBool (BitVec.ofNat 32 (k.val / 64) == BitVec.ofNat 32 (j.val / 64)) = 0#1
      rw [beq_eq_false_iff_ne.mpr hn]
      rfl]
    show (((0#1 : BitVec 1).toNat : ℝ) : EReal) * _ = _
    simp

end Cert.Proof.Prm

end
-- ==== Proof.PrmBlk.lean ====
/- The arrays that the host code of the prompt batch's mixer prepares, cut into blocks and read at an index. -/
module

public import proofs.«01_k».proof.Proof.Gen.Kernel5Ideal.Skeleton
public import Idealize.ShloMosaic.Lib.Pointwise
public import Idealize.ShloMosaic.Lib.Pipeline.ValueKit
public import Idealize.ShloMosaic.Lib.StableHlo.ReadAt
public import proofs.«01_k».proof.Proof.PrmHost

@[expose] public section

set_option maxRecDepth 16384

noncomputable section

namespace Cert.Proof.Prm

open Cert.Kernel5Ideal Cert.Kernel5Ideal.Gen Idealize.ShloMosaic Idealize.ShloMosaic.TcCoe Idealize.SL.Sem

variable (m : (ℓ : Loc nD τ sig) → Buf (Elt Ideal) ℓ)

/-- The columns of `w_in` that slab `cb` of `w1` holds, in any slab. -/
theorem V_v25_apply (c : Dev nD) (cb p : Fin 4) (k : Fin 1024) (l : Fin 256) (j : Fin 1024) (n : Fin 6656)
    (hj : j.val = p.val * 256 + l.val) (hn : n.val = (if p.val = 3 then 4608 else p.val * 1024) + cb.val * 256 + l.val) :
    V m c main_v25 (ix3 cb k j) = m ((c : Thread nD τ).loc main_arg2) (ix2 k n) := by
  match cb with
  | ⟨0, _⟩ => exact V_v25_apply0 m c p k l j n hj hn
  | ⟨1, _⟩ => exact V_v25_apply1 m c p k l j n hj hn
  | ⟨2, _⟩ => exact V_v25_apply2 m c p k l j n hj hn
  | ⟨3, _⟩ => exact V_v25_apply3 m c p k l j n hj hn

/-! Point `t` is tile `t % 16` of sequence `t / 16`; the weights' blocks are their whole arrays. -/

theorem idx : ∀ t : Fin cfg0.N, win0_0.index t = ![t.val, 0] ∧ win0_1.index t = ![t.val / 16, 0, 0] ∧ win0_2.index t = ![0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val / 16, 0, 0] :=
  (by decide +kernel : ∀ t : Fin grid0.N, _)

theorem iblk0_apply (c : Dev nD) (t : Fin cfg0.N) (r : Fin 512) (k : Fin 1024) (b : Fin 4) (p : Fin 8192)
    (h : t.val * 512 + r.val = b.val * 8192 + p.val) :
    (iblk m c 0 t : Vec Ideal S512x1024 _) (ix2 r k) = m ((c : Thread nD τ).loc main_arg0) (ix3 b p k) := by
  refine Eq.trans ?_ (V_v51_apply m c b p k ⟨t.val * 512 + r.val, by have : t.val < 64 := t.isLt; omega⟩ h)
  blk_ext [iblk, idx t]

theorem iblk1_apply (c : Dev nD) (t : Fin cfg0.N) (s : Fin 2) (k : Fin 1024) :
    (iblk m c 1 t : Vec Ideal S1x2x1024 _) (ix3 0 s k) = Ideal.ofBits .f32 0x00000000#32 := by
  have ht : t.val < 64 := t.isLt
  refine Eq.trans ?_ (V_v52_apply m c ⟨t.val / 16, by omega⟩ s k)
  blk_ext [iblk, idx t]

theorem iblk2_apply (c : Dev nD) (t : Fin cfg0.N) (k : Fin 1024) :
    (iblk m c 2 t : Vec Ideal S1x1024 _) (ix2 0 k) = m ((c : Thread nD τ).loc main_arg1) (ix1 k) := by
  refine Eq.trans ?_ (V_v42_apply m c k)
  blk_ext [iblk, idx t]

theorem iblk3_apply (c : Dev nD) (t : Fin cfg0.N) (cb p : Fin 4) (k : Fin 1024) (l : Fin 256) (j : Fin 1024) (n : Fin 6656)
    (hj : j.val = p.val * 256 + l.val) (hn : n.val = (if p.val = 3 then 4608 else p.val * 1024) + cb.val * 256 + l.val) :
    (iblk m c 3 t : Vec Ideal S4x1024x1024 _) (ix3 cb k j) = m ((c : Thread nD τ).loc main_arg2) (ix2 k n) := by
  refine Eq.trans ?_ (V_v25_apply m c cb p k l j n hj hn)
  blk_ext [iblk, idx t]

theorem iblk4_apply (c : Dev nD) (t : Fin cfg0.N) (k : Fin 1024) (j : Fin 2560) (l : Fin 6656)
    (h : l.val = if j.val < 1536 then 3072 + j.val else 4096 + j.val) :
    (iblk m c 4 t : Vec Ideal S1024x2560 _) (ix2 k j) = m ((c : Thread nD τ).loc main_arg2) (ix2 k l) := by
  refine Eq.trans ?_ (V_v30_apply m c k j l h)
  blk_ext [iblk, idx t]

theorem iblk5_apply (c : Dev nD) (t : Fin cfg0.N) (i : Fin 3) (k : Fin 1024) :
    (iblk m c 5 t : Vec Ideal S3x1024 _) (ix2 i k) = m ((c : Thread nD τ).loc main_arg3) (ix2 i k) := by
  have e : V m c main_arg3 (ix2 i k) = m ((c : Thread nD τ).loc main_arg3) (ix2 i k) := by
    unfold V hostOps0 hostOps0_1 hostOps0_2
    after_reads_at
  refine Eq.trans ?_ e
  blk_ext [iblk, idx t]

theorem iblk6_apply (c : Dev nD) (t : Fin cfg0.N) (k j : Fin 256) :
    (iblk m c 6 t : Vec Ideal S256x256 _) (ix2 k j) = (if k.val / 64 = j.val / 64 then (((1 / 64 : ℝ)) : EReal) else 0 : EReal) := by
  refine Eq.trans ?_ (V_v41_apply m c k j)
  blk_ext [iblk, idx t]

theorem iblk7_apply (c : Dev nD) (t : Fin cfg0.N) (j : Fin 1024) (d : Fin 64) (h : d.val = j.val % 64) :
    (iblk m c 7 t : Vec Ideal S1x1024 _) (ix2 0 j) = m ((c : Thread nD τ).loc main_arg4) (ix1 d) := by
  refine Eq.trans ?_ (V_v46_apply m c j d h)
  blk_ext [iblk, idx t]

theorem iblk8_apply (c : Dev nD) (t : Fin cfg0.N) (j : Fin 256) (d : Fin 64) (h : d.val = j.val % 64) :
    (iblk m c 8 t : Vec Ideal S1x256 _) (ix2 0 j) = m ((c : Thread nD τ).loc main_arg5) (ix1 d) := by
  refine Eq.trans ?_ (V_v50_apply m c j d h)
  blk_ext [iblk, idx t]

end Cert.Proof.Prm

end
-- ==== Proof.PrmRef.lean ====
/- The prompt batch's mixer: the reference's stages and results read at an index. -/
module

public import proofs.«01_k».proof.Proof.Gen.Reference5Ideal.Read
public import proofs.«01_k».proof.Proof.MixMath
public import Idealize.ShloMosaic.Lib.Pointwise
public import Idealize.ShloMosaic.Lib.Pipeline.ValueKit

@[expose] public section

set_option maxRecDepth 16384

noncomputable section

namespace Cert.Proof.Prm

open Cert.Reference5Ideal Cert.Reference5Ideal.Read Idealize.ShloMosaic
open Ffn (nrm)
open Mix (prj hnm)

variable (x : Vec Ideal S4x8192x1024 .f32) (nw : Vec Ideal S1024 .f32)
  (W : Vec Ideal S1024x6656 .f32) (cw : Vec Ideal S3x1024 .f32) (qn kn : Vec Ideal S64 .f32)

/-- One entry of the input projection: position `p` of sequence `b`, column `j`. -/
def ent (b : Fin 4) (p : Fin 8192) (j : Fin 6656) : EReal :=
  prj (fun k => x (ix3 b p k)) (fun k => nw (ix1 k)) (fun k => W (ix2 k j))

/-- The convolution's input at position `p` of sequence `b`. -/
def inp (b : Fin 4) (p : Fin 8192) (j : Fin 1024) : EReal :=
  ent x nw W b p ⟨2048 + j.val, by omega⟩ * ent x nw W b p ⟨j.val, by omega⟩

/-- The convolution's input with two zero positions before it. -/
def ups (b : Fin 4) (s : Fin 8194) (j : Fin 1024) : EReal :=
  if h : s.val < 2 then Ideal.ofBits .f32 0x00000000#32 else inp x nw W b ⟨s.val - 2, by omega⟩ j

/-- The gated convolution at position `p` of sequence `b`. -/
def ycg (b : Fin 4) (p : Fin 8192) (j : Fin 1024) : EReal :=
  Ideal.logistic (ent x nw W b p ⟨4608 + j.val, by omega⟩) * (ent x nw W b p ⟨1024 + j.val, by omega⟩
    * (cw (ix2 0 j) * ups x nw W b ⟨p.val, by omega⟩ j + cw (ix2 1 j) * ups x nw W b ⟨1 + p.val, by omega⟩ j
      + cw (ix2 2 j) * ups x nw W b ⟨2 + p.val, by omega⟩ j))

theorem v14_apply (b : Fin 4) (p : Fin 8192) (j : Fin 6656) : val_main_v14 (F := Ideal) x nw W (ix3 b p j) = ent x nw W b p j := by
  pointwise [val_main_v1, val_main_v2, val_main_v3, val_main_v4, val_main_v5, val_main_v6, val_main_v7, val_main_v8,
    val_main_v9, val_main_v10, val_main_v11, val_main_v12, val_main_v13, val_main_v14, val_main_cst_0, val_main_cst_1,
    val_main_cst_2, ent, prj, nrm]

theorem v36_apply (b : Fin 4) (p : Fin 8192) (g h : Fin 4) (d : Fin 64) : val_main_v36 (F := Ideal) x nw W qn (ix5 b p g h d)
    = hnm (fun e => ent x nw W b p ⟨3072 + (g.val * 256 + h.val * 64 + e.val), by omega⟩) (fun e => qn (ix1 e)) d := by
  have e (d : Fin 64) : val_main_v23 (F := Ideal) x nw W (ix5 b p g h d)
      = ent x nw W b p ⟨3072 + (g.val * 256 + h.val * 64 + d.val), by omega⟩ := by
    rw [val_main_v23_apply, val_main_v18_apply, ← v14_apply]
    generalize val_main_v14 (F := Ideal) x nw W = f
    blk_ext []
  pointwise [val_main_v24, val_main_v25, val_main_v26, val_main_v27, val_main_v28, val_main_v29, val_main_v30, val_main_v31,
    val_main_v32, val_main_v33, val_main_v34, val_main_v35, val_main_v36, val_main_cst_3, val_main_cst_4, val_main_cst_5, hnm, e]

theorem v50_apply (b : Fin 4) (p : Fin 8192) (h : Fin 4) (d : Fin 64) : val_main_v50 (F := Ideal) x nw W kn (ix4 b p h d)
    = hnm (fun e => ent x nw W b p ⟨4096 + (h.val * 64 + e.val), by omega⟩) (fun e => kn (ix1 e)) d := by
  have e (d : Fin 64) : val_main_v37 (F := Ideal) x nw W (ix4 b p h d)
      = ent x nw W b p ⟨4096 + (h.val * 64 + d.val), by omega⟩ := by
    rw [val_main_v37_apply, val_main_v19_apply, ← v14_apply]
    generalize val_main_v14 (F := Ideal) x nw W = f
    blk_ext []
  pointwise [val_main_v38, val_main_v39, val_main_v40, val_main_v41, val_main_v42, val_main_v43, val_main_v44, val_main_v45,
    val_main_v46, val_main_v47, val_main_v48, val_main_v49, val_main_v50, val_main_cst_6, val_main_cst_7, val_main_cst_8, hnm, e]

theorem v52_apply (b : Fin 4) (s : Fin 8194) (j : Fin 1024) :
    val_main_v52 (F := Ideal) x nw W (ix3 b s j) = ups x nw W b s j := by
  have e (b : Fin 4) (p : Fin 8192) (j : Fin 1024) : val_main_v51 (F := Ideal) x nw W (ix3 b p j) = inp x nw W b p j := by
    pointwise [val_main_v51, val_main_v15, val_main_v17, v14_apply, inp]
  pointwise [val_main_v0, val_main_cst, val_main_v52, ups, e]

theorem v80_apply (b : Fin 4) (p : Fin 8192) (j : Fin 1024) :
    val_main_v80 (F := Ideal) x nw W cw (ix3 b p j) = ycg x nw W cw b p j := by
  pointwise [val_main_v16, val_main_v21, val_main_v53, val_main_v54, val_main_v55, val_main_v56, val_main_v57, val_main_v58,
    val_main_v59, val_main_v60, val_main_v61, val_main_v62, val_main_v63, val_main_v64, val_main_v65, val_main_v66,
    val_main_v67, val_main_v68, val_main_v69, val_main_v70, val_main_v71, val_main_v72, val_main_v73, val_main_v74,
    val_main_v75, val_main_v76, val_main_v77, val_main_v78, val_main_v79, val_main_v80, val_main_cst_9, val_main_cst_10,
    v52_apply, v14_apply, ycg]
  rfl

theorem v90_apply (b : Fin 4) (p : Fin 8192) (j : Fin 1024) :
    val_main_v90 (F := Ideal) x nw W (ix3 b p j) = Ideal.logistic (ent x nw W b p ⟨5632 + j.val, by omega⟩) := by
  pointwise [val_main_v22, val_main_v85, val_main_v86, val_main_v87, val_main_v88, val_main_v89, val_main_v90,
    val_main_cst_11, val_main_cst_12, v14_apply]
  rfl

/-! The results, at a row of the flattened batch. -/

variable (b : Fin 4) (p : Fin 8192) (r : Fin 32768) (h : r.val = b.val * 8192 + p.val)
include h

/-- The gated convolution. -/
theorem out9_apply (j : Fin 1024) : val_main_v82 (F := Ideal) x nw W cw (ix2 r j) = ycg x nw W cw b p j := by
  rw [val_main_v82_apply, val_main_v81_apply, ← v80_apply]
  generalize val_main_v80 (F := Ideal) x nw W cw = f
  show f (idx_main_v81 (ix2 r j)) = f (ix3 b p j)
  blk_ext []

/-- The normed queries. -/
theorem out10_apply (g : Fin 16) (d : Fin 64) (j : Fin 1024) (hj : j.val = g.val * 64 + d.val) :
    val_main_v84 (F := Ideal) x nw W qn (ix2 r j)
      = hnm (fun e => ent x nw W b p ⟨3072 + (g.val * 64 + e.val), by omega⟩) (fun e => qn (ix1 e)) d := by
  have hg : g.val / 4 * 256 + g.val % 4 * 64 = g.val * 64 := by omega
  have e := v36_apply x nw W qn b p ⟨g.val / 4, by omega⟩ ⟨g.val % 4, by omega⟩ d
  simp only [hg] at e
  rw [← e, val_main_v84_apply, val_main_v83_apply]
  generalize val_main_v36 (F := Ideal) x nw W qn = f
  show f (idx_main_v83 (ix2 r j)) = f (ix5 b p ⟨g.val / 4, by omega⟩ ⟨g.val % 4, by omega⟩ d)
  blk_ext []

/-- The attention's gate. -/
theorem out11_apply (j : Fin 1024) :
    val_main_v92 (F := Ideal) x nw W (ix2 r j) = Ideal.logistic (ent x nw W b p ⟨5632 + j.val, by omega⟩) := by
  rw [val_main_v92_apply, val_main_v91_apply, ← v90_apply]
  generalize val_main_v90 (F := Ideal) x nw W = f
  show f (idx_main_v91 (ix2 r j)) = f (ix3 b p j)
  blk_ext []

/-- The normed keys. -/
theorem out12_apply (g : Fin 4) (d : Fin 64) (j : Fin 256) (hj : j.val = g.val * 64 + d.val) :
    val_main_v93 (F := Ideal) x nw W kn (ix2 r j)
      = hnm (fun e => ent x nw W b p ⟨4096 + (g.val * 64 + e.val), by omega⟩) (fun e => kn (ix1 e)) d := by
  rw [← v50_apply x nw W kn b p g d, val_main_v93_apply]
  generalize val_main_v50 (F := Ideal) x nw W kn = f
  blk_ext []

/-- The values. -/
theorem out13_apply (j : Fin 256) :
    val_main_v94 (F := Ideal) x nw W (ix2 r j) = ent x nw W b p ⟨4352 + j.val, by omega⟩ := by
  rw [val_main_v94_apply, val_main_v20_apply, ← v14_apply]
  generalize val_main_v14 (F := Ideal) x nw W = f
  blk_ext []

omit h in
/-- The carried state: the last two positions of the convolution's input. -/
theorem out14_apply (s : Fin 2) (j : Fin 1024) :
    val_main_v95 (F := Ideal) x nw W (ix3 b s j) = ups x nw W b ⟨8192 + s.val, by omega⟩ j := by
  rw [← v52_apply, val_main_v95_apply]
  generalize val_main_v52 (F := Ideal) x nw W = f
  blk_ext []

end Cert.Proof.Prm

end
-- ==== Proof.PrmPay.lean ====
/- The prompt batch's mixer: the kernel body's payloads outside the convolution, read at an index. -/
module

public import proofs.«01_k».proof.Proof.Gen.Kernel5Ideal.Skeleton
public import proofs.«01_k».proof.Proof.MixPay
public import Idealize.ShloMosaic.Lib.Pointwise

@[expose] public section

set_option maxRecDepth 16384

noncomputable section

namespace Cert.Proof.Prm

open Cert.Kernel5Ideal Cert.Kernel5Ideal.Gen Idealize.ShloMosaic
open Ffn (nrm)
open Mix (prj hnm lan)

variable (x : Vec Ideal S512x1024 .f32) (nw : Vec Ideal S1x1024 .f32)

/-- The normed block at row `r`. -/
theorem pay6_apply (r : Fin 512) (k : Fin 1024) :
    k0_pay6 (F := Ideal) x nw (ix2 r k) = nrm (fun k => x (ix2 r k)) (fun k => nw (ix2 0 k)) k := by
  pointwise [k0_pay6, nrm]

/-- The normed block times the query, key and value columns. -/
theorem pay7_apply (w : Vec Ideal S1024x1536 .bf16) (r : Fin 512) (j : Fin 1536) :
    k0_pay7 (F := Ideal) x nw w (ix2 r j) = prj (fun k => x (ix2 r k)) (fun k => nw (ix2 0 k)) (fun k => w (ix2 k j)) := by
  pointwise [k0_pay7, pay6_apply, prj]

/-- The normed block times one slab of the convolution's columns; the four slabs' products have one text. -/
theorem pay8_apply (w : Vec Ideal S1x1024x1024 .bf16) (r : Fin 512) (j : Fin 1024) :
    k0_pay8 (F := Ideal) x nw w (ix2 r j) = prj (fun k => x (ix2 r k)) (fun k => nw (ix2 0 k)) (fun k => w (ix3 0 k j)) := by
  pointwise [k0_pay8, pay6_apply, prj]

/-- The attention gate's columns but the last 256. -/
theorem pay3_apply (w : Vec Ideal S1024x768 .bf16) (r : Fin 512) (j : Fin 768) :
    k0_pay3 (F := Ideal) (k0_pay12 (k0_pay6 x nw) w) (ix2 r j)
      = Ideal.logistic (prj (fun k => x (ix2 r k)) (fun k => nw (ix2 0 k)) (fun k => w (ix2 k j))) := by
  pointwise [k0_pay3, k0_pay12, pay6_apply, prj]

/-- The attention gate's last 256 columns. -/
theorem pay4_apply (w : Vec Ideal S1024x256 .bf16) (r : Fin 512) (j : Fin 256) :
    k0_pay4 (F := Ideal) (k0_pay13 (k0_pay6 x nw) w) (ix2 r j)
      = Ideal.logistic (prj (fun k => x (ix2 r k)) (fun k => nw (ix2 0 k)) (fun k => w (ix2 k j))) := by
  pointwise [k0_pay4, k0_pay13, pay6_apply, prj]

variable (P : FVec Ideal S512x1536 .f32) (B : Vec Ideal S256x256 .bf16) (w : Vec Ideal S1x256 .f32) (r : Fin 512) (l : Fin 256)

theorem pay15_apply : k0_pay15 (F := Ideal) P B w (ix2 r l)
    = lan (fun k => P (ix2 r ⟨k.val, by omega⟩)) (fun k => B (ix2 k l)) (w (ix2 0 l)) l := by
  pointwise [k0_pay15, k0_pay14, lan]

theorem pay16_apply : k0_pay16 (F := Ideal) P B w (ix2 r l)
    = lan (fun k => P (ix2 r ⟨256 + k.val, by omega⟩)) (fun k => B (ix2 k l)) (w (ix2 0 l)) l := by
  pointwise [k0_pay16, k0_pay14, lan]

theorem pay17_apply : k0_pay17 (F := Ideal) P (k0_pay14 B) w (ix2 r l)
    = lan (fun k => P (ix2 r ⟨512 + k.val, by omega⟩)) (fun k => B (ix2 k l)) (w (ix2 0 l)) l := by
  pointwise [k0_pay17, k0_pay14, lan]

theorem pay18_apply : k0_pay18 (F := Ideal) P (k0_pay14 B) w (ix2 r l)
    = lan (fun k => P (ix2 r ⟨768 + k.val, by omega⟩)) (fun k => B (ix2 k l)) (w (ix2 0 l)) l := by
  pointwise [k0_pay18, k0_pay14, lan]

theorem pay21_apply : k0_pay21 (F := Ideal) (k0_pay19 P (k0_pay14 B)) (k0_pay20 w) (ix2 r l)
    = lan (fun k => P (ix2 r ⟨1024 + k.val, by omega⟩)) (fun k => B (ix2 k l)) (w (ix2 0 l)) l := by
  pointwise [k0_pay21, k0_pay19, k0_pay20, k0_pay14, lan]

theorem pay22_apply : k0_pay22 (F := Ideal) P (ix2 r l) = P (ix2 r ⟨1280 + l.val, by omega⟩) := by
  pointwise [k0_pay22]

/-! The convolution: what slab 0 stores and computes; the other slabs have its text. -/

theorem pay24_apply (r : FVec Ideal S512x1024 .f32) (q : Fin 512) (l : Fin 256) :
    k0_pay24 (F := Ideal) r (ix2 q l) = r (ix2 q ⟨512 + l.val, by omega⟩) * r (ix2 q ⟨l.val, by omega⟩) := by
  pointwise [k0_pay24, k0_pay23]

theorem pay25_apply (r : FVec Ideal S512x1024 .f32) (a1 a2 : Vec Ideal S512x256 .f32) (c0 c1 c2 : Vec Ideal S1x256 .f32)
    (q : Fin 512) (l : Fin 256) : k0_pay25 (F := Ideal) r a1 a2 c0 c1 c2 (ix2 q l)
      = Ideal.logistic (r (ix2 q ⟨768 + l.val, by omega⟩)) * (r (ix2 q ⟨256 + l.val, by omega⟩)
        * (c0 (ix2 0 l) * a2 (ix2 q l) + c1 (ix2 0 l) * a1 (ix2 q l) + c2 (ix2 0 l) * k0_pay24 (F := Ideal) r (ix2 q l))) := by
  pointwise [k0_pay25, k0_pay23, pay24_apply]

theorem pay1_apply (v : Vec Ideal S2x1024 .f32) (s : Fin 2) (j : Fin 1024) : k0_pay1 (F := Ideal) v (ix3 0 s j) = v (ix2 s j) := by
  pointwise [k0_pay1]

theorem pay2_apply (v : Vec Ideal S2x1024 .f32) (s : Fin 2) (j : Fin 1024) : k0_pay2 (F := Ideal) v (ix2 s j) = v (ix2 s j) := by
  pointwise [k0_pay2]

theorem pay5_apply (v : Vec Ideal S1x2x1024 .f32) (s : Fin 2) (j : Fin 1024) : k0_pay5 (F := Ideal) v (ix2 s j) = v (ix3 0 s j) := by
  pointwise [k0_pay5]

end Cert.Proof.Prm

end
-- ==== Proof.PrmScr.lean ====
/- The prompt batch's mixer: what its scratch holds during a tile, and the gated convolution's payload over reads of it. -/
module

public import proofs.«01_k».proof.Proof.PrmPay
public import Idealize.ShloMosaic.Lib.Pipeline.ReadBack
public import Idealize.ShloMosaic.Lib.Pipeline.ValueKit

@[expose] public section

set_option maxRecDepth 16384

noncomputable section

namespace Cert.Proof.Prm

open Cert.Kernel5Ideal Cert.Kernel5Ideal.Gen Idealize.ShloMosaic

variable (U : Fin 514 → Fin 1024 → EReal)

/-- The scratch's contents during a tile: the convolution's input at the tile's rows and the two before, from row 6 on. -/
def con : S520x1024.Idx → Elt Ideal .f32 := fun y =>
  if h : 6 ≤ (y 0).val then U ⟨(y 0).val - 6, by have : (y 0).val < 520 := (y 0).isLt; omega⟩ ⟨(y 1).val, (y 1).isLt⟩
  else (0 : EReal)

theorem con_apply (y : S520x1024.Idx) (s : Fin 514) (j : Fin 1024) (h0 : (y 0).val = 6 + s.val) (h1 : (y 1).val = j.val) :
    con U y = U s j := by
  unfold con
  rw [dif_pos (by omega)]
  refine congr (congrArg U (Fin.ext ?_)) (Fin.ext h1)
  show (y 0).val - 6 = s.val
  omega

theorem inb_pre : ∀ a, (![6, 0] : Fin 2 → ℕ) a + S2x1024.size a ≤ S520x1024.size a := by decide

theorem inb_tail : ∀ a, (![518, 0] : Fin 2 → ℕ) a + S2x1024.size a ≤ S520x1024.size a := by decide

theorem inb_seg (cb : Fin 4) (d : ℕ) (hd : d ≤ 8) :
    ∀ a, (![d, cb.val * 256] : Fin 2 → ℕ) a + S512x256.size a ≤ S520x1024.size a :=
  Fin.forall_fin_two.mpr ⟨by show d + 512 ≤ 520; omega, by show cb.val * 256 + 256 ≤ 1024; omega⟩

/-- The store of the two rows before the tile. -/
def pre (e : Vec Ideal S2x1024 .f32) : View.Piece (Elt Ideal) S520x1024 .f32 :=
  ⟨Rect.unit (s := S520x1024) ![6, 0] S2x1024.size inb_pre, e⟩

/-- The store of the convolution's input in slab `cb`. -/
def seg (r : FVec Ideal S512x1024 .f32) (cb : Fin 4) : View.Piece (Elt Ideal) S520x1024 .f32 :=
  ⟨Rect.unit (s := S520x1024) ![8, cb.val * 256] S512x256.size (inb_seg cb 8 (le_refl _)), k0_pay24 (F := Ideal) r⟩

/-- The stores up to the first `n` slabs, the last store first. -/
def segs (R : Fin 4 → FVec Ideal S512x1024 .f32) (e : Vec Ideal S2x1024 .f32) : (n : ℕ) → n ≤ 4 → List (View.Piece (Elt Ideal) S520x1024 .f32)
  | 0, _ => [pre e]
  | n + 1, h => seg (R ⟨n, h⟩) ⟨n, h⟩ :: segs R e n (Nat.le_of_succ_le h)

variable (R : Fin 4 → FVec Ideal S512x1024 .f32) (e : Vec Ideal S2x1024 .f32)

theorem pre_mem : (n : ℕ) → (h : n ≤ 4) → pre e ∈ segs R e n h
  | 0, _ => List.mem_cons_self
  | n + 1, _ => List.mem_cons_of_mem _ (pre_mem n _)

theorem seg_mem (cb : Fin 4) : (n : ℕ) → (h : n ≤ 4) → cb.val < n → seg (R cb) cb ∈ segs R e n h
  | 0, _, h => absurd h (Nat.not_lt_zero _)
  | n + 1, h, hb => by
    rcases Nat.lt_succ_iff_lt_or_eq.mp hb with hb | hb
    · exact List.mem_cons_of_mem _ (seg_mem cb n _ hb)
    · obtain ⟨cb, hb'⟩ := cb
      subst hb
      exact List.mem_cons_self

theorem segs_of (he : ∀ (s : Fin 2) (j : Fin 1024), e (ix2 s j) = U ⟨s.val, by omega⟩ j)
    (hR : ∀ (cb : Fin 4) (q : Fin 512) (l : Fin 256), k0_pay24 (F := Ideal) (R cb) (ix2 q l)
      = U ⟨2 + q.val, by omega⟩ ⟨cb.val * 256 + l.val, by omega⟩) :
    (n : ℕ) → (h : n ≤ 4) → View.PiecesOf (con U) (segs R e n h)
  | 0, _ => by
    refine ⟨fun (w : S2x1024.Idx) => ?_, trivial⟩
    idx_vars w
    refine Eq.trans ?_ (con_apply U _ ⟨w0.val, by omega⟩ w1 ?_ ?_).symm
    · exact he w0 w1
    · show 6 + 1 * w0.val = 6 + w0.val
      omega
    · show 0 + 1 * w1.val = w1.val
      omega
  | n + 1, h => by
    refine ⟨fun (w : S512x256.Idx) => ?_, segs_of he hR n _⟩
    idx_vars w
    refine Eq.trans ?_ (con_apply U _ ⟨2 + w0.val, by omega⟩ ⟨n * 256 + w1.val, by omega⟩ ?_ ?_).symm
    · exact hR ⟨n, h⟩ w0 w1
    · show 8 + 1 * w0.val = 6 + (2 + w0.val)
      omega
    · show n * 256 + 1 * w1.val = n * 256 + w1.val
      omega

/-- A load at indices that the stores cover reads the contents there. -/
theorem rd (L : List (View.Piece (Elt Ideal) S520x1024 .f32)) (hL : View.PiecesOf (con U) L) (B : LoadRect S520x1024) (j)
    (hc : ∃ p ∈ L, B.idx j ∈ p.1.set) : (View.whole cc0_scratch0).readCov L B j = con U (B.idx j) := by
  rw [View.readCov_eq_canon']
  have e := View.canon_append_of_piecesOf (con U) [] L hL (B.idx j) hc
  rwa [List.append_nil] at e

/-- The load of a slab's 512 rows, `d` rows after the first stored one, once the slab is stored. -/
theorem rd_seg (cb : Fin 4) (hL : View.PiecesOf (con U) (segs R e (cb.val + 1) cb.isLt)) (d : ℕ) (hd : d ≤ 2) (inb)
    (q : Fin 512) (l : Fin 256) :
    (View.whole cc0_scratch0).readCov (segs R e (cb.val + 1) cb.isLt)
        (Rect.unit (s := S520x1024) ![6 + d, cb.val * 256] S512x256.size inb).toLoadRect (ix2 q l)
      = U ⟨d + q.val, by omega⟩ ⟨cb.val * 256 + l.val, by omega⟩ := by
  refine (rd U _ hL _ _ ?_).trans (con_apply U _ _ _ ?_ ?_)
  · by_cases h : d + q.val < 2
    · refine ⟨pre e, pre_mem R e _ _, (Rect.mem_set_unit (inb := inb_pre)).mpr (Fin.forall_fin_two.mpr ⟨?_, ?_⟩)⟩
      · show 6 ≤ 6 + d + 1 * q.val ∧ 6 + d + 1 * q.val < 6 + 2
        omega
      · show 0 ≤ cb.val * 256 + 1 * l.val ∧ cb.val * 256 + 1 * l.val < 0 + 1024
        omega
    · refine ⟨seg (R cb) cb, seg_mem R e cb _ _ (Nat.lt_succ_self _), (Rect.mem_set_unit (inb := inb_seg cb 8 (le_refl _))).mpr (Fin.forall_fin_two.mpr ⟨?_, ?_⟩)⟩
      · show 8 ≤ 6 + d + 1 * q.val ∧ 6 + d + 1 * q.val < 8 + 512
        omega
      · show cb.val * 256 ≤ cb.val * 256 + 1 * l.val ∧ cb.val * 256 + 1 * l.val < cb.val * 256 + 256
        omega
  · show 6 + d + 1 * q.val = 6 + (d + q.val)
    omega
  · show cb.val * 256 + 1 * l.val = cb.val * 256 + l.val
    omega

/-- The load of the tile's last two rows once every slab is stored. -/
theorem rd_tail (hL : View.PiecesOf (con U) (segs R e 4 (le_refl _))) (s : Fin 2) (j : Fin 1024) :
    (View.whole cc0_scratch0).readCov (segs R e 4 (le_refl _))
        (Rect.unit (s := S520x1024) ![518, 0] S2x1024.size inb_tail).toLoadRect (ix2 s j)
      = U ⟨512 + s.val, by omega⟩ j := by
  have hj : j.val < 1024 := j.isLt
  have hq : j.val / 256 < 4 := by omega
  refine (rd U _ hL _ _ ?_).trans (con_apply U _ _ _ ?_ ?_)
  · refine ⟨seg (R ⟨j.val / 256, hq⟩) ⟨j.val / 256, hq⟩, seg_mem R e _ _ _ hq,
      (Rect.mem_set_unit (inb := inb_seg ⟨j.val / 256, hq⟩ 8 (le_refl _))).mpr (Fin.forall_fin_two.mpr ⟨?_, ?_⟩)⟩
    · show 8 ≤ 518 + 1 * s.val ∧ 518 + 1 * s.val < 8 + 512
      omega
    · show j.val / 256 * 256 ≤ 0 + 1 * j.val ∧ 0 + 1 * j.val < j.val / 256 * 256 + 256
      omega
  · show 518 + 1 * s.val = 6 + (512 + s.val)
    omega
  · show 0 + 1 * j.val = j.val
    omega

/-- The gated convolution's payload over the scratch's loads at a position. -/
theorem gated (he : ∀ (s : Fin 2) (j : Fin 1024), e (ix2 s j) = U ⟨s.val, by omega⟩ j)
    (hR : ∀ (cb : Fin 4) (q : Fin 512) (l : Fin 256), k0_pay24 (F := Ideal) (R cb) (ix2 q l)
      = U ⟨2 + q.val, by omega⟩ ⟨cb.val * 256 + l.val, by omega⟩)
    (cb : Fin 4) (c0 c1 c2 : Vec Ideal S1x256 .f32) (q : Fin 512) (l : Fin 256) :
    k0_pay25 (F := Ideal) (R cb)
        ((View.whole cc0_scratch0).readCov (segs R e (cb.val + 1) cb.isLt)
          (Rect.unit (s := S520x1024) ![7, cb.val * 256] S512x256.size (inb_seg cb 7 (by omega))).toLoadRect)
        ((View.whole cc0_scratch0).readCov (segs R e (cb.val + 1) cb.isLt)
          (Rect.unit (s := S520x1024) ![6, cb.val * 256] S512x256.size (inb_seg cb 6 (by omega))).toLoadRect)
        c0 c1 c2 (ix2 q l)
      = Ideal.logistic (R cb (ix2 q ⟨768 + l.val, by omega⟩)) * (R cb (ix2 q ⟨256 + l.val, by omega⟩)
          * (c0 (ix2 0 l) * U ⟨q.val, by omega⟩ ⟨cb.val * 256 + l.val, by omega⟩
            + c1 (ix2 0 l) * U ⟨1 + q.val, by omega⟩ ⟨cb.val * 256 + l.val, by omega⟩
            + c2 (ix2 0 l) * U ⟨2 + q.val, by omega⟩ ⟨cb.val * 256 + l.val, by omega⟩)) := by
  have hs := segs_of U R e he hR (cb.val + 1) cb.isLt
  have e1 := rd_seg U R e cb hs 1 (by omega) (inb_seg cb 7 (by omega)) q l
  have e0 := rd_seg U R e cb hs 0 (by omega) (inb_seg cb 6 (by omega)) q l
  simp only [Nat.zero_add] at e0
  rw [pay25_apply, hR, ← e1, ← e0]

end Cert.Proof.Prm

end
-- ==== Proof.PrmRunI.lean ====
/- The prompt batch's mixer at the extended reals' formats: one tile's run, the two rows of the convolution's input carried from tile to tile. -/
module

public import proofs.«01_k».proof.Proof.Gen.Kernel5Ideal.Frame
public import proofs.«01_k».proof.Proof.Gen.Kernel5Ideal.Skeleton

@[expose] public section

set_option maxRecDepth 16384

noncomputable section

namespace Cert.Proof.PrmI

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test that the tile is the first of its sequence. -/
abbrev v2w (i : grid0.Coords) : BitVec 1 :=
  Scalar.cmpi .ne (Scalar.extui (Scalar.cmpi .eq (BitVec.ofNat 32 (i 1).val) 0#32) : BitVec 32) 0#32

theorem first : ∀ t : Fin cfg0.N, v2w (grid0.coords t) = 1#1 ↔ t.val % 16 = 0 :=
  (by decide +kernel : ∀ t : Fin grid0.N, v2w (grid0.coords t) = 1#1 ↔ t.val % 16 = 0)

/-- The two rows before a tile's first row, as a store into the scratch. -/
def preP (e : Vec F S2x1024 .f32) : View.Piece (Elt F) S520x1024 .f32 :=
  ⟨Rect.unit (s := S520x1024) ![6, 0] S2x1024.size inb_S520x1024_S2x1024_6_0, e⟩

set_option maxHeartbeats 4000000 in
/-- The body at a tile that opens its sequence: the pieces that each result's buffer ends with, and the two rows left for the next tile. -/
noncomputable def runA (c : Dev nD) (i : grid0.Coords) (hc : v2w i = 1#1) (arg2 : Memref sig .tc .vmem S512x1024 .f32) (harg2 : arg2.IsWhole) (arg3 : Memref sig .tc .vmem S1x2x1024 .f32) (harg3 : arg3.IsWhole) (arg4 : Memref sig .tc .vmem S1x1024 .f32) (harg4 : arg4.IsWhole) (arg5 : Memref sig .tc .vmem S4x1024x1024 .bf16) (harg5 : arg5.IsWhole) (arg6 : Memref sig .tc .vmem S1024x2560 .bf16) (harg6 : arg6.IsWhole) (arg7 : Memref sig .tc .vmem S3x1024 .f32) (harg7 : arg7.IsWhole) (arg8 : Memref sig .tc .vmem S256x256 .bf16) (harg8 : arg8.IsWhole) (arg9 : Memref sig .tc .vmem S1x1024 .f32) (harg9 : arg9.IsWhole) (arg10 : Memref sig .tc .vmem S1x256 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .f32) (harg15 : arg15.IsWhole) (arg16 : Memref sig .tc .vmem S1x2x1024 .f32) (harg16 : arg16.IsWhole) (arg17 : Memref sig .tc .vmem S520x1024 .f32) (harg17 : arg17.IsWhole)
    (x0 : Vec F S512x1024 .f32) (x1 : Vec F S1x2x1024 .f32) (x2 : Vec F S1x1024 .f32) (x3 : Vec F S4x1024x1024 .bf16) (x4 : Vec F S1024x2560 .bf16) (x5 : Vec F S3x1024 .f32) (x6 : Vec F S256x256 .bf16) (x7 : Vec F S1x1024 .f32) (x8 : Vec F S1x256 .f32) :
    Σ' (L9 : List (View.Piece (Elt F) S512x1024 .bf16)), Σ' (L10 : List (View.Piece (Elt F) S512x1024 .bf16)), Σ' (L11 : List (View.Piece (Elt F) S512x1024 .bf16)), Σ' (L12 : List (View.Piece (Elt F) S512x256 .f32)), Σ' (L13 : List (View.Piece (Elt F) S512x256 .f32)), Σ' (L14 : List (View.Piece (Elt F) S1x2x1024 .f32)), Σ' (v : Vec F S2x1024 .f32), { L17 : List (View.Piece (Elt F) S520x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f (preP v :: L17))) -∗ K ⟨⟩))
          ⊢ wp frame (wpE (defs₀ (F := F)) Variants.none c none) E (cc0_mixer_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_mixer_in_eq_skeleton]; unfold cc0_mixer_in_skel
    simp only [k0_part1_eq_skeleton, k0_part2_eq_skeleton, k0_part3_eq_skeleton, k0_part4_eq_skeleton, k0_part5_eq_skeleton, k0_part6_eq_skeleton]
    unfold owns preP
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact HS0

set_option maxHeartbeats 4000000 in
/-- The body at a tile that carries on its sequence, the two rows before it at `e`: the pieces that each result's buffer ends with, and the two rows left for the next tile. -/
noncomputable def runB (c : Dev nD) (i : grid0.Coords) (hc : ¬ v2w i = 1#1) (arg2 : Memref sig .tc .vmem S512x1024 .f32) (harg2 : arg2.IsWhole) (arg3 : Memref sig .tc .vmem S1x2x1024 .f32) (harg3 : arg3.IsWhole) (arg4 : Memref sig .tc .vmem S1x1024 .f32) (harg4 : arg4.IsWhole) (arg5 : Memref sig .tc .vmem S4x1024x1024 .bf16) (harg5 : arg5.IsWhole) (arg6 : Memref sig .tc .vmem S1024x2560 .bf16) (harg6 : arg6.IsWhole) (arg7 : Memref sig .tc .vmem S3x1024 .f32) (harg7 : arg7.IsWhole) (arg8 : Memref sig .tc .vmem S256x256 .bf16) (harg8 : arg8.IsWhole) (arg9 : Memref sig .tc .vmem S1x1024 .f32) (harg9 : arg9.IsWhole) (arg10 : Memref sig .tc .vmem S1x256 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x256 .f32) (harg14 : arg14.IsWhole) (arg15 : Memref sig .tc .vmem S512x256 .f32) (harg15 : arg15.IsWhole) (arg16 : Memref sig .tc .vmem S1x2x1024 .f32) (harg16 : arg16.IsWhole) (arg17 : Memref sig .tc .vmem S520x1024 .f32) (harg17 : arg17.IsWhole)
    (x0 : Vec F S512x1024 .f32) (x1 : Vec F S1x2x1024 .f32) (x2 : Vec F S1x1024 .f32) (x3 : Vec F S4x1024x1024 .bf16) (x4 : Vec F S1024x2560 .bf16) (x5 : Vec F S3x1024 .f32) (x6 : Vec F S256x256 .bf16) (x7 : Vec F S1x1024 .f32) (x8 : Vec F S1x256 .f32) (e : Vec F S2x1024 .f32) :
    Σ' (L9 : List (View.Piece (Elt F) S512x1024 .bf16)), Σ' (L10 : List (View.Piece (Elt F) S512x1024 .bf16)), Σ' (L11 : List (View.Piece (Elt F) S512x1024 .bf16)), Σ' (L12 : List (View.Piece (Elt F) S512x256 .f32)), Σ' (L13 : List (View.Piece (Elt F) S512x256 .f32)), Σ' (L14 : List (View.Piece (Elt F) S1x2x1024 .f32)), Σ' (v : Vec F S2x1024 .f32), { L17 : List (View.Piece (Elt F) S520x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f [preP e])
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f (preP v :: L17))) -∗ K ⟨⟩))
          ⊢ wp frame (wpE (defs₀ (F := F)) Variants.none c none) E (cc0_mixer_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_mixer_in_eq_skeleton]; unfold cc0_mixer_in_skel
    simp only [k0_part1_eq_skeleton, k0_part2_eq_skeleton, k0_part3_eq_skeleton, k0_part4_eq_skeleton, k0_part5_eq_skeleton, k0_part6_eq_skeleton]
    unfold owns preP
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%fs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact HS0

end Cert.Proof.PrmI

end
-- ==== Proof.PrmFrmI.lean ====
/- The prompt batch's mixer at the extended reals' formats: what each tile leaves in its results and for the next tile, and the frame. -/
module

public import proofs.«01_k».proof.Proof.PrmRunI
public import Idealize.ShloMosaic.Lib.Claim

@[expose] public section

set_option maxRecDepth 16384

noncomputable section

namespace Cert.Proof.PrmI

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's buffer at a point, and the scratch. -/

abbrev buf0 (t : Fin cfg0.N) : Memref sig .tc .vmem S512x1024 .f32 := win0_0.stage (cfg0.slots t 0)
abbrev whole0 (t : Fin cfg0.N) : (buf0 t).IsWhole := hstage0_0 ((cfg0.slots t 0).cast nbuf0_0)
abbrev buf1 (t : Fin cfg0.N) : Memref sig .tc .vmem S1x2x1024 .f32 := win0_1.stage (cfg0.slots t 1)
abbrev whole1 (t : Fin cfg0.N) : (buf1 t).IsWhole := hstage0_1 ((cfg0.slots t 1).cast nbuf0_1)
abbrev buf2 (t : Fin cfg0.N) : Memref sig .tc .vmem S1x1024 .f32 := win0_2.stage (cfg0.slots t 2)
abbrev whole2 (t : Fin cfg0.N) : (buf2 t).IsWhole := hstage0_2 ((cfg0.slots t 2).cast nbuf0_2)
abbrev buf3 (t : Fin cfg0.N) : Memref sig .tc .vmem S4x1024x1024 .bf16 := win0_3.stage (cfg0.slots t 3)
abbrev whole3 (t : Fin cfg0.N) : (buf3 t).IsWhole := hstage0_3 ((cfg0.slots t 3).cast nbuf0_3)
abbrev buf4 (t : Fin cfg0.N) : Memref sig .tc .vmem S1024x2560 .bf16 := win0_4.stage (cfg0.slots t 4)
abbrev whole4 (t : Fin cfg0.N) : (buf4 t).IsWhole := hstage0_4 ((cfg0.slots t 4).cast nbuf0_4)
abbrev buf5 (t : Fin cfg0.N) : Memref sig .tc .vmem S3x1024 .f32 := win0_5.stage (cfg0.slots t 5)
abbrev whole5 (t : Fin cfg0.N) : (buf5 t).IsWhole := hstage0_5 ((cfg0.slots t 5).cast nbuf0_5)
abbrev buf6 (t : Fin cfg0.N) : Memref sig .tc .vmem S256x256 .bf16 := win0_6.stage (cfg0.slots t 6)
abbrev whole6 (t : Fin cfg0.N) : (buf6 t).IsWhole := hstage0_6 ((cfg0.slots t 6).cast nbuf0_6)
abbrev buf7 (t : Fin cfg0.N) : Memref sig .tc .vmem S1x1024 .f32 := win0_7.stage (cfg0.slots t 7)
abbrev whole7 (t : Fin cfg0.N) : (buf7 t).IsWhole := hstage0_7 ((cfg0.slots t 7).cast nbuf0_7)
abbrev buf8 (t : Fin cfg0.N) : Memref sig .tc .vmem S1x256 .f32 := win0_8.stage (cfg0.slots t 8)
abbrev whole8 (t : Fin cfg0.N) : (buf8 t).IsWhole := hstage0_8 ((cfg0.slots t 8).cast nbuf0_8)
abbrev buf9 (t : Fin cfg0.N) : Memref sig .tc .vmem S512x1024 .bf16 := win0_9.stage (cfg0.slots t 9)
abbrev whole9 (t : Fin cfg0.N) : (buf9 t).IsWhole := hstage0_9 ((cfg0.slots t 9).cast nbuf0_9)
abbrev buf10 (t : Fin cfg0.N) : Memref sig .tc .vmem S512x1024 .bf16 := win0_10.stage (cfg0.slots t 10)
abbrev whole10 (t : Fin cfg0.N) : (buf10 t).IsWhole := hstage0_10 ((cfg0.slots t 10).cast nbuf0_10)
abbrev buf11 (t : Fin cfg0.N) : Memref sig .tc .vmem S512x1024 .bf16 := win0_11.stage (cfg0.slots t 11)
abbrev whole11 (t : Fin cfg0.N) : (buf11 t).IsWhole := hstage0_11 ((cfg0.slots t 11).cast nbuf0_11)
abbrev buf12 (t : Fin cfg0.N) : Memref sig .tc .vmem S512x256 .f32 := win0_12.stage (cfg0.slots t 12)
abbrev whole12 (t : Fin cfg0.N) : (buf12 t).IsWhole := hstage0_12 ((cfg0.slots t 12).cast nbuf0_12)
abbrev buf13 (t : Fin cfg0.N) : Memref sig .tc .vmem S512x256 .f32 := win0_13.stage (cfg0.slots t 13)
abbrev whole13 (t : Fin cfg0.N) : (buf13 t).IsWhole := hstage0_13 ((cfg0.slots t 13).cast nbuf0_13)
abbrev buf14 (t : Fin cfg0.N) : Memref sig .tc .vmem S1x2x1024 .f32 := win0_14.stage (cfg0.slots t 14)
abbrev whole14 (t : Fin cfg0.N) : (buf14 t).IsWhole := hstage0_14 ((cfg0.slots t 14).cast nbuf0_14)
abbrev see9 : View sig .tc .vmem S512x1024 .bf16 := (Memref.whole cc0_stg9_0 : Memref sig .tc .vmem S512x1024 .bf16).view
abbrev see10 : View sig .tc .vmem S512x1024 .bf16 := (Memref.whole cc0_stg10_0 : Memref sig .tc .vmem S512x1024 .bf16).view
abbrev see11 : View sig .tc .vmem S512x1024 .bf16 := (Memref.whole cc0_stg11_0 : Memref sig .tc .vmem S512x1024 .bf16).view
abbrev see12 : View sig .tc .vmem S512x256 .f32 := (Memref.whole cc0_stg12_0 : Memref sig .tc .vmem S512x256 .f32).view
abbrev see13 : View sig .tc .vmem S512x256 .f32 := (Memref.whole cc0_stg13_0 : Memref sig .tc .vmem S512x256 .f32).view
abbrev see14 : View sig .tc .vmem S1x2x1024 .f32 := (Memref.whole cc0_stg14_0 : Memref sig .tc .vmem S1x2x1024 .f32).view
abbrev scr : Memref sig .tc .vmem S520x1024 .f32 := Memref.whole cc0_scratch0

/-- The run of a tile that opens its sequence, at a point's buffers and blocks. -/
abbrev atA (c : Dev nD) (t : Fin cfg0.N) (hc : v2w (grid0.coords t) = 1#1) :=
  runA (F := F) c (grid0.coords t) hc (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) scr (Memref.isWhole_whole _) (iblk m c 0 t) (iblk m c 1 t) (iblk m c 2 t) (iblk m c 3 t) (iblk m c 4 t) (iblk m c 5 t) (iblk m c 6 t) (iblk m c 7 t) (iblk m c 8 t)

/-- The run of a tile that carries on its sequence, the two rows before it at `e`. -/
abbrev atB (c : Dev nD) (t : Fin cfg0.N) (hc : ¬ v2w (grid0.coords t) = 1#1) (e : Vec F S2x1024 .f32) :=
  runB (F := F) c (grid0.coords t) hc (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) scr (Memref.isWhole_whole _) (iblk m c 0 t) (iblk m c 1 t) (iblk m c 2 t) (iblk m c 3 t) (iblk m c 4 t) (iblk m c 5 t) (iblk m c 6 t) (iblk m c 7 t) (iblk m c 8 t) e

theorem coverA9 (c : Dev nD) (t : Fin cfg0.N) (hc : v2w (grid0.coords t) = 1#1) (y : S512x1024.Idx) :
    ∃ pc ∈ (atA m c t hc).1, y ∈ pc.1.set :=
  View.cover_of_tiledL (atA m c t hc).1 S512x256.size (by sl_kernel_rfl) y

theorem coverB9 (c : Dev nD) (t : Fin cfg0.N) (hc : ¬ v2w (grid0.coords t) = 1#1) (e : Vec F S2x1024 .f32) (y : S512x1024.Idx) :
    ∃ pc ∈ (atB m c t hc e).1, y ∈ pc.1.set :=
  View.cover_of_tiledL (atB m c t hc e).1 S512x256.size (by sl_kernel_rfl) y

theorem coverA10 (c : Dev nD) (t : Fin cfg0.N) (hc : v2w (grid0.coords t) = 1#1) (y : S512x1024.Idx) :
    ∃ pc ∈ (atA m c t hc).2.1, y ∈ pc.1.set :=
  View.cover_of_tiledL (atA m c t hc).2.1 S512x256.size (by sl_kernel_rfl) y

theorem coverB10 (c : Dev nD) (t : Fin cfg0.N) (hc : ¬ v2w (grid0.coords t) = 1#1) (e : Vec F S2x1024 .f32) (y : S512x1024.Idx) :
    ∃ pc ∈ (atB m c t hc e).2.1, y ∈ pc.1.set :=
  View.cover_of_tiledL (atB m c t hc e).2.1 S512x256.size (by sl_kernel_rfl) y

theorem coverA11 (c : Dev nD) (t : Fin cfg0.N) (hc : v2w (grid0.coords t) = 1#1) (y : S512x1024.Idx) :
    ∃ pc ∈ (atA m c t hc).2.2.1, y ∈ pc.1.set :=
  View.cover_of_tiledBy (atA m c t hc).2.2.1 ![512, 256] (by sl_kernel_rfl) y

theorem coverB11 (c : Dev nD) (t : Fin cfg0.N) (hc : ¬ v2w (grid0.coords t) = 1#1) (e : Vec F S2x1024 .f32) (y : S512x1024.Idx) :
    ∃ pc ∈ (atB m c t hc e).2.2.1, y ∈ pc.1.set :=
  View.cover_of_tiledBy (atB m c t hc e).2.2.1 ![512, 256] (by sl_kernel_rfl) y

theorem coverA12 (c : Dev nD) (t : Fin cfg0.N) (hc : v2w (grid0.coords t) = 1#1) (y : S512x256.Idx) :
    ∃ pc ∈ (atA m c t hc).2.2.2.1, y ∈ pc.1.set :=
  View.cover_of_tiledL (atA m c t hc).2.2.2.1 S512x256.size (by sl_kernel_rfl) y

theorem coverB12 (c : Dev nD) (t : Fin cfg0.N) (hc : ¬ v2w (grid0.coords t) = 1#1) (e : Vec F S2x1024 .f32) (y : S512x256.Idx) :
    ∃ pc ∈ (atB m c t hc e).2.2.2.1, y ∈ pc.1.set :=
  View.cover_of_tiledL (atB m c t hc e).2.2.2.1 S512x256.size (by sl_kernel_rfl) y

theorem coverA13 (c : Dev nD) (t : Fin cfg0.N) (hc : v2w (grid0.coords t) = 1#1) (y : S512x256.Idx) :
    ∃ pc ∈ (atA m c t hc).2.2.2.2.1, y ∈ pc.1.set :=
  View.cover_of_tiledL (atA m c t hc).2.2.2.2.1 S512x256.size (by sl_kernel_rfl) y

theorem coverB13 (c : Dev nD) (t : Fin cfg0.N) (hc : ¬ v2w (grid0.coords t) = 1#1) (e : Vec F S2x1024 .f32) (y : S512x256.Idx) :
    ∃ pc ∈ (atB m c t hc e).2.2.2.2.1, y ∈ pc.1.set :=
  View.cover_of_tiledL (atB m c t hc e).2.2.2.2.1 S512x256.size (by sl_kernel_rfl) y

theorem coverA14 (c : Dev nD) (t : Fin cfg0.N) (hc : v2w (grid0.coords t) = 1#1) (y : S1x2x1024.Idx) :
    ∃ pc ∈ (atA m c t hc).2.2.2.2.2.1, y ∈ pc.1.set :=
  View.cover_of_tiledL (atA m c t hc).2.2.2.2.2.1 S1x2x1024.size (by sl_kernel_rfl) y

theorem coverB14 (c : Dev nD) (t : Fin cfg0.N) (hc : ¬ v2w (grid0.coords t) = 1#1) (e : Vec F S2x1024 .f32) (y : S1x2x1024.Idx) :
    ∃ pc ∈ (atB m c t hc e).2.2.2.2.2.1, y ∈ pc.1.set :=
  View.cover_of_tiledL (atB m c t hc e).2.2.2.2.2.1 S1x2x1024.size (by sl_kernel_rfl) y

/-- The two rows that a tile which opens its sequence leaves for the next. -/
def nextA (c : Dev nD) (t : Fin cfg0.N) (hc : v2w (grid0.coords t) = 1#1) : Vec F S2x1024 .f32 := (atA m c t hc).2.2.2.2.2.2.1

/-- The two rows that a tile which carries on its sequence leaves for the next. -/
def nextB (c : Dev nD) (t : Fin cfg0.N) (hc : ¬ v2w (grid0.coords t) = 1#1) (e : Vec F S2x1024 .f32) : Vec F S2x1024 .f32 :=
  (atB m c t hc e).2.2.2.2.2.2.1

/-- The two rows that the tile of point `t` leaves, from the two before it. -/
def next (c : Dev nD) (t : Fin cfg0.N) (e : Vec F S2x1024 .f32) : Vec F S2x1024 .f32 :=
  if hc : v2w (grid0.coords t) = 1#1 then nextA m c t hc else nextB m c t hc e

/-- The two rows of the convolution's input before the tile of point `n`, as the tile before leaves them. -/
def carry (c : Dev nD) : ℕ → Vec F S2x1024 .f32 :=
  Nat.rec (fun _ => FloatOps.ofBits .f32 0#32) fun n e => if h : n < cfg0.N then next m c ⟨n, h⟩ e else e

theorem carry_next (c : Dev nD) (t : Fin cfg0.N) : carry m c (t.val + 1) = next m c t (carry m c t.val) := by
  show (if h : t.val < cfg0.N then next m c ⟨t.val, h⟩ (carry m c t.val) else carry m c t.val) = _
  rw [dif_pos t.isLt]

theorem next_A (c : Dev nD) (t : Fin cfg0.N) (hc : v2w (grid0.coords t) = 1#1) (e : Vec F S2x1024 .f32) :
    next m c t e = nextA m c t hc := dif_pos hc

theorem next_B (c : Dev nD) (t : Fin cfg0.N) (hc : ¬ v2w (grid0.coords t) = 1#1) (e : Vec F S2x1024 .f32) :
    next m c t e = nextB m c t hc e := dif_neg hc

theorem nextA_eq (c : Dev nD) (t : Fin cfg0.N) (hc : v2w (grid0.coords t) = 1#1) :
    nextA m c t hc = (atA m c t hc).2.2.2.2.2.2.1 := rfl

theorem nextB_eq (c : Dev nD) (t : Fin cfg0.N) (hc : ¬ v2w (grid0.coords t) = 1#1) (e : Vec F S2x1024 .f32) :
    nextB m c t hc e = (atB m c t hc e).2.2.2.2.2.2.1 := rfl

theorem carry_A (c : Dev nD) (t : Fin cfg0.N) (hc : v2w (grid0.coords t) = 1#1) :
    carry m c (t.val + 1) = (atA m c t hc).2.2.2.2.2.2.1 :=
  ((carry_next m c t).trans (next_A m c t hc _)).trans (nextA_eq m c t hc)

theorem carry_B (c : Dev nD) (t : Fin cfg0.N) (hc : ¬ v2w (grid0.coords t) = 1#1) :
    carry m c (t.val + 1) = (atB m c t hc (carry m c t.val)).2.2.2.2.2.2.1 :=
  ((carry_next m c t).trans (next_B m c t hc _)).trans (nextB_eq m c t hc _)

/-- What is known of the scratch before point `n`: nothing where a sequence opens, else the two carried rows. -/
def known (c : Dev nD) (n : ℕ) : List (View.Piece (Elt F) S520x1024 .f32) :=
  if n % 16 = 0 then [] else [preP (carry m c n)]

/-- The scratch with those pieces stored, and the generator. -/
def inv (c : Dev nD) (n : ℕ) : sProp 𝕄 :=
  iprop((∃ f, scr.view.loc (c : Thread nD τ) ↦[scr.view.set]{fullShare} scr.view.writes (Elt F) f (known m c n)) ∗ (∃ r, prngReg c r))

theorem inv_B (c : Dev nD) (t : Fin cfg0.N) (hc : ¬ v2w (grid0.coords t) = 1#1) :
    inv m c t.val = iprop((∃ f, scr.view.loc (c : Thread nD τ) ↦[scr.view.set]{fullShare} scr.view.writes (Elt F) f [preP (carry m c t.val)]) ∗ (∃ r, prngReg c r)) := by
  unfold inv
  rw [show known m c t.val = [preP (carry m c t.val)] from if_neg (fun h => hc ((first t).mpr h))]

theorem class_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

theorem inv_of_any (c : Dev nD) : (Pipeline.ΦA spec0 c : sProp 𝕄) ⊢ inv m c 0 := by
  rw [class_eq]
  unfold inv owns
  rw [show known m c 0 = [] from if_pos rfl]
  iintro ⟨⟨%d, %f, -, HS⟩, Hg⟩
  isplitl [HS]; · iexists f; iexact HS
  iexact Hg

theorem any_of_inv (c : Dev nD) (n : ℕ) : inv m c n ⊢ (iprop((∃ d, owns (c : Thread nD τ) scr fullShare d) ∗ (∃ r, prngReg c r)) : sProp 𝕄) := by
  unfold inv owns
  iintro ⟨⟨%f, HS⟩, Hg⟩
  isplitl [HS]
  · iexists _; iexists _; isplitr
    swap; · iexact HS
    ipureintro; rfl
  iexact Hg

/-- What a tile leaves in the scratch is what the next one knows of it. -/
theorem inv_step (c : Dev nD) (n : ℕ) (v : Vec F S2x1024 .f32) (L : List (View.Piece (Elt F) S520x1024 .f32)) (h : carry m c n = v) :
    (iprop((∃ f, scr.view.loc (c : Thread nD τ) ↦[scr.view.set]{fullShare} scr.view.writes (Elt F) f (preP v :: L)) ∗ (∃ r, prngReg c r)) : sProp 𝕄) ⊢ inv m c n := by
  subst h
  unfold inv known
  iintro ⟨⟨%f, HS⟩, Hg⟩
  isplitl [HS]
  · by_cases h0 : n % 16 = 0
    · rw [if_pos h0]; iexists (scr.view.writes (Elt F) f (preP (carry m c n) :: L)); iexact HS
    · rw [if_neg h0]; iexists (scr.view.writes (Elt F) f L); iexact HS
  iexact Hg

/-- What the results' buffers hold after the body at point `t`. -/
def left (c : Dev nD) (t : Fin cfg0.N) : Vec F S512x1024 .bf16 × Vec F S512x1024 .bf16 × Vec F S512x1024 .bf16 × Vec F S512x256 .f32 × Vec F S512x256 .f32 × Vec F S1x2x1024 .f32 :=
  if hc : v2w (grid0.coords t) = 1#1 then
    (see9.read (Elt F) (see9.writes (Elt F) see9.junk (atA m c t hc).1), see10.read (Elt F) (see10.writes (Elt F) see10.junk (atA m c t hc).2.1), see11.read (Elt F) (see11.writes (Elt F) see11.junk (atA m c t hc).2.2.1), see12.read (Elt F) (see12.writes (Elt F) see12.junk (atA m c t hc).2.2.2.1), see13.read (Elt F) (see13.writes (Elt F) see13.junk (atA m c t hc).2.2.2.2.1), see14.read (Elt F) (see14.writes (Elt F) see14.junk (atA m c t hc).2.2.2.2.2.1))
  else
    (see9.read (Elt F) (see9.writes (Elt F) see9.junk (atB m c t hc (carry m c t.val)).1), see10.read (Elt F) (see10.writes (Elt F) see10.junk (atB m c t hc (carry m c t.val)).2.1), see11.read (Elt F) (see11.writes (Elt F) see11.junk (atB m c t hc (carry m c t.val)).2.2.1), see12.read (Elt F) (see12.writes (Elt F) see12.junk (atB m c t hc (carry m c t.val)).2.2.2.1), see13.read (Elt F) (see13.writes (Elt F) see13.junk (atB m c t hc (carry m c t.val)).2.2.2.2.1), see14.read (Elt F) (see14.writes (Elt F) see14.junk (atB m c t hc (carry m c t.val)).2.2.2.2.2.1))

/-- The proof data: inputs stay at their blocks, results end at `left`, the scratch is known as `inv` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (left m c t).1
    | ⟨10, _⟩ => (left m c t).2.1
    | ⟨11, _⟩ => (left m c t).2.2.1
    | ⟨12, _⟩ => (left m c t).2.2.2.1
    | ⟨13, _⟩ => (left m c t).2.2.2.2.1
    | ⟨14, _⟩ => (left m c t).2.2.2.2.2
  Φ t := inv m c t.val
  q _ := fullShare
  owed _ := 0

theorem A_eq (c : Dev nD) (w : Fin cfg0.W) : (dats m 0 c).A w = V m c (Pipeline.arrRef spec0 w) := by
  dsimp only [dats]

theorem Φ_eq (c : Dev nD) (t : Fin (cfg0.N + 1)) : (dats m 0 c).Φ t = inv m c t.val := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = (left m c t).1 := by dsimp only [dats]
theorem after10 (c : Dev nD) (t : Fin cfg0.N) : (dats m 0 c).after 10 t = (left m c t).2.1 := by dsimp only [dats]
theorem after11 (c : Dev nD) (t : Fin cfg0.N) : (dats m 0 c).after 11 t = (left m c t).2.2.1 := by dsimp only [dats]
theorem after12 (c : Dev nD) (t : Fin cfg0.N) : (dats m 0 c).after 12 t = (left m c t).2.2.2.1 := by dsimp only [dats]
theorem after13 (c : Dev nD) (t : Fin cfg0.N) : (dats m 0 c).after 13 t = (left m c t).2.2.2.2.1 := by dsimp only [dats]
theorem after14 (c : Dev nD) (t : Fin cfg0.N) : (dats m 0 c).after 14 t = (left m c t).2.2.2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d))
    ∗ (∃ d, owns (c : Thread nD τ) (buf13 t) fullShare ((dats m 0 c).before 13 t d))
    ∗ (∃ d, owns (c : Thread nD τ) (buf14 t) fullShare ((dats m 0 c).before 14 t d)))

/-- What it returns. -/
def post (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t)
    ∗ owns (c : Thread nD τ) (buf11 t) fullShare ((dats m 0 c).after 11 t)
    ∗ owns (c : Thread nD τ) (buf12 t) fullShare ((dats m 0 c).after 12 t)
    ∗ owns (c : Thread nD τ) (buf13 t) fullShare ((dats m 0 c).after 13 t)
    ∗ owns (c : Thread nD τ) (buf14 t) fullShare ((dats m 0 c).after 14 t))

set_option maxHeartbeats 1600000 in
/-- The body at a tile that opens its sequence. -/
theorem body_A (c : Dev nD) (t : Fin cfg0.N) (hc : v2w (grid0.coords t) = 1#1) :
    pre m c t ⊢ wp frame (wpE (defs₀ (F := F)) Variants.none c none) Set.univ (bodyAt0 t) (fun _ => post m c t) := by
  unfold pre post bodyAt0
  simp only [before0, before1, before2, before3, before4, before5, before6, before7, before8]
  rw [show (dats m 0 c).owesAt () t.succ = (dats m 0 c).owesAt () t.castSucc from rfl,
    after0, after1, after2, after3, after4, after5, after6, after7, after8, after9, after10, after11, after12, after13, after14]
  rw [Φ_eq, Φ_eq, show t.castSucc.val = t.val from rfl, show t.succ.val = t.val + 1 from rfl]
  rw [show left m c t = _ from dif_pos hc]
  dsimp only
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave HI := any_of_inv m c t.val $$ HI
  icases HI with ⟨HS, Hg⟩
  iapply ((atA m c t hc).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS]; · iexact HS
  iintro ⟨H0, H1, H2, H3, H4, H5, H6, H7, H8, ⟨%e9, H9⟩, ⟨%e10, H10⟩, ⟨%e11, H11⟩, ⟨%e12, H12⟩, ⟨%e13, H13⟩, ⟨%e14, H14⟩, HS⟩
  isplitl [HS Hg]
  · iapply (inv_step m c (t.val + 1) _ _ (carry_A m c t hc))
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverA9 m c t hc)
  isplitl [H10]
  · unfold owns; iexists _; isplitr
    swap; · iexact H10
    ipureintro; exact View.read_writes_of_cover _ _ _ _ _ (coverA10 m c t hc)
  isplitl [H11]
  · unfold owns; iexists _; isplitr
    swap; · iexact H11
    ipureintro; exact View.read_writes_of_cover _ _ _ _ _ (coverA11 m c t hc)
  isplitl [H12]
  · unfold owns; iexists _; isplitr
    swap; · iexact H12
    ipureintro; exact View.read_writes_of_cover _ _ _ _ _ (coverA12 m c t hc)
  isplitl [H13]
  · unfold owns; iexists _; isplitr
    swap; · iexact H13
    ipureintro; exact View.read_writes_of_cover _ _ _ _ _ (coverA13 m c t hc)
  unfold owns; iexists _; isplitr
  swap; · iexact H14
  ipureintro; exact View.read_writes_of_cover _ _ _ _ _ (coverA14 m c t hc)

set_option maxHeartbeats 1600000 in
/-- The body at a tile that carries on its sequence. -/
theorem body_B (c : Dev nD) (t : Fin cfg0.N) (hc : ¬ v2w (grid0.coords t) = 1#1) :
    pre m c t ⊢ wp frame (wpE (defs₀ (F := F)) Variants.none c none) Set.univ (bodyAt0 t) (fun _ => post m c t) := by
  unfold pre post bodyAt0
  simp only [before0, before1, before2, before3, before4, before5, before6, before7, before8]
  rw [show (dats m 0 c).owesAt () t.succ = (dats m 0 c).owesAt () t.castSucc from rfl,
    after0, after1, after2, after3, after4, after5, after6, after7, after8, after9, after10, after11, after12, after13, after14]
  rw [Φ_eq, Φ_eq, show t.castSucc.val = t.val from rfl, show t.succ.val = t.val + 1 from rfl]
  rw [inv_B m c t hc]
  rw [show left m c t = _ from dif_neg hc]
  dsimp only
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  icases HI with ⟨HS, Hg⟩
  iapply ((atB m c t hc (carry m c t.val)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS]; · iexact HS
  iintro ⟨H0, H1, H2, H3, H4, H5, H6, H7, H8, ⟨%e9, H9⟩, ⟨%e10, H10⟩, ⟨%e11, H11⟩, ⟨%e12, H12⟩, ⟨%e13, H13⟩, ⟨%e14, H14⟩, HS⟩
  isplitl [HS Hg]
  · iapply (inv_step m c (t.val + 1) _ _ (carry_B m c t hc))
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverB9 m c t hc (carry m c t.val))
  isplitl [H10]
  · unfold owns; iexists _; isplitr
    swap; · iexact H10
    ipureintro; exact View.read_writes_of_cover _ _ _ _ _ (coverB10 m c t hc (carry m c t.val))
  isplitl [H11]
  · unfold owns; iexists _; isplitr
    swap; · iexact H11
    ipureintro; exact View.read_writes_of_cover _ _ _ _ _ (coverB11 m c t hc (carry m c t.val))
  isplitl [H12]
  · unfold owns; iexists _; isplitr
    swap; · iexact H12
    ipureintro; exact View.read_writes_of_cover _ _ _ _ _ (coverB12 m c t hc (carry m c t.val))
  isplitl [H13]
  · unfold owns; iexists _; isplitr
    swap; · iexact H13
    ipureintro; exact View.read_writes_of_cover _ _ _ _ _ (coverB13 m c t hc (carry m c t.val))
  unfold owns; iexists _; isplitr
  swap; · iexact H14
  ipureintro; exact View.read_writes_of_cover _ _ _ _ _ (coverB14 m c t hc (carry m c t.val))

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  by_cases hc : v2w (grid0.coords t) = 1#1
  · exact triple_restated (body_A m c t hc) rfl .rfl fun _ => .rfl
  · exact triple_restated (body_B m c t hc) rfl .rfl fun _ => .rfl

set_option backward.isDefEq.respectTransparency.types false in
/-- Every run of the program ends, each array at what the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by rw [Φ_eq]; exact inv_of_any m c)
    (hout := fun c => by rw [Φ_eq]; exact (any_of_inv m c _).trans (by rw [class_eq]))

theorem run_all : θ_run defs (onTc (τ := τ) (main (F := F))) (s₀ m ρ) (Pipeline.FramePost cfgs (dats m) 0 (V m)) :=
  (θ_run defs _ _).mono (fun _ h => h.1) (run_quiet m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_all m ρ)) ((θ_run defs _ _).mono (fun _ h => h.2) (run_quiet m ρ))

end Cert.Proof.PrmI

end
-- ==== Proof.PrmCnv.lean ====
/- The prompt batch's mixer: what a tile's loads hold, what its stores leave, and the two rows it hands to the next tile. -/
module

public import proofs.«01_k».proof.Proof.PrmBlk
public import proofs.«01_k».proof.Proof.PrmRef
public import proofs.«01_k».proof.Proof.PrmScr
public import proofs.«01_k».proof.Proof.PrmFrmI
public import proofs.«01_k».proof.Proof.MixCnv

@[expose] public section

set_option maxRecDepth 16384

noncomputable section

namespace Cert.Proof.Prm

open Cert.Kernel5Ideal Cert.Kernel5Ideal.Gen Idealize.ShloMosaic Idealize.ShloMosaic.TcCoe Idealize.SL.Sem
open PrmI (atA atB carry left v2w first)
open Mix (prj prj_congr)

variable (m : (ℓ : Loc nD τ sig) → Buf (Elt Ideal) ℓ)

/-- An entry of the input projection of the arguments. -/
abbrev entA (c : Dev nD) (b : Fin 4) (p : Fin 8192) (n : Fin 6656) : EReal :=
  ent (m ((c : Thread nD τ).loc main_arg0)) (m ((c : Thread nD τ).loc main_arg1)) (m ((c : Thread nD τ).loc main_arg2)) b p n

/-- The convolution's input of the arguments, two zero positions before it. -/
abbrev upsA (c : Dev nD) : Fin 4 → Fin 8194 → Fin 1024 → EReal :=
  ups (m ((c : Thread nD τ).loc main_arg0)) (m ((c : Thread nD τ).loc main_arg1)) (m ((c : Thread nD τ).loc main_arg2))

/-! ## The loads -/

/-- A load from a buffer that holds `X`. -/
theorem readAt_held {s : Shape} {ty : EltTy} (M : Memref sig .tc .vmem s ty) (h : M.IsWhole) (X : s.Idx → Elt Ideal ty) (r : Rect s) :
    View.readAt (Elt Ideal) M.view r.toLoadRect (h.unread X) = View.ld X r := by
  rw [View.readAt_eq_ld, h.read_unread]

theorem inb_slab (cb : Fin 4) : ∀ a, (![cb.val, 0, 0] : Fin 3 → ℕ) a + S1x1024x1024.size a ≤ S4x1024x1024.size a := by
  intro a
  match a with
  | ⟨0, _⟩ => show cb.val + 1 ≤ 4; omega
  | ⟨1, _⟩ => show 0 + 1024 ≤ 1024; omega
  | ⟨2, _⟩ => show 0 + 1024 ≤ 1024; omega

theorem inb_cols (o n : ℕ) (h : o + n ≤ 2560) : ∀ a, (![0, o] : Fin 2 → ℕ) a + (![1024, n] : Fin 2 → ℕ) a ≤ S1024x2560.size a :=
  Fin.forall_fin_two.mpr ⟨by show 0 + 1024 ≤ 1024; omega, h⟩

theorem inb_cw (i : Fin 3) (cb : Fin 4) : ∀ a, (![i.val, cb.val * 256] : Fin 2 → ℕ) a + S1x256.size a ≤ S3x1024.size a :=
  Fin.forall_fin_two.mpr ⟨by show i.val + 1 ≤ 3; omega, by show cb.val * 256 + 256 ≤ 1024; omega⟩

theorem inb_qw (i : Fin 4) : ∀ a, (![0, i.val * 256] : Fin 2 → ℕ) a + S1x256.size a ≤ S1x1024.size a :=
  Fin.forall_fin_two.mpr ⟨by show 0 + 1 ≤ 1; omega, by show i.val * 256 + 256 ≤ 1024; omega⟩

/-- The tile's rows, the two rows of zeros, the norm's weights, a slab, some columns, a row of the convolution's weights,
    the block-diagonal matrix, and the queries' and keys' weights, as the body loads them. -/
def l0 (c : Dev nD) (t : Fin cfg0.N) : Vec Ideal S512x1024 .f32 :=
  View.readAt (Elt Ideal) (PrmI.buf0 t).view (Rect.unit (s := S512x1024) ![0, 0] S512x1024.size inb_S512x1024_S512x1024_0_0).toLoadRect
    ((PrmI.whole0 t).unread (iblk m c 0 t))
def l1 (c : Dev nD) (t : Fin cfg0.N) : Vec Ideal S1x2x1024 .f32 :=
  View.readAt (Elt Ideal) (PrmI.buf1 t).view (Rect.unit (s := S1x2x1024) ![0, 0, 0] S1x2x1024.size inb_S1x2x1024_S1x2x1024_0_0_0).toLoadRect
    ((PrmI.whole1 t).unread (iblk m c 1 t))
def l2 (c : Dev nD) (t : Fin cfg0.N) : Vec Ideal S1x1024 .f32 :=
  View.readAt (Elt Ideal) (PrmI.buf2 t).view (Rect.unit (s := S1x1024) ![0, 0] S1x1024.size inb_S1x1024_S1x1024_0_0).toLoadRect
    ((PrmI.whole2 t).unread (iblk m c 2 t))
def l3 (c : Dev nD) (t : Fin cfg0.N) (cb : Fin 4) : Vec Ideal S1x1024x1024 .bf16 :=
  View.readAt (Elt Ideal) (PrmI.buf3 t).view (Rect.unit (s := S4x1024x1024) ![cb.val, 0, 0] S1x1024x1024.size (inb_slab cb)).toLoadRect
    ((PrmI.whole3 t).unread (iblk m c 3 t))
def l4 (c : Dev nD) (t : Fin cfg0.N) (o n : ℕ) (h : o + n ≤ 2560) : Vec Ideal ⟨2, ![1024, n]⟩ .bf16 :=
  View.readAt (Elt Ideal) (PrmI.buf4 t).view (Rect.unit (s := S1024x2560) ![0, o] ![1024, n] (inb_cols o n h)).toLoadRect
    ((PrmI.whole4 t).unread (iblk m c 4 t))
def l5 (c : Dev nD) (t : Fin cfg0.N) (i : Fin 3) (cb : Fin 4) : Vec Ideal S1x256 .f32 :=
  View.readAt (Elt Ideal) (PrmI.buf5 t).view (Rect.unit (s := S3x1024) ![i.val, cb.val * 256] S1x256.size (inb_cw i cb)).toLoadRect
    ((PrmI.whole5 t).unread (iblk m c 5 t))
def l6 (c : Dev nD) (t : Fin cfg0.N) : Vec Ideal S256x256 .bf16 :=
  View.readAt (Elt Ideal) (PrmI.buf6 t).view (Rect.unit (s := S256x256) ![0, 0] S256x256.size inb_S256x256_S256x256_0_0).toLoadRect
    ((PrmI.whole6 t).unread (iblk m c 6 t))
def l7 (c : Dev nD) (t : Fin cfg0.N) (i : Fin 4) : Vec Ideal S1x256 .f32 :=
  View.readAt (Elt Ideal) (PrmI.buf7 t).view (Rect.unit (s := S1x1024) ![0, i.val * 256] S1x256.size (inb_qw i)).toLoadRect
    ((PrmI.whole7 t).unread (iblk m c 7 t))
def l8 (c : Dev nD) (t : Fin cfg0.N) : Vec Ideal S1x256 .f32 :=
  View.readAt (Elt Ideal) (PrmI.buf8 t).view (Rect.unit (s := S1x256) ![0, 0] S1x256.size inb_S1x256_S1x256_0_0).toLoadRect
    ((PrmI.whole8 t).unread (iblk m c 8 t))

theorem l0_apply (c : Dev nD) (t : Fin cfg0.N) (r : Fin 512) (k : Fin 1024) (b : Fin 4) (p : Fin 8192)
    (h : t.val * 512 + r.val = b.val * 8192 + p.val) : l0 m c t (ix2 r k) = m ((c : Thread nD τ).loc main_arg0) (ix3 b p k) := by
  unfold l0
  rw [readAt_held]
  refine Eq.trans ?_ (iblk0_apply m c t r k b p h)
  exact View.ld_unit_apply_of _ _ _ _ _ _ (Fin.forall_fin_two.mpr ⟨by show r.val = 0 + r.val; omega, by show k.val = 0 + k.val; omega⟩)

theorem l1_apply (c : Dev nD) (t : Fin cfg0.N) (s : Fin 2) (k : Fin 1024) : l1 m c t (ix3 0 s k) = Ideal.ofBits .f32 0x00000000#32 := by
  unfold l1
  rw [readAt_held]
  refine Eq.trans ?_ (iblk1_apply m c t s k)
  refine View.ld_unit_apply_of _ _ _ _ _ _ fun a => ?_
  match a with
  | ⟨0, _⟩ => rfl
  | ⟨1, _⟩ => show s.val = 0 + s.val; omega
  | ⟨2, _⟩ => show k.val = 0 + k.val; omega

theorem l2_apply (c : Dev nD) (t : Fin cfg0.N) (k : Fin 1024) : l2 m c t (ix2 0 k) = m ((c : Thread nD τ).loc main_arg1) (ix1 k) := by
  unfold l2
  rw [readAt_held]
  refine Eq.trans ?_ (iblk2_apply m c t k)
  exact View.ld_unit_apply_of _ _ _ _ _ _ (Fin.forall_fin_two.mpr ⟨rfl, by show k.val = 0 + k.val; omega⟩)

theorem l3_apply (c : Dev nD) (t : Fin cfg0.N) (cb p : Fin 4) (k : Fin 1024) (l : Fin 256) (j : Fin 1024) (n : Fin 6656)
    (hj : j.val = p.val * 256 + l.val) (hn : n.val = (if p.val = 3 then 4608 else p.val * 1024) + cb.val * 256 + l.val) :
    l3 m c t cb (ix3 0 k j) = m ((c : Thread nD τ).loc main_arg2) (ix2 k n) := by
  unfold l3
  rw [readAt_held]
  refine Eq.trans ?_ (iblk3_apply m c t cb p k l j n hj hn)
  refine View.ld_unit_apply_of _ _ _ _ _ _ fun a => ?_
  match a with
  | ⟨0, _⟩ => show cb.val = cb.val + 0; omega
  | ⟨1, _⟩ => show k.val = 0 + k.val; omega
  | ⟨2, _⟩ => show j.val = 0 + j.val; omega

theorem l4_apply (c : Dev nD) (t : Fin cfg0.N) (o n : ℕ) (hon : o + n ≤ 2560) (k : Fin 1024) (j : Fin n) (l : Fin 6656)
    (h : l.val = if o + j.val < 1536 then 3072 + (o + j.val) else 4096 + (o + j.val)) :
    l4 m c t o n hon (ix2 k j) = m ((c : Thread nD τ).loc main_arg2) (ix2 k l) := by
  unfold l4
  rw [readAt_held]
  refine Eq.trans ?_ (iblk4_apply m c t k ⟨o + j.val, by omega⟩ l h)
  exact View.ld_unit_apply_of _ _ _ _ _ _ (Fin.forall_fin_two.mpr ⟨by show k.val = 0 + k.val; omega, rfl⟩)

theorem l5_apply (c : Dev nD) (t : Fin cfg0.N) (i : Fin 3) (cb : Fin 4) (l : Fin 256) :
    l5 m c t i cb (ix2 0 l) = m ((c : Thread nD τ).loc main_arg3) (ix2 i ⟨cb.val * 256 + l.val, by omega⟩) := by
  unfold l5
  rw [readAt_held]
  refine Eq.trans ?_ (iblk5_apply m c t i _)
  exact View.ld_unit_apply_of _ _ _ _ _ _ (Fin.forall_fin_two.mpr ⟨by show i.val = i.val + 0; omega,
    by show cb.val * 256 + l.val = cb.val * 256 + l.val; rfl⟩)

theorem l6_apply (c : Dev nD) (t : Fin cfg0.N) (k j : Fin 256) :
    l6 m c t (ix2 k j) = (if k.val / 64 = j.val / 64 then (((1 / 64 : ℝ)) : EReal) else 0 : EReal) := by
  unfold l6
  rw [readAt_held]
  refine Eq.trans ?_ (iblk6_apply m c t k j)
  exact View.ld_unit_apply_of _ _ _ _ _ _ (Fin.forall_fin_two.mpr ⟨by show k.val = 0 + k.val; omega, by show j.val = 0 + j.val; omega⟩)

theorem l7_apply (c : Dev nD) (t : Fin cfg0.N) (i : Fin 4) (l : Fin 256) (d : Fin 64) (h : d.val = (i.val * 256 + l.val) % 64) :
    l7 m c t i (ix2 0 l) = m ((c : Thread nD τ).loc main_arg4) (ix1 d) := by
  unfold l7
  rw [readAt_held]
  refine Eq.trans ?_ (iblk7_apply m c t ⟨i.val * 256 + l.val, by omega⟩ d h)
  exact View.ld_unit_apply_of _ _ _ _ _ _ (Fin.forall_fin_two.mpr ⟨by show 0 = 0 + 0; omega, rfl⟩)

theorem l8_apply (c : Dev nD) (t : Fin cfg0.N) (l : Fin 256) (d : Fin 64) (h : d.val = l.val % 64) :
    l8 m c t (ix2 0 l) = m ((c : Thread nD τ).loc main_arg5) (ix1 d) := by
  unfold l8
  rw [readAt_held]
  refine Eq.trans ?_ (iblk8_apply m c t l d h)
  exact View.ld_unit_apply_of _ _ _ _ _ _ (Fin.forall_fin_two.mpr ⟨by show 0 = 0 + 0; omega, by show l.val = 0 + l.val; omega⟩)

/-! ## The convolution's input over a tile -/

/-- The sequence of a tile, and the position of its row `q`. -/
def sq (t : Fin cfg0.N) : Fin 4 := ⟨t.val / 16, by have : t.val < 64 := t.isLt; omega⟩
def ps (t : Fin cfg0.N) (q : Fin 512) : Fin 8192 := ⟨t.val % 16 * 512 + q.val, by omega⟩

theorem row_eq (t : Fin cfg0.N) (q : Fin 512) : t.val * 512 + q.val = (sq t).val * 8192 + (ps t q).val := by
  show t.val * 512 + q.val = t.val / 16 * 8192 + (t.val % 16 * 512 + q.val)
  omega

/-- The convolution's input at a tile's rows and the two before. -/
def tup (c : Dev nD) (t : Fin cfg0.N) (s : Fin 514) (j : Fin 1024) : EReal :=
  upsA m c (sq t) ⟨t.val % 16 * 512 + s.val, by omega⟩ j

/-- The product of slab `cb`. -/
def slb (c : Dev nD) (t : Fin cfg0.N) (cb : Fin 4) : FVec Ideal S512x1024 .f32 :=
  k0_pay8 (F := Ideal) (l0 m c t) (l2 m c t) (l3 m c t cb)

theorem slb_apply (c : Dev nD) (t : Fin cfg0.N) (cb p : Fin 4) (q : Fin 512) (l : Fin 256) (j : Fin 1024) (n : Fin 6656)
    (hj : j.val = p.val * 256 + l.val) (hn : n.val = (if p.val = 3 then 4608 else p.val * 1024) + cb.val * 256 + l.val) :
    slb m c t cb (ix2 q j) = entA m c (sq t) (ps t q) n := by
  refine (pay8_apply _ _ _ q j).trans (prj_congr (fun k => ?_) (fun k => ?_) fun k => ?_)
  · exact l0_apply m c t q k _ _ (row_eq t q)
  · exact l2_apply m c t k
  · exact l3_apply m c t cb p k l j n hj hn

/-- What a slab's store holds is the convolution's input. -/
theorem seg_input (c : Dev nD) (t : Fin cfg0.N) (cb : Fin 4) (q : Fin 512) (l : Fin 256) :
    k0_pay24 (F := Ideal) (slb m c t cb) (ix2 q l) = tup m c t ⟨2 + q.val, by omega⟩ ⟨cb.val * 256 + l.val, by omega⟩ := by
  have e : (⟨t.val % 16 * 512 + (2 + q.val) - 2, by omega⟩ : Fin 8192) = ps t q :=
    Fin.ext (by show t.val % 16 * 512 + (2 + q.val) - 2 = t.val % 16 * 512 + q.val; omega)
  rw [pay24_apply, slb_apply m c t cb ⟨2, by omega⟩ q l _ ⟨2048 + (cb.val * 256 + l.val), by omega⟩ rfl (Nat.add_assoc _ _ _).symm,
    slb_apply m c t cb ⟨0, by omega⟩ q l _ ⟨cb.val * 256 + l.val, by omega⟩ (by show l.val = 0 * 256 + l.val; omega)
      (by show cb.val * 256 + l.val = 0 * 1024 + cb.val * 256 + l.val; omega)]
  unfold tup upsA ups
  rw [dif_neg (by show ¬ t.val % 16 * 512 + (2 + q.val) < 2; omega)]
  unfold inp
  rw [e]

/-- Two rows that are the convolution's input before a tile. -/
def Starts (c : Dev nD) (t : Fin cfg0.N) (e : Vec Ideal S2x1024 .f32) : Prop :=
  ∀ (s : Fin 2) (j : Fin 1024), e (ix2 s j) = tup m c t ⟨s.val, by omega⟩ j

/-- The two rows of zeros that a tile which opens its sequence stores. -/
def zero2 (c : Dev nD) (t : Fin cfg0.N) : Vec Ideal S2x1024 .f32 := k0_pay5 (F := Ideal) (l1 m c t)

theorem starts_zero (c : Dev nD) (t : Fin cfg0.N) (h : t.val % 16 = 0) : Starts m c t (zero2 m c t) := fun s j => by
  refine (pay5_apply _ s j).trans ((l1_apply m c t s j).trans ?_)
  unfold tup upsA ups
  rw [dif_pos (by show t.val % 16 * 512 + s.val < 2; omega)]

/-- The tile's last two rows, as the body reads them back once every slab is stored. -/
def tail (c : Dev nD) (t : Fin cfg0.N) (e : Vec Ideal S2x1024 .f32) : Vec Ideal S2x1024 .f32 :=
  (View.whole cc0_scratch0).readCov (segs (slb m c t) e 4 (le_refl _))
    (Rect.unit (s := S520x1024) ![518, 0] S2x1024.size inb_tail).toLoadRect

theorem tail_apply (c : Dev nD) (t : Fin cfg0.N) (e : Vec Ideal S2x1024 .f32) (he : Starts m c t e) (s : Fin 2) (j : Fin 1024) :
    tail m c t e (ix2 s j) = tup m c t ⟨512 + s.val, by omega⟩ j :=
  rd_tail (tup m c t) (slb m c t) e (segs_of _ _ _ he (seg_input m c t) 4 (le_refl _)) s j

/-! ## What the run of a tile leaves for the next -/

set_option maxHeartbeats 2000000 in
theorem next_A (c : Dev nD) (t : Fin cfg0.N) (hc : v2w (grid0.coords t) = 1#1) :
    (atA m c t hc).2.2.2.2.2.2.1 = k0_pay2 (F := Ideal) (tail m c t (zero2 m c t)) := rfl

set_option maxHeartbeats 2000000 in
theorem next_B (c : Dev nD) (t : Fin cfg0.N) (hc : ¬ v2w (grid0.coords t) = 1#1) (e : Vec Ideal S2x1024 .f32) :
    (atB m c t hc e).2.2.2.2.2.2.1 = k0_pay2 (F := Ideal) (tail m c t e) := rfl

/-- From one tile of a sequence to the next. -/
theorem starts_next (c : Dev nD) (t u : Fin cfg0.N) (hu : u.val = t.val + 1) (h : u.val % 16 ≠ 0) (e : Vec Ideal S2x1024 .f32)
    (he : Starts m c t e) : Starts m c u (k0_pay2 (F := Ideal) (tail m c t e)) := fun s j => by
  refine (pay2_apply _ s j).trans ((tail_apply m c t e he s j).trans ?_)
  have e1 : sq t = sq u := Fin.ext (by show t.val / 16 = u.val / 16; omega)
  unfold tup
  rw [e1]
  refine congrArg (fun p => upsA m c (sq u) p j) (Fin.ext ?_)
  show t.val % 16 * 512 + (512 + s.val) = u.val % 16 * 512 + s.val
  omega

/-- The rows carried to a tile inside its sequence are the convolution's input before it. -/
theorem starts_carry (c : Dev nD) : ∀ (n : ℕ) (h : n < cfg0.N), n % 16 ≠ 0 → Starts m c ⟨n, h⟩ (carry m c n)
  | 0, _, h0 => absurd rfl h0
  | n + 1, h, h0 => by
    have hn : n < cfg0.N := Nat.lt_of_succ_lt h
    by_cases hc : v2w (grid0.coords (⟨n, hn⟩ : Fin cfg0.N)) = 1#1
    · rw [PrmI.carry_A m c ⟨n, hn⟩ hc, next_A]
      exact starts_next m c ⟨n, hn⟩ ⟨n + 1, h⟩ rfl h0 _ (starts_zero m c _ ((first _).mp hc))
    · rw [PrmI.carry_B m c ⟨n, hn⟩ hc, next_B]
      exact starts_next m c ⟨n, hn⟩ ⟨n + 1, h⟩ rfl h0 _ (starts_carry c n hn fun h => hc ((first _).mpr h))

end Cert.Proof.Prm

end
-- ==== Proof.PrmLft.lean ====
/- The prompt batch's mixer: the pieces a tile leaves in its windows. -/
module

public import proofs.«01_k».proof.Proof.PrmCnv

@[expose] public section

set_option maxRecDepth 16384

noncomputable section

namespace Cert.Proof.Prm

open Cert.Kernel5Ideal Cert.Kernel5Ideal.Gen Idealize.ShloMosaic Idealize.ShloMosaic.TcCoe Idealize.SL.Sem
open PrmI (atA atB carry left v2w first dats)
open Mix (prj prj_congr hnm lan)

variable (m : (ℓ : Loc nD τ sig) → Buf (Elt Ideal) ℓ)

/-- A window that pieces of one function cover holds that function. -/
theorem read_pieces {κ : Kind} {sp : Space} {s : Shape} {e : EltTy} (v : View sig κ sp s e) (f : v.ty.Contents (Elt Ideal))
    (L : List (View.Piece (Elt Ideal) s e)) (G : s.Idx → Elt Ideal e) (hL : View.PiecesOf G L) (y : s.Idx)
    (hc : ∃ pc ∈ L, y ∈ pc.1.set) : v.read (Elt Ideal) (v.writes (Elt Ideal) f L) y = G y := by
  have h := View.canon_append_of_piecesOf G [] L hL y hc
  rw [List.append_nil] at h
  exact (View.read_writes_apply_eq_canon v f y L hc).trans h

theorem inb_out (cb : Fin 4) : ∀ a, (![0, cb.val * 256] : Fin 2 → ℕ) a + S512x256.size a ≤ S512x1024.size a :=
  Fin.forall_fin_two.mpr ⟨by show 0 + 512 ≤ 512; omega, by show cb.val * 256 + 256 ≤ 1024; omega⟩

theorem inb_part (o n : ℕ) (h : o + n ≤ 1024) : ∀ a, (![0, o] : Fin 2 → ℕ) a + (![512, n] : Fin 2 → ℕ) a ≤ S512x1024.size a :=
  Fin.forall_fin_two.mpr ⟨by show 0 + 512 ≤ 512; omega, h⟩

/-- The columns from `256 cb` on of a tile of 1024 columns. -/
abbrev out (cb : Fin 4) : Rect S512x1024 := Rect.unit (s := S512x1024) ![0, cb.val * 256] S512x256.size (inb_out cb)

/-- The gated convolution of slab `cb`. -/
def gat (c : Dev nD) (t : Fin cfg0.N) (e : Vec Ideal S2x1024 .f32) (cb : Fin 4) : Vec Ideal S512x256 .bf16 :=
  k0_pay25 (F := Ideal) (slb m c t cb)
    ((View.whole cc0_scratch0).readCov (segs (slb m c t) e (cb.val + 1) cb.isLt)
      (Rect.unit (s := S520x1024) ![7, cb.val * 256] S512x256.size (inb_seg cb 7 (by omega))).toLoadRect)
    ((View.whole cc0_scratch0).readCov (segs (slb m c t) e (cb.val + 1) cb.isLt)
      (Rect.unit (s := S520x1024) ![6, cb.val * 256] S512x256.size (inb_seg cb 6 (by omega))).toLoadRect)
    (l5 m c t 0 cb) (l5 m c t 1 cb) (l5 m c t 2 cb)

/-- The query, key and value columns of the projection. -/
def qkv (c : Dev nD) (t : Fin cfg0.N) : FVec Ideal S512x1536 .f32 :=
  k0_pay7 (F := Ideal) (l0 m c t) (l2 m c t) (l4 m c t 0 1536 (by omega))

/-- The pieces of the gated convolution. -/
def W9 (c : Dev nD) (t : Fin cfg0.N) (e : Vec Ideal S2x1024 .f32) : List (View.Piece (Elt Ideal) S512x1024 .bf16) :=
  [⟨out 3, gat m c t e 3⟩, ⟨out 2, gat m c t e 2⟩, ⟨out 1, gat m c t e 1⟩, ⟨out 0, gat m c t e 0⟩]

/-- The pieces of the normed queries. -/
def W10 (c : Dev nD) (t : Fin cfg0.N) : List (View.Piece (Elt Ideal) S512x1024 .bf16) :=
  [⟨out 3, k0_pay18 (F := Ideal) (qkv m c t) (k0_pay14 (l6 m c t)) (l7 m c t 3)⟩,
   ⟨out 2, k0_pay17 (F := Ideal) (qkv m c t) (k0_pay14 (l6 m c t)) (l7 m c t 2)⟩,
   ⟨out 1, k0_pay16 (F := Ideal) (qkv m c t) (l6 m c t) (l7 m c t 1)⟩,
   ⟨out 0, k0_pay15 (F := Ideal) (qkv m c t) (l6 m c t) (l7 m c t 0)⟩]

/-- The pieces of the attention gate. -/
def W11 (c : Dev nD) (t : Fin cfg0.N) : List (View.Piece (Elt Ideal) S512x1024 .bf16) :=
  [⟨Rect.unit (s := S512x1024) ![0, 768] ![512, 256] (inb_part 768 256 (by omega)),
      k0_pay4 (F := Ideal) (k0_pay13 (k0_pay6 (l0 m c t) (l2 m c t)) (l4 m c t 2304 256 (by omega)))⟩,
   ⟨Rect.unit (s := S512x1024) ![0, 0] ![512, 768] (inb_part 0 768 (by omega)),
      k0_pay3 (F := Ideal) (k0_pay12 (k0_pay6 (l0 m c t) (l2 m c t)) (l4 m c t 1536 768 (by omega)))⟩]

/-- The piece of the normed keys, of the values, and of the carried rows. -/
def W12 (c : Dev nD) (t : Fin cfg0.N) : List (View.Piece (Elt Ideal) S512x256 .f32) :=
  [⟨Rect.unit (s := S512x256) ![0, 0] S512x256.size inb_S512x256_S512x256_0_0,
    k0_pay21 (F := Ideal) (k0_pay19 (qkv m c t) (k0_pay14 (l6 m c t))) (k0_pay20 (l8 m c t))⟩]
def W13 (c : Dev nD) (t : Fin cfg0.N) : List (View.Piece (Elt Ideal) S512x256 .f32) :=
  [⟨Rect.unit (s := S512x256) ![0, 0] S512x256.size inb_S512x256_S512x256_0_0, k0_pay22 (F := Ideal) (qkv m c t)⟩]
def W14 (c : Dev nD) (t : Fin cfg0.N) (e : Vec Ideal S2x1024 .f32) : List (View.Piece (Elt Ideal) S1x2x1024 .f32) :=
  [⟨Rect.unit (s := S1x2x1024) ![0, 0, 0] S1x2x1024.size inb_S1x2x1024_S1x2x1024_0_0_0, k0_pay1 (F := Ideal) (tail m c t e)⟩]

/-- The rows a tile finds before it are the convolution's input, whichever way they got there. -/
theorem starts_inside (c : Dev nD) (t : Fin cfg0.N) (hc : ¬ v2w (grid0.coords t) = 1#1) : Starts m c t (carry m c t.val) :=
  starts_carry m c t.val t.isLt fun h => hc ((first t).mpr h)

set_option maxHeartbeats 2000000 in
theorem listA9 (c : Dev nD) (t : Fin cfg0.N) (hc : v2w (grid0.coords t) = 1#1) : (atA m c t hc).1 = W9 m c t (zero2 m c t) := rfl

set_option maxHeartbeats 2000000 in
theorem listB9 (c : Dev nD) (t : Fin cfg0.N) (hc : ¬ v2w (grid0.coords t) = 1#1) (e : Vec Ideal S2x1024 .f32) :
    (atB m c t hc e).1 = W9 m c t e := rfl

theorem left9_apply (c : Dev nD) (t : Fin cfg0.N) (G : S512x1024.Idx → Elt Ideal .bf16)
    (h : ∀ e, Starts m c t e → View.PiecesOf G (W9 m c t e)) (y : S512x1024.Idx) : (left m c t).1 y = G y := by
  by_cases hc : v2w (grid0.coords t) = 1#1
  · rw [show left m c t = _ from dif_pos hc]
    dsimp only
    exact read_pieces PrmI.see9 PrmI.see9.junk (atA m c t hc).1 G (Eq.mpr (congrArg (View.PiecesOf G) (listA9 m c t hc)) (h _ (starts_zero m c t ((first t).mp hc)))) y (PrmI.coverA9 m c t hc y)
  · rw [show left m c t = _ from dif_neg hc]
    dsimp only
    exact read_pieces PrmI.see9 PrmI.see9.junk (atB m c t hc (carry m c t.val)).1 G (Eq.mpr (congrArg (View.PiecesOf G) (listB9 m c t hc (carry m c t.val))) (h _ (starts_inside m c t hc))) y (PrmI.coverB9 m c t hc (carry m c t.val) y)

set_option maxHeartbeats 2000000 in
theorem listA10 (c : Dev nD) (t : Fin cfg0.N) (hc : v2w (grid0.coords t) = 1#1) : (atA m c t hc).2.1 = W10 m c t := rfl

set_option maxHeartbeats 2000000 in
theorem listB10 (c : Dev nD) (t : Fin cfg0.N) (hc : ¬ v2w (grid0.coords t) = 1#1) (e : Vec Ideal S2x1024 .f32) :
    (atB m c t hc e).2.1 = W10 m c t := rfl

theorem left10_apply (c : Dev nD) (t : Fin cfg0.N) (G : S512x1024.Idx → Elt Ideal .bf16)
    (h : View.PiecesOf G (W10 m c t)) (y : S512x1024.Idx) : (left m c t).2.1 y = G y := by
  by_cases hc : v2w (grid0.coords t) = 1#1
  · rw [show left m c t = _ from dif_pos hc]
    dsimp only
    exact read_pieces PrmI.see10 PrmI.see10.junk (atA m c t hc).2.1 G (Eq.mpr (congrArg (View.PiecesOf G) (listA10 m c t hc)) h) y (PrmI.coverA10 m c t hc y)
  · rw [show left m c t = _ from dif_neg hc]
    dsimp only
    exact read_pieces PrmI.see10 PrmI.see10.junk (atB m c t hc (carry m c t.val)).2.1 G (Eq.mpr (congrArg (View.PiecesOf G) (listB10 m c t hc (carry m c t.val))) h) y (PrmI.coverB10 m c t hc (carry m c t.val) y)

set_option maxHeartbeats 2000000 in
theorem listA11 (c : Dev nD) (t : Fin cfg0.N) (hc : v2w (grid0.coords t) = 1#1) : (atA m c t hc).2.2.1 = W11 m c t := rfl

set_option maxHeartbeats 2000000 in
theorem listB11 (c : Dev nD) (t : Fin cfg0.N) (hc : ¬ v2w (grid0.coords t) = 1#1) (e : Vec Ideal S2x1024 .f32) :
    (atB m c t hc e).2.2.1 = W11 m c t := rfl

theorem left11_apply (c : Dev nD) (t : Fin cfg0.N) (G : S512x1024.Idx → Elt Ideal .bf16)
    (h : View.PiecesOf G (W11 m c t)) (y : S512x1024.Idx) : (left m c t).2.2.1 y = G y := by
  by_cases hc : v2w (grid0.coords t) = 1#1
  · rw [show left m c t = _ from dif_pos hc]
    dsimp only
    exact read_pieces PrmI.see11 PrmI.see11.junk (atA m c t hc).2.2.1 G (Eq.mpr (congrArg (View.PiecesOf G) (listA11 m c t hc)) h) y (PrmI.coverA11 m c t hc y)
  · rw [show left m c t = _ from dif_neg hc]
    dsimp only
    exact read_pieces PrmI.see11 PrmI.see11.junk (atB m c t hc (carry m c t.val)).2.2.1 G (Eq.mpr (congrArg (View.PiecesOf G) (listB11 m c t hc (carry m c t.val))) h) y (PrmI.coverB11 m c t hc (carry m c t.val) y)

set_option maxHeartbeats 2000000 in
theorem listA12 (c : Dev nD) (t : Fin cfg0.N) (hc : v2w (grid0.coords t) = 1#1) : (atA m c t hc).2.2.2.1 = W12 m c t := rfl

set_option maxHeartbeats 2000000 in
theorem listB12 (c : Dev nD) (t : Fin cfg0.N) (hc : ¬ v2w (grid0.coords t) = 1#1) (e : Vec Ideal S2x1024 .f32) :
    (atB m c t hc e).2.2.2.1 = W12 m c t := rfl

theorem left12_apply (c : Dev nD) (t : Fin cfg0.N) (G : S512x256.Idx → Elt Ideal .f32)
    (h : View.PiecesOf G (W12 m c t)) (y : S512x256.Idx) : (left m c t).2.2.2.1 y = G y := by
  by_cases hc : v2w (grid0.coords t) = 1#1
  · rw [show left m c t = _ from dif_pos hc]
    dsimp only
    exact read_pieces PrmI.see12 PrmI.see12.junk (atA m c t hc).2.2.2.1 G (Eq.mpr (congrArg (View.PiecesOf G) (listA12 m c t hc)) h) y (PrmI.coverA12 m c t hc y)
  · rw [show left m c t = _ from dif_neg hc]
    dsimp only
    exact read_pieces PrmI.see12 PrmI.see12.junk (atB m c t hc (carry m c t.val)).2.2.2.1 G (Eq.mpr (congrArg (View.PiecesOf G) (listB12 m c t hc (carry m c t.val))) h) y (PrmI.coverB12 m c t hc (carry m c t.val) y)

set_option maxHeartbeats 2000000 in
theorem listA13 (c : Dev nD) (t : Fin cfg0.N) (hc : v2w (grid0.coords t) = 1#1) : (atA m c t hc).2.2.2.2.1 = W13 m c t := rfl

set_option maxHeartbeats 2000000 in
theorem listB13 (c : Dev nD) (t : Fin cfg0.N) (hc : ¬ v2w (grid0.coords t) = 1#1) (e : Vec Ideal S2x1024 .f32) :
    (atB m c t hc e).2.2.2.2.1 = W13 m c t := rfl

theorem left13_apply (c : Dev nD) (t : Fin cfg0.N) (G : S512x256.Idx → Elt Ideal .f32)
    (h : View.PiecesOf G (W13 m c t)) (y : S512x256.Idx) : (left m c t).2.2.2.2.1 y = G y := by
  by_cases hc : v2w (grid0.coords t) = 1#1
  · rw [show left m c t = _ from dif_pos hc]
    dsimp only
    exact read_pieces PrmI.see13 PrmI.see13.junk (atA m c t hc).2.2.2.2.1 G (Eq.mpr (congrArg (View.PiecesOf G) (listA13 m c t hc)) h) y (PrmI.coverA13 m c t hc y)
  · rw [show left m c t = _ from dif_neg hc]
    dsimp only
    exact read_pieces PrmI.see13 PrmI.see13.junk (atB m c t hc (carry m c t.val)).2.2.2.2.1 G (Eq.mpr (congrArg (View.PiecesOf G) (listB13 m c t hc (carry m c t.val))) h) y (PrmI.coverB13 m c t hc (carry m c t.val) y)

set_option maxHeartbeats 2000000 in
theorem listA14 (c : Dev nD) (t : Fin cfg0.N) (hc : v2w (grid0.coords t) = 1#1) : (atA m c t hc).2.2.2.2.2.1 = W14 m c t (zero2 m c t) := rfl

set_option maxHeartbeats 2000000 in
theorem listB14 (c : Dev nD) (t : Fin cfg0.N) (hc : ¬ v2w (grid0.coords t) = 1#1) (e : Vec Ideal S2x1024 .f32) :
    (atB m c t hc e).2.2.2.2.2.1 = W14 m c t e := rfl

theorem left14_apply (c : Dev nD) (t : Fin cfg0.N) (G : S1x2x1024.Idx → Elt Ideal .f32)
    (h : ∀ e, Starts m c t e → View.PiecesOf G (W14 m c t e)) (y : S1x2x1024.Idx) : (left m c t).2.2.2.2.2 y = G y := by
  by_cases hc : v2w (grid0.coords t) = 1#1
  · rw [show left m c t = _ from dif_pos hc]
    dsimp only
    exact read_pieces PrmI.see14 PrmI.see14.junk (atA m c t hc).2.2.2.2.2.1 G (Eq.mpr (congrArg (View.PiecesOf G) (listA14 m c t hc)) (h _ (starts_zero m c t ((first t).mp hc)))) y (PrmI.coverA14 m c t hc y)
  · rw [show left m c t = _ from dif_neg hc]
    dsimp only
    exact read_pieces PrmI.see14 PrmI.see14.junk (atB m c t hc (carry m c t.val)).2.2.2.2.2.1 G (Eq.mpr (congrArg (View.PiecesOf G) (listB14 m c t hc (carry m c t.val))) (h _ (starts_inside m c t hc))) y (PrmI.coverB14 m c t hc (carry m c t.val) y)

end Cert.Proof.Prm

end
-- ==== Proof.PrmVal.lean ====
/- The prompt batch's mixer: the six result arrays after the run. -/
module

public import proofs.«01_k».proof.Proof.PrmLft
public import proofs.«01_k».proof.Proof.MixVal

@[expose] public section

set_option maxRecDepth 16384

noncomputable section

namespace Cert.Proof.Prm

open Cert.Kernel5Ideal Cert.Kernel5Ideal.Gen Idealize.ShloMosaic Idealize.ShloMosaic.TcCoe Idealize.SL.Sem
open PrmI (atA atB carry left v2w first dats)
open Mix (prj prj_congr hnm lan lan_eq)

variable (m : (ℓ : Loc nD τ sig) → Buf (Elt Ideal) ℓ)

/-- The reference's gated convolution of the arguments. -/
abbrev out9 (c : Dev nD) : FVec Ideal S32768x1024 .bf16 :=
  Cert.Reference5Ideal.Read.val_main_v82 (F := Ideal) (m ((c : Thread nD τ).loc main_arg0)) (m ((c : Thread nD τ).loc main_arg1))
    (m ((c : Thread nD τ).loc main_arg2)) (m ((c : Thread nD τ).loc main_arg3))

/-- The reference's normed queries of the arguments. -/
abbrev out10 (c : Dev nD) : FVec Ideal S32768x1024 .bf16 :=
  Cert.Reference5Ideal.Read.val_main_v84 (F := Ideal) (m ((c : Thread nD τ).loc main_arg0)) (m ((c : Thread nD τ).loc main_arg1))
    (m ((c : Thread nD τ).loc main_arg2)) (m ((c : Thread nD τ).loc main_arg4))

/-- The reference's attention gate of the arguments. -/
abbrev out11 (c : Dev nD) : FVec Ideal S32768x1024 .bf16 :=
  Cert.Reference5Ideal.Read.val_main_v92 (F := Ideal) (m ((c : Thread nD τ).loc main_arg0)) (m ((c : Thread nD τ).loc main_arg1))
    (m ((c : Thread nD τ).loc main_arg2))

/-- The reference's normed keys of the arguments. -/
abbrev out12 (c : Dev nD) : FVec Ideal S32768x256 .f32 :=
  Cert.Reference5Ideal.Read.val_main_v93 (F := Ideal) (m ((c : Thread nD τ).loc main_arg0)) (m ((c : Thread nD τ).loc main_arg1))
    (m ((c : Thread nD τ).loc main_arg2)) (m ((c : Thread nD τ).loc main_arg5))

/-- The reference's values of the arguments. -/
abbrev out13 (c : Dev nD) : FVec Ideal S32768x256 .f32 :=
  Cert.Reference5Ideal.Read.val_main_v94 (F := Ideal) (m ((c : Thread nD τ).loc main_arg0)) (m ((c : Thread nD τ).loc main_arg1))
    (m ((c : Thread nD τ).loc main_arg2))

/-- The reference's carried rows of the arguments. -/
abbrev out14 (c : Dev nD) : FVec Ideal S4x2x1024 .f32 :=
  Cert.Reference5Ideal.Read.val_main_v95 (F := Ideal) (m ((c : Thread nD τ).loc main_arg0)) (m ((c : Thread nD τ).loc main_arg1))
    (m ((c : Thread nD τ).loc main_arg2))

theorem emb9 (t : Fin cfg0.N) (y : S512x1024.Idx) : (((cfg0.win 9).blk t).view.emb y : S32768x1024.Idx)
    = ix2 ⟨t.val * 512 + (y 0).val, by have : t.val < 64 := t.isLt; have : (y 0).val < 512 := (y 0).isLt; omega⟩ (y 1) := by
  idx_vars y
  blk_ext [idx t]

theorem emb10 (t : Fin cfg0.N) (y : S512x1024.Idx) : (((cfg0.win 10).blk t).view.emb y : S32768x1024.Idx)
    = ix2 ⟨t.val * 512 + (y 0).val, by have : t.val < 64 := t.isLt; have : (y 0).val < 512 := (y 0).isLt; omega⟩ (y 1) := by
  idx_vars y
  blk_ext [idx t]

theorem emb11 (t : Fin cfg0.N) (y : S512x1024.Idx) : (((cfg0.win 11).blk t).view.emb y : S32768x1024.Idx)
    = ix2 ⟨t.val * 512 + (y 0).val, by have : t.val < 64 := t.isLt; have : (y 0).val < 512 := (y 0).isLt; omega⟩ (y 1) := by
  idx_vars y
  blk_ext [idx t]

theorem emb12 (t : Fin cfg0.N) (y : S512x256.Idx) : (((cfg0.win 12).blk t).view.emb y : S32768x256.Idx)
    = ix2 ⟨t.val * 512 + (y 0).val, by have : t.val < 64 := t.isLt; have : (y 0).val < 512 := (y 0).isLt; omega⟩ (y 1) := by
  idx_vars y
  blk_ext [idx t]

theorem emb13 (t : Fin cfg0.N) (y : S512x256.Idx) : (((cfg0.win 13).blk t).view.emb y : S32768x256.Idx)
    = ix2 ⟨t.val * 512 + (y 0).val, by have : t.val < 64 := t.isLt; have : (y 0).val < 512 := (y 0).isLt; omega⟩ (y 1) := by
  idx_vars y
  blk_ext [idx t]

theorem row_eq' (t : Fin cfg0.N) (n : ℕ) (h : n < 512) (hb : t.val * 512 + n < 32768) :
    (⟨t.val * 512 + n, hb⟩ : Fin 32768).val = (sq t).val * 8192 + (ps t ⟨n, h⟩).val := row_eq t ⟨n, h⟩

theorem qkv_apply (c : Dev nD) (t : Fin cfg0.N) (q : Fin 512) (j : Fin 1536) (n : Fin 6656) (hn : n.val = 3072 + j.val) :
    qkv m c t (ix2 q j) = entA m c (sq t) (ps t q) n := by
  refine (pay7_apply _ _ _ q j).trans (prj_congr (fun k => ?_) (fun k => ?_) fun k => ?_)
  · exact l0_apply m c t q k _ _ (row_eq t q)
  · exact l2_apply m c t k
  · exact l4_apply m c t 0 1536 (by omega) k j n (by rw [if_pos (by omega)]; omega)

/-- One piece of the gated convolution. -/
theorem piece9 (c : Dev nD) (t : Fin cfg0.N) (e : Vec Ideal S2x1024 .f32) (he : Starts m c t e) (cb : Fin 4) (x : S512x256.Idx) :
    gat m c t e cb x = out9 m c (((cfg0.win 9).blk t).view.emb ((out cb).emb x)) := by
  rw [emb9]
  idx_vars x
  have hx0 : x0.val < 512 := x0.isLt
  have hx1 : x1.val < 256 := x1.isLt
  have e0 : ((out cb).emb (ix2 x0 x1) 0).val = x0.val := by show 0 + 1 * x0.val = x0.val; omega
  have e1 : (out cb).emb (ix2 x0 x1) 1 = (⟨cb.val * 256 + x1.val, by omega⟩ : Fin 1024) :=
    Fin.ext (by show cb.val * 256 + 1 * x1.val = cb.val * 256 + x1.val; omega)
  rw [e1]
  refine Eq.trans ?_ (out9_apply _ _ _ _ (sq t) (ps t x0) _ (by show t.val * 512 + ((out cb).emb (ix2 x0 x1) 0).val = _; rw [e0]; exact row_eq t x0) _).symm
  refine (gated (tup m c t) (slb m c t) e he (seg_input m c t) cb _ _ _ x0 x1).trans ?_
  rw [slb_apply m c t cb ⟨3, by omega⟩ x0 x1 _ ⟨4608 + (cb.val * 256 + x1.val), by omega⟩ rfl (Nat.add_assoc _ _ _).symm,
    slb_apply m c t cb ⟨1, by omega⟩ x0 x1 _ ⟨1024 + (cb.val * 256 + x1.val), by omega⟩ (by show 256 + x1.val = 1 * 256 + x1.val; omega)
      (by show 1024 + (cb.val * 256 + x1.val) = 1 * 1024 + cb.val * 256 + x1.val; omega),
    l5_apply, l5_apply, l5_apply]
  unfold ycg tup upsA
  have p1 : (⟨t.val % 16 * 512 + (1 + x0.val), by omega⟩ : Fin 8194) = ⟨1 + (ps t x0).val, by omega⟩ :=
    Fin.ext (by show t.val % 16 * 512 + (1 + x0.val) = 1 + (t.val % 16 * 512 + x0.val); omega)
  have p2 : (⟨t.val % 16 * 512 + (2 + x0.val), by omega⟩ : Fin 8194) = ⟨2 + (ps t x0).val, by omega⟩ :=
    Fin.ext (by show t.val % 16 * 512 + (2 + x0.val) = 2 + (t.val % 16 * 512 + x0.val); omega)
  rw [p1, p2]
  rfl

theorem final9 (c : Dev nD) : (dats m 0 c).arrAt 9 cfg0.N = out9 m c := by
  refine (dats m 0 c).arrAt_eq_of_covers 9 _ (by decide +kernel) fun t _ y => ?_
  blk_simp
  rw [PrmI.after9]
  exact left9_apply m c t (fun y => out9 m c (((cfg0.win 9).blk t).view.emb y))
    (fun e he => ⟨piece9 m c t e he 3, piece9 m c t e he 2, piece9 m c t e he 1, piece9 m c t e he 0, trivial⟩) y

/-- One piece of the queries. -/
theorem piece10 (c : Dev nD) (t : Fin cfg0.N) (i : Fin 4) (pay : FVec Ideal S512x256 .bf16)
    (hp : ∀ (q : Fin 512) (l : Fin 256), pay (ix2 q l) = lan (fun k => qkv m c t (ix2 q ⟨i.val * 256 + k.val, by omega⟩))
      (fun k => l6 m c t (ix2 k l)) (l7 m c t i (ix2 0 l)) l) (x : S512x256.Idx) :
    pay x = out10 m c (((cfg0.win 10).blk t).view.emb ((out i).emb x)) := by
  rw [emb10]
  idx_vars x
  have hx0 : x0.val < 512 := x0.isLt
  have hx1 : x1.val < 256 := x1.isLt
  have e0 : ((out i).emb (ix2 x0 x1) 0).val = x0.val := by show 0 + 1 * x0.val = x0.val; omega
  have e1 : (out i).emb (ix2 x0 x1) 1 = (⟨i.val * 256 + x1.val, by omega⟩ : Fin 1024) :=
    Fin.ext (by show i.val * 256 + 1 * x1.val = i.val * 256 + x1.val; omega)
  rw [e1]
  refine Eq.trans ?_ (out10_apply _ _ _ _ (sq t) (ps t x0) _ (by show t.val * 512 + ((out i).emb (ix2 x0 x1) 0).val = _; rw [e0]; exact row_eq t x0)
    ⟨i.val * 4 + x1.val / 64, by omega⟩ ⟨x1.val % 64, by omega⟩ _
    (by show i.val * 256 + x1.val = (i.val * 4 + x1.val / 64) * 64 + x1.val % 64; omega)).symm
  refine (hp x0 x1).trans (lan_eq _ _ _ x1 ⟨x1.val / 64, by omega⟩ _ (by show x1.val = x1.val / 64 * 64 + x1.val % 64; omega) _ _
    (fun k => l6_apply m c t k x1) (fun k e hk => ?_) ?_)
  · have hk' : k.val = x1.val / 64 * 64 + e.val := hk
    exact qkv_apply m c t x0 _ _ (by show 3072 + ((i.val * 4 + x1.val / 64) * 64 + e.val) = 3072 + (i.val * 256 + k.val); omega)
  · exact l7_apply m c t i x1 _ (by show x1.val % 64 = (i.val * 256 + x1.val) % 64; omega)

theorem final10 (c : Dev nD) : (dats m 0 c).arrAt 10 cfg0.N = out10 m c := by
  refine (dats m 0 c).arrAt_eq_of_covers 10 _ (by decide +kernel) fun t _ y => ?_
  blk_simp
  rw [PrmI.after10]
  exact left10_apply m c t (fun y => out10 m c (((cfg0.win 10).blk t).view.emb y))
    ⟨piece10 m c t 3 _ (fun q l => pay18_apply (qkv m c t) (l6 m c t) _ q l),
      piece10 m c t 2 _ (fun q l => pay17_apply (qkv m c t) (l6 m c t) _ q l),
      piece10 m c t 1 _ (fun q l => pay16_apply (qkv m c t) (l6 m c t) _ q l),
      piece10 m c t 0 _ (fun q l => (pay15_apply (qkv m c t) (l6 m c t) _ q l).trans
        (by simp only [Fin.val_zero, Nat.zero_mul, Nat.zero_add])), trivial⟩ y

/-- One piece of the attention gate: `n` columns from `o` on. -/
theorem piece11 (c : Dev nD) (t : Fin cfg0.N) (o n : ℕ) (hn : o + n ≤ 1024) (pay : Vec Ideal ⟨2, ![512, n]⟩ .bf16)
    (hp : ∀ (q : Fin 512) (l : Fin n), pay (ix2 q l) = Ideal.logistic (prj (fun k => l0 m c t (ix2 q k)) (fun k => l2 m c t (ix2 0 k))
      (fun k => l4 m c t (1536 + o) n (by omega) (ix2 k l)))) (x : Shape.Idx ⟨2, ![512, n]⟩) :
    pay x = out11 m c (((cfg0.win 11).blk t).view.emb ((Rect.unit (s := S512x1024) ![0, o] ![512, n] (inb_part o n hn)).emb x)) := by
  rw [emb11]
  obtain ⟨x0, x1, rfl⟩ : ∃ (x0 : Fin 512) (x1 : Fin n), x = ix2 x0 x1 := ⟨x 0, x 1, by
    funext a
    match a with
    | ⟨0, _⟩ => rfl
    | ⟨1, _⟩ => rfl⟩
  have hx0 : x0.val < 512 := x0.isLt
  have hx1 : x1.val < n := x1.isLt
  have e0 : ((Rect.unit (s := S512x1024) ![0, o] ![512, n] (inb_part o n hn)).emb (ix2 x0 x1) 0).val = x0.val := by
    show 0 + 1 * x0.val = x0.val; omega
  have e1 : (Rect.unit (s := S512x1024) ![0, o] ![512, n] (inb_part o n hn)).emb (ix2 x0 x1) 1 = (⟨o + x1.val, by omega⟩ : Fin 1024) :=
    Fin.ext (by show o + 1 * x1.val = o + x1.val; omega)
  rw [e1]
  refine Eq.trans ?_ (out11_apply _ _ _ (sq t) (ps t x0) _ (by
    show t.val * 512 + ((Rect.unit (s := S512x1024) ![0, o] ![512, n] (inb_part o n hn)).emb (ix2 x0 x1) 0).val = _
    rw [e0]; exact row_eq t x0) _).symm
  refine (hp x0 x1).trans (congrArg Ideal.logistic (prj_congr (fun k => ?_) (fun k => ?_) fun k => ?_))
  · exact l0_apply m c t x0 k _ _ (row_eq t x0)
  · exact l2_apply m c t k
  · exact l4_apply m c t (1536 + o) n (by omega) k x1 _ (by
      rw [if_neg (by omega)]; show 5632 + (o + x1.val) = 4096 + (1536 + o + x1.val); omega)

theorem final11 (c : Dev nD) : (dats m 0 c).arrAt 11 cfg0.N = out11 m c := by
  refine (dats m 0 c).arrAt_eq_of_covers 11 _ (by decide +kernel) fun t _ y => ?_
  blk_simp
  rw [PrmI.after11]
  exact left11_apply m c t (fun y => out11 m c (((cfg0.win 11).blk t).view.emb y))
    ⟨piece11 m c t 768 256 (by omega) _ (fun q l => pay4_apply (l0 m c t) (l2 m c t) _ q l),
      piece11 m c t 0 768 (by omega) _ (fun q l => pay3_apply (l0 m c t) (l2 m c t) _ q l), trivial⟩ y

/-- The whole of a tile of 256 columns. -/
abbrev all : Rect S512x256 := Rect.unit (s := S512x256) ![0, 0] S512x256.size inb_S512x256_S512x256_0_0

theorem all_emb (x : S512x256.Idx) : all.emb x = x := by
  funext a
  match a with
  | ⟨0, _⟩ => exact Fin.ext (by show 0 + 1 * (x 0).val = (x 0).val; omega)
  | ⟨1, _⟩ => exact Fin.ext (by show 0 + 1 * (x 1).val = (x 1).val; omega)

theorem piece12 (c : Dev nD) (t : Fin cfg0.N) (x : S512x256.Idx) :
    k0_pay21 (F := Ideal) (k0_pay19 (qkv m c t) (k0_pay14 (l6 m c t))) (k0_pay20 (l8 m c t)) x
      = out12 m c (((cfg0.win 12).blk t).view.emb (all.emb x)) := by
  rw [all_emb, emb12]
  idx_vars x
  have hx0 : x0.val < 512 := x0.isLt
  have hx1 : x1.val < 256 := x1.isLt
  refine Eq.trans ?_ (out12_apply _ _ _ _ (sq t) (ps t x0) _ (row_eq t x0) ⟨x1.val / 64, by omega⟩ ⟨x1.val % 64, by omega⟩ x1
    (by show x1.val = x1.val / 64 * 64 + x1.val % 64; omega)).symm
  refine (pay21_apply (qkv m c t) (l6 m c t) (l8 m c t) x0 x1).trans (lan_eq _ _ _ x1 ⟨x1.val / 64, by omega⟩ _
    (by show x1.val = x1.val / 64 * 64 + x1.val % 64; omega) _ _ (fun k => l6_apply m c t k x1) (fun k e hk => ?_) ?_)
  · have hk' : k.val = x1.val / 64 * 64 + e.val := hk
    exact qkv_apply m c t x0 _ _ (by show 4096 + (x1.val / 64 * 64 + e.val) = 3072 + (1024 + k.val); omega)
  · exact l8_apply m c t x1 _ rfl

theorem final12 (c : Dev nD) : (dats m 0 c).arrAt 12 cfg0.N = out12 m c := by
  refine (dats m 0 c).arrAt_eq_of_covers 12 _ (by decide +kernel) fun t _ y => ?_
  blk_simp
  rw [PrmI.after12]
  exact left12_apply m c t (fun y => out12 m c (((cfg0.win 12).blk t).view.emb y)) ⟨piece12 m c t, trivial⟩ y

theorem piece13 (c : Dev nD) (t : Fin cfg0.N) (x : S512x256.Idx) :
    k0_pay22 (F := Ideal) (qkv m c t) x = out13 m c (((cfg0.win 13).blk t).view.emb (all.emb x)) := by
  rw [all_emb, emb13]
  idx_vars x
  refine Eq.trans ?_ (out13_apply _ _ _ (sq t) (ps t x0) _ (row_eq t x0) x1).symm
  refine (pay22_apply (qkv m c t) x0 x1).trans ?_
  exact qkv_apply m c t x0 _ _ (by show 4352 + x1.val = 3072 + (1280 + x1.val); omega)

theorem final13 (c : Dev nD) : (dats m 0 c).arrAt 13 cfg0.N = out13 m c := by
  refine (dats m 0 c).arrAt_eq_of_covers 13 _ (by decide +kernel) fun t _ y => ?_
  blk_simp
  rw [PrmI.after13]
  exact left13_apply m c t (fun y => out13 m c (((cfg0.win 13).blk t).view.emb y)) ⟨piece13 m c t, trivial⟩ y

/-- The carried rows are written back after the last tile of a sequence. -/
theorem last : ∀ t : Fin cfg0.N, (cfg0.win 14).flush t = true → t.val % 16 = 15 := by decide +kernel

theorem piece14 (c : Dev nD) (t : Fin cfg0.N) (ht : t.val % 16 = 15) (e : Vec Ideal S2x1024 .f32) (he : Starts m c t e) (x : S1x2x1024.Idx) :
    k0_pay1 (F := Ideal) (tail m c t e) x = out14 m c (((cfg0.win 14).blk t).view.emb
      ((Rect.unit (s := S1x2x1024) ![0, 0, 0] S1x2x1024.size inb_S1x2x1024_S1x2x1024_0_0_0).emb x)) := by
  have ee : (((cfg0.win 14).blk t).view.emb
      ((Rect.unit (s := S1x2x1024) ![0, 0, 0] S1x2x1024.size inb_S1x2x1024_S1x2x1024_0_0_0).emb x) : S4x2x1024.Idx)
      = ix3 (sq t) (x 1) (x 2) := by
    idx_vars x
    blk_ext [idx t, sq]
  rw [ee]
  idx_vars x
  have hx : x0 = 0 := Fin.ext (by have : x0.val < 1 := x0.isLt; show x0.val = 0; omega)
  subst hx
  refine (pay1_apply _ x1 x2).trans ((tail_apply m c t e he x1 x2).trans (Eq.trans ?_ (out14_apply _ _ _ (sq t) (ps t ⟨0, by omega⟩) ⟨0, by omega⟩ x1 x2).symm))
  unfold tup upsA
  refine congrArg (fun p => ups _ _ _ (sq t) p x2) (Fin.ext ?_)
  show t.val % 16 * 512 + (512 + x1.val) = 8192 + x1.val
  omega

end Cert.Proof.Prm

end
-- ==== Proof.PrmFin14.lean ====
/- The prompt batch's mixer: the carried rows after the run. -/
module

public import proofs.«01_k».proof.Proof.PrmVal

@[expose] public section

set_option maxRecDepth 16384

noncomputable section

namespace Cert.Proof.Prm

open Cert.Kernel5Ideal Cert.Kernel5Ideal.Gen Idealize.ShloMosaic Idealize.ShloMosaic.TcCoe Idealize.SL.Sem
open PrmI (atA atB carry left v2w first dats)
open Mix (prj prj_congr hnm lan)

variable (m : (ℓ : Loc nD τ sig) → Buf (Elt Ideal) ℓ)

set_option maxHeartbeats 4000000 in
/-- After the run the carried rows' array is the reference's. -/
theorem final14 (c : Dev nD) : (dats m 0 c).arrAt 14 cfg0.N = out14 m c := by
  refine (dats m 0 c).arrAt_eq_of_covers 14 _ (by decide +kernel) fun t hf y => ?_
  blk_simp
  rw [PrmI.after14]
  exact left14_apply m c t (fun y => out14 m c (((cfg0.win 14).blk t).view.emb y))
    (fun e he => ⟨piece14 m c t (last t hf) e he, trivial⟩) y

end Cert.Proof.Prm

end
-- ==== Proof.PrmClaims.lean ====
/- The five claims of the prompt batch's mixer input. -/
module

public import proofs.«01_k».proof.Defs
public import proofs.«01_k».proof.Proof.PrmFrmP
public import proofs.«01_k».proof.Proof.PrmVal
public import proofs.«01_k».proof.Proof.PrmFin14
public import proofs.«01_k».proof.Proof.Gen.Reference5Ideal.Run
public import Idealize.ShloMosaic.Lib.Quiescent

@[expose] public section

set_option maxRecDepth 16384

noncomputable section

namespace Cert.Proof.Prm

open Idealize.ShloMosaic Idealize.ShloMosaic.TcCoe Idealize.SL.Sem

/-- The kernel's frame at its float formats and at the extended reals. -/
theorem frame_k : Cert.quiescent_Kernel5 := fun m ρ _ => PrmP.frame m ρ
theorem frame_ki : Cert.quiescent_Kernel5Ideal := fun m ρ _ => PrmI.frame m ρ

/-- The reference's frame: its run read at the arguments; it declares no semaphore. -/
theorem frame_ri : Cert.quiescent_Reference5Ideal := fun m ρ _ =>
  (θ_run Cert.Reference5Ideal.defs _ _).mono
    (fun r h => ⟨fun c => (h c).2.2.2.2.2.2, sem_eq_zero_of_no_sems (by decide) r.2⟩)
    (Cert.Reference5Ideal.Value.run (F := Ideal) m ρ)

/-- The idealized kernel is the kernel's own text. -/
theorem preserves : Cert.preserves_Kernel5_Kernel5Ideal := trivial

section Run

open Cert.Kernel5Ideal Cert.Kernel5Ideal.Gen

set_option maxHeartbeats 4000000 in
/-- The kernel's run: its six results are the reference's of the arguments, and the arguments are unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v53_0) = out9 m c
      ∧ r.2.mem ((c.tc : Thread nD τ).loc main_v53_1) = out10 m c
      ∧ r.2.mem ((c.tc : Thread nD τ).loc main_v53_2) = out11 m c
      ∧ r.2.mem ((c.tc : Thread nD τ).loc main_v53_3) = out12 m c
      ∧ r.2.mem ((c.tc : Thread nD τ).loc main_v53_4) = out13 m c
      ∧ r.2.mem ((c.tc : Thread nD τ).loc main_v53_5) = out14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun _ h c => ?_) (θ_run_and (PrmI.run_all m ρ) (PrmI.frame m ρ))
  exact ⟨((h.1 c).1 9).trans (final9 m c), ((h.1 c).1 10).trans (final10 m c), ((h.1 c).1 11).trans (final11 m c),
    ((h.1 c).1 12).trans (final12 m c), ((h.1 c).1 13).trans (final13 m c), ((h.1 c).1 14).trans (final14 m c), h.2.1 c⟩

end Run

/-- From equal arguments the kernel's six results and the reference's are equal at the extended reals. -/
theorem algebraic : Cert.algebraic_Kernel5Ideal_Reference5Ideal := by
  intro m ρ m' ρ' _ hag
  refine ⟨fun c => out9 m c, fun c => out10 m c, fun c => out11 m c, fun c => out12 m c, fun c => out13 m c, fun c => out14 m c,
    run_values m ρ, ?_⟩
  refine (θ_run Cert.Reference5Ideal.defs _ _).mono (fun _ h c => ?_) (Cert.Reference5Ideal.Value.run (F := Ideal) m' ρ')
  obtain ⟨e9, e10, e11, e12, e13, e14, ha⟩ := h c
  obtain ⟨h0, h1, h2, h3, h4, h5⟩ := hag c
  refine ⟨e9.trans ?_, e10.trans ((Cert.Reference5Ideal.Read.val_main_v84_eq _ _ _ _).trans ?_),
    e11.trans ((Cert.Reference5Ideal.Read.val_main_v92_eq _ _ _).trans ?_),
    e12.trans ((Cert.Reference5Ideal.Read.val_main_v93_eq _ _ _ _).trans ?_),
    e13.trans ((Cert.Reference5Ideal.Read.val_main_v94_eq _ _ _).trans ?_),
    e14.trans ((Cert.Reference5Ideal.Read.val_main_v95_eq _ _ _).trans ?_), ha⟩
  · rw [Cert.Reference5Ideal.Read.val_main_v82_eq, h0, h1, h2, h3]
  · rw [h0, h1, h2, h4]
  · rw [h0, h1, h2]
  · rw [h0, h1, h2, h5]
  · rw [h0, h1, h2]
  · rw [h0, h1, h2]

end Cert.Proof.Prm

end
-- ==== Proof.lean ====
module

public import proofs.«01_k».proof.Defs
public import proofs.«01_k».proof.Proof.AttClaims
public import proofs.«01_k».proof.Proof.FfnClaims
public import proofs.«01_k».proof.Proof.FfsClaims
public import proofs.«01_k».proof.Proof.MixClaims
public import proofs.«01_k».proof.Proof.PrmClaims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Proof

open Idealize.ShloMosaic Idealize.SL.Sem

/-- The side conditions of the precondition's operations. -/
instance preFacts : Cert.Pre_finite_scores.Facts := ⟨by decide, by decide, by decide, by decide⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    preFacts, Att.frame_k, Att.frame_ki, Att.frame_ki_pre, Att.frame_ri, Att.frame_ri_pre, Ffn.frame_k, Ffn.frame_ki, Ffn.frame_ri,
    Ffs.frame_k, Ffs.frame_ki, Ffs.frame_ri, Mix.frame_k, Mix.frame_ki, Mix.frame_ri, Prm.frame_k, Prm.frame_ki, Prm.frame_ri,
    Att.preserves, Att.algebraic, Ffn.preserves, Ffn.algebraic, Ffs.preserves, Ffs.algebraic, Mix.preserves, Mix.algebraic,
    Prm.preserves, Prm.algebraic⟩

end Cert.Proof

end
